-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Dc (m : (ℓ : Loc Cert.Dc.nD Cert.Dc.τ Cert.Dc.sig) → Buf (Elt Bits) ℓ) : Prop :=
  True

def Pre_DcIdeal (m : (ℓ : Loc Cert.DcIdeal.nD Cert.DcIdeal.τ Cert.DcIdeal.sig) → Buf (Elt Ideal) ℓ) : Prop :=
  True

def Pre_DcIdeal_finite_dc [hPre_finite_dc : Cert.Pre_finite_dc.Facts] (m : (ℓ : Loc Cert.DcIdeal.nD Cert.DcIdeal.τ Cert.DcIdeal.sig) → Buf (Elt Ideal) ℓ) : Prop :=
  ∀ c : Dev Cert.DcIdeal.nD,
    (Cert.Pre_finite_dc.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)) (m ((c.tc : Thread Cert.DcIdeal.nD Cert.DcIdeal.τ).loc Cert.DcIdeal.main_arg5))).1 = (fun _ => 1#1)
    ∧ (Cert.Pre_finite_dc.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)) (m ((c.tc : Thread Cert.DcIdeal.nD Cert.DcIdeal.τ).loc Cert.DcIdeal.main_arg5))).2.1 = (fun _ => 1#1)
    ∧ (Cert.Pre_finite_dc.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)) (m ((c.tc : Thread Cert.DcIdeal.nD Cert.DcIdeal.τ).loc Cert.DcIdeal.main_arg5))).2.2.1 = (fun _ => 1#1)
    ∧ (Cert.Pre_finite_dc.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)) (m ((c.tc : Thread Cert.DcIdeal.nD Cert.DcIdeal.τ).loc Cert.DcIdeal.main_arg5))).2.2.2.1 = (fun _ => 1#1)
    ∧ (Cert.Pre_finite_dc.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)) (m ((c.tc : Thread Cert.DcIdeal.nD Cert.DcIdeal.τ).loc Cert.DcIdeal.main_arg5))).2.2.2.2.1 = (fun _ => 1#1)
    ∧ (Cert.Pre_finite_dc.fn (F := Ideal) (m ((c.tc : Thread Cert.DcIdeal.nD Cert.DcIdeal.τ).loc Cert.DcIdeal.main_arg0)) (m ((c.tc : Thread Cert.DcIdeal.nD Cert.DcIdeal.τ).loc Cert.DcIdeal.main_arg1)) (m ((c.tc : Thread Cert.DcIdeal.nD Cert.DcIdeal.τ).loc Cert.DcIdeal.main_arg2)) (m ((c.tc : Thread Cert.DcIdeal.nD Cert.DcIdeal.τ).loc Cert.DcIdeal.main_arg3)) (m ((c.tc : Thread Cert.DcIdeal.nD Cert.DcIdeal.τ).loc Cert.DcIdeal.main_arg4)) (m ((c.tc : Thread Cert.DcIdeal.nD Cert.DcIdeal.τ).loc Cert.DcIdeal.main_arg5))).2.2.2.2.2 = (fun _ => 1#1)

def Pre_DcRefIdeal (m : (ℓ : Loc Cert.DcRefIdeal.nD Cert.DcRefIdeal.τ Cert.DcRefIdeal.sig) → Buf (Elt Ideal) ℓ) : Prop :=
  True

def Pre_DcRefIdeal_finite_dc [hPre_finite_dc : Cert.Pre_finite_dc.Facts] (m : (ℓ : Loc Cert.DcRefIdeal.nD Cert.DcRefIdeal.τ Cert.DcRefIdeal.sig) → Buf (Elt Ideal) ℓ) : Prop :=
  ∀ c : Dev Cert.DcRefIdeal.nD,
    (Cert.Pre_finite_dc.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4)) (m ((c.tc : Thread Cert.DcRefIdeal.nD Cert.DcRefIdeal.τ).loc Cert.DcRefIdeal.main_arg5))).1 = (fun _ => 1#1)
    ∧ (Cert.Pre_finite_dc.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4)) (m ((c.tc : Thread Cert.DcRefIdeal.nD Cert.DcRefIdeal.τ).loc Cert.DcRefIdeal.main_arg5))).2.1 = (fun _ => 1#1)
    ∧ (Cert.Pre_finite_dc.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4)) (m ((c.tc : Thread Cert.DcRefIdeal.nD Cert.DcRefIdeal.τ).loc Cert.DcRefIdeal.main_arg5))).2.2.1 = (fun _ => 1#1)
    ∧ (Cert.Pre_finite_dc.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4)) (m ((c.tc : Thread Cert.DcRefIdeal.nD Cert.DcRefIdeal.τ).loc Cert.DcRefIdeal.main_arg5))).2.2.2.1 = (fun _ => 1#1)
    ∧ (Cert.Pre_finite_dc.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4)) (m ((c.tc : Thread Cert.DcRefIdeal.nD Cert.DcRefIdeal.τ).loc Cert.DcRefIdeal.main_arg5))).2.2.2.2.1 = (fun _ => 1#1)
    ∧ (Cert.Pre_finite_dc.fn (F := Ideal) (m ((c.tc : Thread Cert.DcRefIdeal.nD Cert.DcRefIdeal.τ).loc Cert.DcRefIdeal.main_arg0)) (m ((c.tc : Thread Cert.DcRefIdeal.nD Cert.DcRefIdeal.τ).loc Cert.DcRefIdeal.main_arg1)) (m ((c.tc : Thread Cert.DcRefIdeal.nD Cert.DcRefIdeal.τ).loc Cert.DcRefIdeal.main_arg2)) (m ((c.tc : Thread Cert.DcRefIdeal.nD Cert.DcRefIdeal.τ).loc Cert.DcRefIdeal.main_arg3)) (m ((c.tc : Thread Cert.DcRefIdeal.nD Cert.DcRefIdeal.τ).loc Cert.DcRefIdeal.main_arg4)) (m ((c.tc : Thread Cert.DcRefIdeal.nD Cert.DcRefIdeal.τ).loc Cert.DcRefIdeal.main_arg5))).2.2.2.2.2 = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_Fan (m : (ℓ : Loc Cert.Fan.nD Cert.Fan.τ Cert.Fan.sig) → Buf (Elt Bits) ℓ) : Prop :=
  True

def Pre_FanIdeal (m : (ℓ : Loc Cert.FanIdeal.nD Cert.FanIdeal.τ Cert.FanIdeal.sig) → Buf (Elt Ideal) ℓ) : Prop :=
  True

def Pre_FanRefIdeal (m : (ℓ : Loc Cert.FanRefIdeal.nD Cert.FanRefIdeal.τ Cert.FanRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite_gla [hPre_finite_gla : Cert.Pre_finite_gla.Facts] (m : (ℓ : Loc Cert.GlaIdeal.nD Cert.GlaIdeal.τ Cert.GlaIdeal.sig) → Buf (Elt Ideal) ℓ) : Prop :=
  ∀ c : Dev Cert.GlaIdeal.nD,
    (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).1 = (fun _ => 1#1)
    ∧ (Cert.Pre_finite_gla.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).2 = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_finite_gla [hPre_finite_gla : Cert.Pre_finite_gla.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6)) (m ((c.tc : Thread Cert.GlaRefIdeal.nD Cert.GlaRefIdeal.τ).loc Cert.GlaRefIdeal.main_arg7))).1 = (fun _ => 1#1)
    ∧ (Cert.Pre_finite_gla.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6)) (m ((c.tc : Thread Cert.GlaRefIdeal.nD Cert.GlaRefIdeal.τ).loc Cert.GlaRefIdeal.main_arg7))).2 = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Dc [hDc : Cert.Dc.Facts] : Prop :=
  ∀ (m : (ℓ : Loc Cert.Dc.nD Cert.Dc.τ Cert.Dc.sig) → Buf (Elt Bits) ℓ) (g : Dev Cert.Dc.nD → PrngReg), Pre_Dc m →
    θ_run (Cert.Dc.defs (F := Bits)) (onTc (τ := Cert.Dc.τ) (Cert.Dc.main (F := Bits))) ⟨m, fun _ => 0, g⟩ (fun r => (∀ c : Dev Cert.Dc.nD,
      r.2.mem ((c.tc : Thread Cert.Dc.nD Cert.Dc.τ).loc Cert.Dc.main_arg0) = m ((c.tc : Thread Cert.Dc.nD Cert.Dc.τ).loc Cert.Dc.main_arg0)
      ∧ r.2.mem ((c.tc : Thread Cert.Dc.nD Cert.Dc.τ).loc Cert.Dc.main_arg1) = m ((c.tc : Thread Cert.Dc.nD Cert.Dc.τ).loc Cert.Dc.main_arg1)
      ∧ r.2.mem ((c.tc : Thread Cert.Dc.nD Cert.Dc.τ).loc Cert.Dc.main_arg2) = m ((c.tc : Thread Cert.Dc.nD Cert.Dc.τ).loc Cert.Dc.main_arg2)
      ∧ r.2.mem ((c.tc : Thread Cert.Dc.nD Cert.Dc.τ).loc Cert.Dc.main_arg3) = m ((c.tc : Thread Cert.Dc.nD Cert.Dc.τ).loc Cert.Dc.main_arg3)
      ∧ r.2.mem ((c.tc : Thread Cert.Dc.nD Cert.Dc.τ).loc Cert.Dc.main_arg4) = m ((c.tc : Thread Cert.Dc.nD Cert.Dc.τ).loc Cert.Dc.main_arg4)
      ∧ r.2.mem ((c.tc : Thread Cert.Dc.nD Cert.Dc.τ).loc Cert.Dc.main_arg5) = m ((c.tc : Thread Cert.Dc.nD Cert.Dc.τ).loc Cert.Dc.main_arg5))
      ∧ r.2.sem = fun _ => 0)

def quiescent_DcIdeal [hDcIdeal : Cert.DcIdeal.Facts] : Prop :=
  ∀ (m : (ℓ : Loc Cert.DcIdeal.nD Cert.DcIdeal.τ Cert.DcIdeal.sig) → Buf (Elt Ideal) ℓ) (g : Dev Cert.DcIdeal.nD → PrngReg), Pre_DcIdeal m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
      ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
      ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
      ∧ r.2.mem ((c.tc : Thread Cert.DcIdeal.nD Cert.DcIdeal.τ).loc Cert.DcIdeal.main_arg4) = m ((c.tc : Thread Cert.DcIdeal.nD Cert.DcIdeal.τ).loc Cert.DcIdeal.main_arg4)
      ∧ r.2.mem ((c.tc : Thread Cert.DcIdeal.nD Cert.DcIdeal.τ).loc Cert.DcIdeal.main_arg5) = m ((c.tc : Thread Cert.DcIdeal.nD Cert.DcIdeal.τ).loc Cert.DcIdeal.main_arg5))
      ∧ r.2.sem = fun _ => 0)

def quiescent_DcIdeal_pre_finite_dc [hDcIdeal : Cert.DcIdeal.Facts] [hPre_finite_dc : Cert.Pre_finite_dc.Facts] : Prop :=
  ∀ (m : (ℓ : Loc Cert.DcIdeal.nD Cert.DcIdeal.τ Cert.DcIdeal.sig) → Buf (Elt Ideal) ℓ) (g : Dev Cert.DcIdeal.nD → PrngReg), Pre_DcIdeal_finite_dc m →
    θ_run (Cert.DcIdeal.defs (F := Ideal)) (onTc (τ := Cert.DcIdeal.τ) (Cert.DcIdeal.main (F := Ideal))) ⟨m, fun _ => 0, g⟩ (fun r => (∀ c : Dev Cert.DcIdeal.nD,
      r.2.mem ((c.tc : Thread Cert.DcIdeal.nD Cert.DcIdeal.τ).loc Cert.DcIdeal.main_arg0) = m ((c.tc : Thread Cert.DcIdeal.nD Cert.DcIdeal.τ).loc Cert.DcIdeal.main_arg0)
      ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
      ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
      ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
      ∧ r.2.mem ((c.tc : Thread Cert.DcIdeal.nD Cert.DcIdeal.τ).loc Cert.DcIdeal.main_arg4) = m ((c.tc : Thread Cert.DcIdeal.nD Cert.DcIdeal.τ).loc Cert.DcIdeal.main_arg4)
      ∧ r.2.mem ((c.tc : Thread Cert.DcIdeal.nD Cert.DcIdeal.τ).loc Cert.DcIdeal.main_arg5) = m ((c.tc : Thread Cert.DcIdeal.nD Cert.DcIdeal.τ).loc Cert.DcIdeal.main_arg5))
      ∧ r.2.sem = fun _ => 0)

def quiescent_DcRefIdeal [hDcRefIdeal : Cert.DcRefIdeal.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1)
      ∧ r.2.mem ((c.tc : Thread Cert.DcRefIdeal.nD Cert.DcRefIdeal.τ).loc Cert.DcRefIdeal.main_arg2) = m ((c.tc : Thread Cert.DcRefIdeal.nD Cert.DcRefIdeal.τ).loc Cert.DcRefIdeal.main_arg2)
      ∧ r.2.mem ((c.tc : Thread Cert.DcRefIdeal.nD Cert.DcRefIdeal.τ).loc Cert.DcRefIdeal.main_arg3) = m ((c.tc : Thread Cert.DcRefIdeal.nD Cert.DcRefIdeal.τ).loc Cert.DcRefIdeal.main_arg3)
      ∧ r.2.mem ((c.tc : Thread Cert.DcRefIdeal.nD Cert.DcRefIdeal.τ).loc Cert.DcRefIdeal.main_arg4) = m ((c.tc : Thread Cert.DcRefIdeal.nD Cert.DcRefIdeal.τ).loc Cert.DcRefIdeal.main_arg4)
      ∧ r.2.mem ((c.tc : Thread Cert.DcRefIdeal.nD Cert.DcRefIdeal.τ).loc Cert.DcRefIdeal.main_arg5) = m ((c.tc : Thread Cert.DcRefIdeal.nD Cert.DcRefIdeal.τ).loc Cert.DcRefIdeal.main_arg5))
      ∧ r.2.sem = fun _ => 0)

def quiescent_DcRefIdeal_pre_finite_dc [hDcRefIdeal : Cert.DcRefIdeal.Facts] [hPre_finite_dc : Cert.Pre_finite_dc.Facts] : Prop :=
  ∀ (m : (ℓ : Loc Cert.DcRefIdeal.nD Cert.DcRefIdeal.τ Cert.DcRefIdeal.sig) → Buf (Elt Ideal) ℓ) (g : Dev Cert.DcRefIdeal.nD → PrngReg), Pre_DcRefIdeal_finite_dc m →
    θ_run (Cert.DcRefIdeal.defs (F := Ideal)) (onTc (τ := Cert.DcRefIdeal.τ) (Cert.DcRefIdeal.main (F := Ideal))) ⟨m, fun _ => 0, g⟩ (fun r => (∀ c : Dev Cert.DcRefIdeal.nD,
      r.2.mem ((c.tc : Thread Cert.DcRefIdeal.nD Cert.DcRefIdeal.τ).loc Cert.DcRefIdeal.main_arg0) = m ((c.tc : Thread Cert.DcRefIdeal.nD Cert.DcRefIdeal.τ).loc Cert.DcRefIdeal.main_arg0)
      ∧ r.2.mem ((c.tc : Thread Cert.DcRefIdeal.nD Cert.DcRefIdeal.τ).loc Cert.DcRefIdeal.main_arg1) = m ((c.tc : Thread Cert.DcRefIdeal.nD Cert.DcRefIdeal.τ).loc Cert.DcRefIdeal.main_arg1)
      ∧ r.2.mem ((c.tc : Thread Cert.DcRefIdeal.nD Cert.DcRefIdeal.τ).loc Cert.DcRefIdeal.main_arg2) = m ((c.tc : Thread Cert.DcRefIdeal.nD Cert.DcRefIdeal.τ).loc Cert.DcRefIdeal.main_arg2)
      ∧ r.2.mem ((c.tc : Thread Cert.DcRefIdeal.nD Cert.DcRefIdeal.τ).loc Cert.DcRefIdeal.main_arg3) = m ((c.tc : Thread Cert.DcRefIdeal.nD Cert.DcRefIdeal.τ).loc Cert.DcRefIdeal.main_arg3)
      ∧ r.2.mem ((c.tc : Thread Cert.DcRefIdeal.nD Cert.DcRefIdeal.τ).loc Cert.DcRefIdeal.main_arg4) = m ((c.tc : Thread Cert.DcRefIdeal.nD Cert.DcRefIdeal.τ).loc Cert.DcRefIdeal.main_arg4)
      ∧ r.2.mem ((c.tc : Thread Cert.DcRefIdeal.nD Cert.DcRefIdeal.τ).loc Cert.DcRefIdeal.main_arg5) = m ((c.tc : Thread Cert.DcRefIdeal.nD Cert.DcRefIdeal.τ).loc Cert.DcRefIdeal.main_arg5))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_Fan [hFan : Cert.Fan.Facts] : Prop :=
  ∀ (m : (ℓ : Loc Cert.Fan.nD Cert.Fan.τ Cert.Fan.sig) → Buf (Elt Bits) ℓ) (g : Dev Cert.Fan.nD → PrngReg), Pre_Fan m →
    θ_run (Cert.Fan.defs (F := Bits)) (onTc (τ := Cert.Fan.τ) (Cert.Fan.main (F := Bits))) ⟨m, fun _ => 0, g⟩ (fun r => (∀ c : Dev Cert.Fan.nD,
      r.2.mem ((c.tc : Thread Cert.Fan.nD Cert.Fan.τ).loc Cert.Fan.main_arg0) = m ((c.tc : Thread Cert.Fan.nD Cert.Fan.τ).loc Cert.Fan.main_arg0)
      ∧ r.2.mem ((c.tc : Thread Cert.Fan.nD Cert.Fan.τ).loc Cert.Fan.main_arg1) = m ((c.tc : Thread Cert.Fan.nD Cert.Fan.τ).loc Cert.Fan.main_arg1)
      ∧ r.2.mem ((c.tc : Thread Cert.Fan.nD Cert.Fan.τ).loc Cert.Fan.main_arg2) = m ((c.tc : Thread Cert.Fan.nD Cert.Fan.τ).loc Cert.Fan.main_arg2))
      ∧ r.2.sem = fun _ => 0)

def quiescent_FanIdeal [hFanIdeal : Cert.FanIdeal.Facts] : Prop :=
  ∀ (m : (ℓ : Loc Cert.FanIdeal.nD Cert.FanIdeal.τ Cert.FanIdeal.sig) → Buf (Elt Ideal) ℓ) (g : Dev Cert.FanIdeal.nD → PrngReg), Pre_FanIdeal m →
    θ_run (Cert.FanIdeal.defs (F := Ideal)) (onTc (τ := Cert.FanIdeal.τ) (Cert.FanIdeal.main (F := Ideal))) ⟨m, fun _ => 0, g⟩ (fun r => (∀ c : Dev Cert.FanIdeal.nD,
      r.2.mem ((c.tc : Thread Cert.FanIdeal.nD Cert.FanIdeal.τ).loc Cert.FanIdeal.main_arg0) = m ((c.tc : Thread Cert.FanIdeal.nD Cert.FanIdeal.τ).loc Cert.FanIdeal.main_arg0)
      ∧ r.2.mem ((c.tc : Thread Cert.FanIdeal.nD Cert.FanIdeal.τ).loc Cert.FanIdeal.main_arg1) = m ((c.tc : Thread Cert.FanIdeal.nD Cert.FanIdeal.τ).loc Cert.FanIdeal.main_arg1)
      ∧ r.2.mem ((c.tc : Thread Cert.FanIdeal.nD Cert.FanIdeal.τ).loc Cert.FanIdeal.main_arg2) = m ((c.tc : Thread Cert.FanIdeal.nD Cert.FanIdeal.τ).loc Cert.FanIdeal.main_arg2))
      ∧ r.2.sem = fun _ => 0)

def quiescent_FanRefIdeal [hFanRefIdeal : Cert.FanRefIdeal.Facts] : Prop :=
  ∀ (m : (ℓ : Loc Cert.FanRefIdeal.nD Cert.FanRefIdeal.τ Cert.FanRefIdeal.sig) → Buf (Elt Ideal) ℓ) (g : Dev Cert.FanRefIdeal.nD → PrngReg), Pre_FanRefIdeal m →
    θ_run (Cert.FanRefIdeal.defs (F := Ideal)) (onTc (τ := Cert.FanRefIdeal.τ) (Cert.FanRefIdeal.main (F := Ideal))) ⟨m, fun _ => 0, g⟩ (fun r => (∀ c : Dev Cert.FanRefIdeal.nD,
      r.2.mem ((c.tc : Thread Cert.FanRefIdeal.nD Cert.FanRefIdeal.τ).loc Cert.FanRefIdeal.main_arg0) = m ((c.tc : Thread Cert.FanRefIdeal.nD Cert.FanRefIdeal.τ).loc Cert.FanRefIdeal.main_arg0)
      ∧ r.2.mem ((c.tc : Thread Cert.FanRefIdeal.nD Cert.FanRefIdeal.τ).loc Cert.FanRefIdeal.main_arg1) = m ((c.tc : Thread Cert.FanRefIdeal.nD Cert.FanRefIdeal.τ).loc Cert.FanRefIdeal.main_arg1)
      ∧ r.2.mem ((c.tc : Thread Cert.FanRefIdeal.nD Cert.FanRefIdeal.τ).loc Cert.FanRefIdeal.main_arg2) = m ((c.tc : Thread Cert.FanRefIdeal.nD Cert.FanRefIdeal.τ).loc Cert.FanRefIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaIdeal_pre_finite_gla [hGlaIdeal : Cert.GlaIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite_gla m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7))
      ∧ r.2.sem = fun _ => 0)

def quiescent_GlaRefIdeal_pre_finite_gla [hGlaRefIdeal : Cert.GlaRefIdeal.Facts] [hPre_finite_gla : Cert.Pre_finite_gla.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_finite_gla m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v12) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v5_0)) (v1 : (c : Dev Cert.UpIdeal.nD) → Buf (Elt Ideal) ((c.tc : Thread Cert.UpIdeal.nD Cert.UpIdeal.τ).loc Cert.UpIdeal.main_v5_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v5_0) = v0 c
          ∧ r.2.mem ((c.tc : Thread Cert.UpIdeal.nD Cert.UpIdeal.τ).loc Cert.UpIdeal.main_v5_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v39) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v36_0)) (v1 : (c : Dev Cert.ProjIdeal.nD) → Buf (Elt Ideal) ((c.tc : Thread Cert.ProjIdeal.nD Cert.ProjIdeal.τ).loc Cert.ProjIdeal.main_v36_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v36_0) = v0 c
          ∧ r.2.mem ((c.tc : Thread Cert.ProjIdeal.nD Cert.ProjIdeal.τ).loc Cert.ProjIdeal.main_v36_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v38) = v0 c
          ∧ r.2.mem ((c.tc : Thread Cert.ProjRefIdeal.nD Cert.ProjRefIdeal.τ).loc Cert.ProjRefIdeal.main_v39) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v37) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Dc_DcIdeal : Prop :=
  True

def algebraic_DcIdeal_DcRefIdeal_pre_finite_dc [hDcIdeal : Cert.DcIdeal.Facts] [hDcRefIdeal : Cert.DcRefIdeal.Facts] [hPre_finite_dc : Cert.Pre_finite_dc.Facts] : Prop :=
  ∀ (m : (ℓ : Loc Cert.DcIdeal.nD Cert.DcIdeal.τ Cert.DcIdeal.sig) → Buf (Elt Ideal) ℓ) (g : Dev Cert.DcIdeal.nD → PrngReg)
    (m' : (ℓ : Loc Cert.DcRefIdeal.nD Cert.DcRefIdeal.τ Cert.DcRefIdeal.sig) → Buf (Elt Ideal) ℓ) (g' : Dev Cert.DcRefIdeal.nD → PrngReg), Pre_DcIdeal_finite_dc m →
    (∀ c : Dev Cert.DcIdeal.nD,
      m' ((c.tc : Thread Cert.DcRefIdeal.nD Cert.DcRefIdeal.τ).loc Cert.DcRefIdeal.main_arg0) = m ((c.tc : Thread Cert.DcIdeal.nD Cert.DcIdeal.τ).loc Cert.DcIdeal.main_arg0)
      ∧ m' ((c.tc : Thread Cert.DcRefIdeal.nD Cert.DcRefIdeal.τ).loc Cert.DcRefIdeal.main_arg1) = m ((c.tc : Thread Cert.DcIdeal.nD Cert.DcIdeal.τ).loc Cert.DcIdeal.main_arg1)
      ∧ m' ((c.tc : Thread Cert.DcRefIdeal.nD Cert.DcRefIdeal.τ).loc Cert.DcRefIdeal.main_arg2) = m ((c.tc : Thread Cert.DcIdeal.nD Cert.DcIdeal.τ).loc Cert.DcIdeal.main_arg2)
      ∧ m' ((c.tc : Thread Cert.DcRefIdeal.nD Cert.DcRefIdeal.τ).loc Cert.DcRefIdeal.main_arg3) = m ((c.tc : Thread Cert.DcIdeal.nD Cert.DcIdeal.τ).loc Cert.DcIdeal.main_arg3)
      ∧ m' ((c.tc : Thread Cert.DcRefIdeal.nD Cert.DcRefIdeal.τ).loc Cert.DcRefIdeal.main_arg4) = m ((c.tc : Thread Cert.DcIdeal.nD Cert.DcIdeal.τ).loc Cert.DcIdeal.main_arg4)
      ∧ m' ((c.tc : Thread Cert.DcRefIdeal.nD Cert.DcRefIdeal.τ).loc Cert.DcRefIdeal.main_arg5) = m ((c.tc : Thread Cert.DcIdeal.nD Cert.DcIdeal.τ).loc Cert.DcIdeal.main_arg5)) →
    ∃ (v0 : (c : Dev Cert.DcIdeal.nD) → Buf (Elt Ideal) ((c.tc : Thread Cert.DcIdeal.nD Cert.DcIdeal.τ).loc Cert.DcIdeal.main_v83_0)) (v1 : (c : Dev Cert.DcIdeal.nD) → Buf (Elt Ideal) ((c.tc : Thread Cert.DcIdeal.nD Cert.DcIdeal.τ).loc Cert.DcIdeal.main_v83_1)) (v2 : (c : Dev Cert.DcIdeal.nD) → Buf (Elt Ideal) ((c.tc : Thread Cert.DcIdeal.nD Cert.DcIdeal.τ).loc Cert.DcIdeal.main_v83_2)) (v3 : (c : Dev Cert.DcIdeal.nD) → Buf (Elt Ideal) ((c.tc : Thread Cert.DcIdeal.nD Cert.DcIdeal.τ).loc Cert.DcIdeal.main_v83_3)) (v4 : (c : Dev Cert.DcIdeal.nD) → Buf (Elt Ideal) ((c.tc : Thread Cert.DcIdeal.nD Cert.DcIdeal.τ).loc Cert.DcIdeal.main_v83_4)),
      θ_run (Cert.DcIdeal.defs (F := Ideal)) (onTc (τ := Cert.DcIdeal.τ) (Cert.DcIdeal.main (F := Ideal))) ⟨m, fun _ => 0, g⟩ (fun r => ∀ c : Dev Cert.DcIdeal.nD,
          r.2.mem ((c.tc : Thread Cert.DcIdeal.nD Cert.DcIdeal.τ).loc Cert.DcIdeal.main_v83_0) = v0 c
          ∧ r.2.mem ((c.tc : Thread Cert.DcIdeal.nD Cert.DcIdeal.τ).loc Cert.DcIdeal.main_v83_1) = v1 c
          ∧ r.2.mem ((c.tc : Thread Cert.DcIdeal.nD Cert.DcIdeal.τ).loc Cert.DcIdeal.main_v83_2) = v2 c
          ∧ r.2.mem ((c.tc : Thread Cert.DcIdeal.nD Cert.DcIdeal.τ).loc Cert.DcIdeal.main_v83_3) = v3 c
          ∧ r.2.mem ((c.tc : Thread Cert.DcIdeal.nD Cert.DcIdeal.τ).loc Cert.DcIdeal.main_v83_4) = v4 c
          ∧ r.2.mem ((c.tc : Thread Cert.DcIdeal.nD Cert.DcIdeal.τ).loc Cert.DcIdeal.main_arg0) = m ((c.tc : Thread Cert.DcIdeal.nD Cert.DcIdeal.τ).loc Cert.DcIdeal.main_arg0)
          ∧ r.2.mem ((c.tc : Thread Cert.DcIdeal.nD Cert.DcIdeal.τ).loc Cert.DcIdeal.main_arg1) = m ((c.tc : Thread Cert.DcIdeal.nD Cert.DcIdeal.τ).loc Cert.DcIdeal.main_arg1)
          ∧ r.2.mem ((c.tc : Thread Cert.DcIdeal.nD Cert.DcIdeal.τ).loc Cert.DcIdeal.main_arg2) = m ((c.tc : Thread Cert.DcIdeal.nD Cert.DcIdeal.τ).loc Cert.DcIdeal.main_arg2)
          ∧ r.2.mem ((c.tc : Thread Cert.DcIdeal.nD Cert.DcIdeal.τ).loc Cert.DcIdeal.main_arg3) = m ((c.tc : Thread Cert.DcIdeal.nD Cert.DcIdeal.τ).loc Cert.DcIdeal.main_arg3)
          ∧ r.2.mem ((c.tc : Thread Cert.DcIdeal.nD Cert.DcIdeal.τ).loc Cert.DcIdeal.main_arg4) = m ((c.tc : Thread Cert.DcIdeal.nD Cert.DcIdeal.τ).loc Cert.DcIdeal.main_arg4)
          ∧ r.2.mem ((c.tc : Thread Cert.DcIdeal.nD Cert.DcIdeal.τ).loc Cert.DcIdeal.main_arg5) = m ((c.tc : Thread Cert.DcIdeal.nD Cert.DcIdeal.τ).loc Cert.DcIdeal.main_arg5))
      ∧ θ_run (Cert.DcRefIdeal.defs (F := Ideal)) (onTc (τ := Cert.DcRefIdeal.τ) (Cert.DcRefIdeal.main (F := Ideal))) ⟨m', fun _ => 0, g'⟩ (fun r => ∀ c : Dev Cert.DcRefIdeal.nD,
          r.2.mem ((c.tc : Thread Cert.DcRefIdeal.nD Cert.DcRefIdeal.τ).loc Cert.DcRefIdeal.main_v88) = v0 c
          ∧ r.2.mem ((c.tc : Thread Cert.DcRefIdeal.nD Cert.DcRefIdeal.τ).loc Cert.DcRefIdeal.main_v97) = v1 c
          ∧ r.2.mem ((c.tc : Thread Cert.DcRefIdeal.nD Cert.DcRefIdeal.τ).loc Cert.DcRefIdeal.main_v98) = v2 c
          ∧ r.2.mem ((c.tc : Thread Cert.DcRefIdeal.nD Cert.DcRefIdeal.τ).loc Cert.DcRefIdeal.main_v99) = v3 c
          ∧ r.2.mem ((c.tc : Thread Cert.DcRefIdeal.nD Cert.DcRefIdeal.τ).loc Cert.DcRefIdeal.main_v100) = v4 c
          ∧ r.2.mem ((c.tc : Thread Cert.DcRefIdeal.nD Cert.DcRefIdeal.τ).loc Cert.DcRefIdeal.main_arg0) = m' ((c.tc : Thread Cert.DcRefIdeal.nD Cert.DcRefIdeal.τ).loc Cert.DcRefIdeal.main_arg0)
          ∧ r.2.mem ((c.tc : Thread Cert.DcRefIdeal.nD Cert.DcRefIdeal.τ).loc Cert.DcRefIdeal.main_arg1) = m' ((c.tc : Thread Cert.DcRefIdeal.nD Cert.DcRefIdeal.τ).loc Cert.DcRefIdeal.main_arg1)
          ∧ r.2.mem ((c.tc : Thread Cert.DcRefIdeal.nD Cert.DcRefIdeal.τ).loc Cert.DcRefIdeal.main_arg2) = m' ((c.tc : Thread Cert.DcRefIdeal.nD Cert.DcRefIdeal.τ).loc Cert.DcRefIdeal.main_arg2)
          ∧ r.2.mem ((c.tc : Thread Cert.DcRefIdeal.nD Cert.DcRefIdeal.τ).loc Cert.DcRefIdeal.main_arg3) = m' ((c.tc : Thread Cert.DcRefIdeal.nD Cert.DcRefIdeal.τ).loc Cert.DcRefIdeal.main_arg3)
          ∧ r.2.mem ((c.tc : Thread Cert.DcRefIdeal.nD Cert.DcRefIdeal.τ).loc Cert.DcRefIdeal.main_arg4) = m' ((c.tc : Thread Cert.DcRefIdeal.nD Cert.DcRefIdeal.τ).loc Cert.DcRefIdeal.main_arg4)
          ∧ r.2.mem ((c.tc : Thread Cert.DcRefIdeal.nD Cert.DcRefIdeal.τ).loc Cert.DcRefIdeal.main_arg5) = m' ((c.tc : Thread Cert.DcRefIdeal.nD Cert.DcRefIdeal.τ).loc Cert.DcRefIdeal.main_arg5))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v1)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v1) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v50) = v0 c
          ∧ r.2.mem ((c.tc : Thread Cert.ConvRefIdeal.nD Cert.ConvRefIdeal.τ).loc Cert.ConvRefIdeal.main_v21) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v4_0)) (v1 : (c : Dev Cert.MlpUpIdeal.nD) → Buf (Elt Ideal) ((c.tc : Thread Cert.MlpUpIdeal.nD Cert.MlpUpIdeal.τ).loc Cert.MlpUpIdeal.main_v4_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4_0) = v0 c
          ∧ r.2.mem ((c.tc : Thread Cert.MlpUpIdeal.nD Cert.MlpUpIdeal.τ).loc Cert.MlpUpIdeal.main_v4_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v14) = v0 c
          ∧ r.2.mem ((c.tc : Thread Cert.MlpUpRefIdeal.nD Cert.MlpUpRefIdeal.τ).loc Cert.MlpUpRefIdeal.main_v15) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_Fan_FanIdeal : Prop :=
  True

def algebraic_FanIdeal_FanRefIdeal [hFanIdeal : Cert.FanIdeal.Facts] [hFanRefIdeal : Cert.FanRefIdeal.Facts] : Prop :=
  ∀ (m : (ℓ : Loc Cert.FanIdeal.nD Cert.FanIdeal.τ Cert.FanIdeal.sig) → Buf (Elt Ideal) ℓ) (g : Dev Cert.FanIdeal.nD → PrngReg)
    (m' : (ℓ : Loc Cert.FanRefIdeal.nD Cert.FanRefIdeal.τ Cert.FanRefIdeal.sig) → Buf (Elt Ideal) ℓ) (g' : Dev Cert.FanRefIdeal.nD → PrngReg), Pre_FanIdeal m →
    (∀ c : Dev Cert.FanIdeal.nD,
      m' ((c.tc : Thread Cert.FanRefIdeal.nD Cert.FanRefIdeal.τ).loc Cert.FanRefIdeal.main_arg0) = m ((c.tc : Thread Cert.FanIdeal.nD Cert.FanIdeal.τ).loc Cert.FanIdeal.main_arg0)
      ∧ m' ((c.tc : Thread Cert.FanRefIdeal.nD Cert.FanRefIdeal.τ).loc Cert.FanRefIdeal.main_arg1) = m ((c.tc : Thread Cert.FanIdeal.nD Cert.FanIdeal.τ).loc Cert.FanIdeal.main_arg1)
      ∧ m' ((c.tc : Thread Cert.FanRefIdeal.nD Cert.FanRefIdeal.τ).loc Cert.FanRefIdeal.main_arg2) = m ((c.tc : Thread Cert.FanIdeal.nD Cert.FanIdeal.τ).loc Cert.FanIdeal.main_arg2)) →
    ∃ (v0 : (c : Dev Cert.FanIdeal.nD) → Buf (Elt Ideal) ((c.tc : Thread Cert.FanIdeal.nD Cert.FanIdeal.τ).loc Cert.FanIdeal.main_v19_0)) (v1 : (c : Dev Cert.FanIdeal.nD) → Buf (Elt Ideal) ((c.tc : Thread Cert.FanIdeal.nD Cert.FanIdeal.τ).loc Cert.FanIdeal.main_v19_1)) (v2 : (c : Dev Cert.FanIdeal.nD) → Buf (Elt Ideal) ((c.tc : Thread Cert.FanIdeal.nD Cert.FanIdeal.τ).loc Cert.FanIdeal.main_v19_2)) (v3 : (c : Dev Cert.FanIdeal.nD) → Buf (Elt Ideal) ((c.tc : Thread Cert.FanIdeal.nD Cert.FanIdeal.τ).loc Cert.FanIdeal.main_v19_3)),
      θ_run (Cert.FanIdeal.defs (F := Ideal)) (onTc (τ := Cert.FanIdeal.τ) (Cert.FanIdeal.main (F := Ideal))) ⟨m, fun _ => 0, g⟩ (fun r => ∀ c : Dev Cert.FanIdeal.nD,
          r.2.mem ((c.tc : Thread Cert.FanIdeal.nD Cert.FanIdeal.τ).loc Cert.FanIdeal.main_v19_0) = v0 c
          ∧ r.2.mem ((c.tc : Thread Cert.FanIdeal.nD Cert.FanIdeal.τ).loc Cert.FanIdeal.main_v19_1) = v1 c
          ∧ r.2.mem ((c.tc : Thread Cert.FanIdeal.nD Cert.FanIdeal.τ).loc Cert.FanIdeal.main_v19_2) = v2 c
          ∧ r.2.mem ((c.tc : Thread Cert.FanIdeal.nD Cert.FanIdeal.τ).loc Cert.FanIdeal.main_v19_3) = v3 c
          ∧ r.2.mem ((c.tc : Thread Cert.FanIdeal.nD Cert.FanIdeal.τ).loc Cert.FanIdeal.main_arg0) = m ((c.tc : Thread Cert.FanIdeal.nD Cert.FanIdeal.τ).loc Cert.FanIdeal.main_arg0)
          ∧ r.2.mem ((c.tc : Thread Cert.FanIdeal.nD Cert.FanIdeal.τ).loc Cert.FanIdeal.main_arg1) = m ((c.tc : Thread Cert.FanIdeal.nD Cert.FanIdeal.τ).loc Cert.FanIdeal.main_arg1)
          ∧ r.2.mem ((c.tc : Thread Cert.FanIdeal.nD Cert.FanIdeal.τ).loc Cert.FanIdeal.main_arg2) = m ((c.tc : Thread Cert.FanIdeal.nD Cert.FanIdeal.τ).loc Cert.FanIdeal.main_arg2))
      ∧ θ_run (Cert.FanRefIdeal.defs (F := Ideal)) (onTc (τ := Cert.FanRefIdeal.τ) (Cert.FanRefIdeal.main (F := Ideal))) ⟨m', fun _ => 0, g'⟩ (fun r => ∀ c : Dev Cert.FanRefIdeal.nD,
          r.2.mem ((c.tc : Thread Cert.FanRefIdeal.nD Cert.FanRefIdeal.τ).loc Cert.FanRefIdeal.main_v26) = v0 c
          ∧ r.2.mem ((c.tc : Thread Cert.FanRefIdeal.nD Cert.FanRefIdeal.τ).loc Cert.FanRefIdeal.main_v19) = v1 c
          ∧ r.2.mem ((c.tc : Thread Cert.FanRefIdeal.nD Cert.FanRefIdeal.τ).loc Cert.FanRefIdeal.main_v28) = v2 c
          ∧ r.2.mem ((c.tc : Thread Cert.FanRefIdeal.nD Cert.FanRefIdeal.τ).loc Cert.FanRefIdeal.main_v29) = v3 c
          ∧ r.2.mem ((c.tc : Thread Cert.FanRefIdeal.nD Cert.FanRefIdeal.τ).loc Cert.FanRefIdeal.main_arg0) = m' ((c.tc : Thread Cert.FanRefIdeal.nD Cert.FanRefIdeal.τ).loc Cert.FanRefIdeal.main_arg0)
          ∧ r.2.mem ((c.tc : Thread Cert.FanRefIdeal.nD Cert.FanRefIdeal.τ).loc Cert.FanRefIdeal.main_arg1) = m' ((c.tc : Thread Cert.FanRefIdeal.nD Cert.FanRefIdeal.τ).loc Cert.FanRefIdeal.main_arg1)
          ∧ r.2.mem ((c.tc : Thread Cert.FanRefIdeal.nD Cert.FanRefIdeal.τ).loc Cert.FanRefIdeal.main_arg2) = m' ((c.tc : Thread Cert.FanRefIdeal.nD Cert.FanRefIdeal.τ).loc Cert.FanRefIdeal.main_arg2))

def preserves_Gla_GlaIdeal : Prop :=
  True

def algebraic_GlaIdeal_GlaRefIdeal_pre_finite_gla [hGlaIdeal : Cert.GlaIdeal.Facts] [hGlaRefIdeal : Cert.GlaRefIdeal.Facts] [hPre_finite_gla : Cert.Pre_finite_gla.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_finite_gla m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)) →
    ∃ (v0 : (c : Dev Cert.GlaIdeal.nD) → Buf (Elt Ideal) ((c.tc : Thread Cert.GlaIdeal.nD Cert.GlaIdeal.τ).loc Cert.GlaIdeal.main_v77_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v77_1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v29) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6)
          ∧ r.2.mem ((c.tc : Thread Cert.GlaRefIdeal.nD Cert.GlaRefIdeal.τ).loc Cert.GlaRefIdeal.main_arg7) = m' ((c.tc : Thread Cert.GlaRefIdeal.nD Cert.GlaRefIdeal.τ).loc Cert.GlaRefIdeal.main_arg7))

def preserves_Att_AttIdeal : Prop :=
  True

def Claim : Prop :=
  ∃ (hDown : Cert.Down.Facts) (hDownIdeal : Cert.DownIdeal.Facts) (hDownRefIdeal : Cert.DownRefIdeal.Facts) (hLoss : Cert.Loss.Facts) (hLossIdeal : Cert.LossIdeal.Facts) (hLossRefIdeal : Cert.LossRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts) (hGlu : Cert.Glu.Facts) (hGluIdeal : Cert.GluIdeal.Facts) (hGluRefIdeal : Cert.GluRefIdeal.Facts) (hDc : Cert.Dc.Facts) (hDcIdeal : Cert.DcIdeal.Facts) (hDcRefIdeal : Cert.DcRefIdeal.Facts) (hDownDw : Cert.DownDw.Facts) (hDownDwIdeal : Cert.DownDwIdeal.Facts) (hDownDwRefIdeal : Cert.DownDwRefIdeal.Facts) (hConv : Cert.Conv.Facts) (hConvIdeal : Cert.ConvIdeal.Facts) (hConvRefIdeal : Cert.ConvRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hFan : Cert.Fan.Facts) (hFanIdeal : Cert.FanIdeal.Facts) (hFanRefIdeal : Cert.FanRefIdeal.Facts) (hGla : Cert.Gla.Facts) (hGlaIdeal : Cert.GlaIdeal.Facts) (hGlaRefIdeal : Cert.GlaRefIdeal.Facts) (hAtt : Cert.Att.Facts) (hAttIdeal : Cert.AttIdeal.Facts) (hAttRefIdeal : Cert.AttRefIdeal.Facts) (hPre_finite_dc : Cert.Pre_finite_dc.Facts) (hPre_finite_gla : Cert.Pre_finite_gla.Facts),
    quiescent_Down (hDown := hDown)
    ∧ quiescent_DownIdeal (hDownIdeal := hDownIdeal)
    ∧ quiescent_DownRefIdeal (hDownRefIdeal := hDownRefIdeal)
    ∧ quiescent_Loss (hLoss := hLoss)
    ∧ quiescent_LossIdeal (hLossIdeal := hLossIdeal)
    ∧ quiescent_LossRefIdeal (hLossRefIdeal := hLossRefIdeal)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ quiescent_Glu (hGlu := hGlu)
    ∧ quiescent_GluIdeal (hGluIdeal := hGluIdeal)
    ∧ quiescent_GluRefIdeal (hGluRefIdeal := hGluRefIdeal)
    ∧ quiescent_Dc (hDc := hDc)
    ∧ quiescent_DcIdeal (hDcIdeal := hDcIdeal)
    ∧ quiescent_DcIdeal_pre_finite_dc (hDcIdeal := hDcIdeal) (hPre_finite_dc := hPre_finite_dc)
    ∧ quiescent_DcRefIdeal (hDcRefIdeal := hDcRefIdeal)
    ∧ quiescent_DcRefIdeal_pre_finite_dc (hDcRefIdeal := hDcRefIdeal) (hPre_finite_dc := hPre_finite_dc)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Conv (hConv := hConv)
    ∧ quiescent_ConvIdeal (hConvIdeal := hConvIdeal)
    ∧ quiescent_ConvRefIdeal (hConvRefIdeal := hConvRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_Fan (hFan := hFan)
    ∧ quiescent_FanIdeal (hFanIdeal := hFanIdeal)
    ∧ quiescent_FanRefIdeal (hFanRefIdeal := hFanRefIdeal)
    ∧ quiescent_Gla (hGla := hGla)
    ∧ quiescent_GlaIdeal (hGlaIdeal := hGlaIdeal)
    ∧ quiescent_GlaIdeal_pre_finite_gla (hGlaIdeal := hGlaIdeal) (hPre_finite_gla := hPre_finite_gla)
    ∧ quiescent_GlaRefIdeal (hGlaRefIdeal := hGlaRefIdeal)
    ∧ quiescent_GlaRefIdeal_pre_finite_gla (hGlaRefIdeal := hGlaRefIdeal) (hPre_finite_gla := hPre_finite_gla)
    ∧ quiescent_Att (hAtt := hAtt)
    ∧ quiescent_AttIdeal (hAttIdeal := hAttIdeal)
    ∧ quiescent_AttRefIdeal (hAttRefIdeal := hAttRefIdeal)
    ∧ preserves_Down_DownIdeal
    ∧ algebraic_DownIdeal_DownRefIdeal (hDownIdeal := hDownIdeal) (hDownRefIdeal := hDownRefIdeal)
    ∧ preserves_Loss_LossIdeal
    ∧ algebraic_LossIdeal_LossRefIdeal (hLossIdeal := hLossIdeal) (hLossRefIdeal := hLossRefIdeal)
    ∧ preserves_Up_UpIdeal
    ∧ algebraic_UpIdeal_UpRefIdeal (hUpIdeal := hUpIdeal) (hUpRefIdeal := hUpRefIdeal)
    ∧ preserves_Proj_ProjIdeal
    ∧ algebraic_ProjIdeal_ProjRefIdeal (hProjIdeal := hProjIdeal) (hProjRefIdeal := hProjRefIdeal)
    ∧ preserves_Glu_GluIdeal
    ∧ algebraic_GluIdeal_GluRefIdeal (hGluIdeal := hGluIdeal) (hGluRefIdeal := hGluRefIdeal)
    ∧ preserves_Dc_DcIdeal
    ∧ algebraic_DcIdeal_DcRefIdeal_pre_finite_dc (hDcIdeal := hDcIdeal) (hDcRefIdeal := hDcRefIdeal) (hPre_finite_dc := hPre_finite_dc)
    ∧ preserves_DownDw_DownDwIdeal
    ∧ algebraic_DownDwIdeal_DownDwRefIdeal (hDownDwIdeal := hDownDwIdeal) (hDownDwRefIdeal := hDownDwRefIdeal)
    ∧ preserves_Conv_ConvIdeal
    ∧ algebraic_ConvIdeal_ConvRefIdeal (hConvIdeal := hConvIdeal) (hConvRefIdeal := hConvRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_Fan_FanIdeal
    ∧ algebraic_FanIdeal_FanRefIdeal (hFanIdeal := hFanIdeal) (hFanRefIdeal := hFanRefIdeal)
    ∧ preserves_Gla_GlaIdeal
    ∧ algebraic_GlaIdeal_GlaRefIdeal_pre_finite_gla (hGlaIdeal := hGlaIdeal) (hGlaRefIdeal := hGlaRefIdeal) (hPre_finite_gla := hPre_finite_gla)
    ∧ preserves_Att_AttIdeal
-- ==== Pre_finite_dc.lean ====
abbrev S4096x512 : Shape := ⟨2, ![4096, 512]⟩
abbrev S31x256 : Shape := ⟨2, ![31, 256]⟩
abbrev S256 : Shape := ⟨1, ![256]⟩
abbrev S4096x256 : Shape := ⟨2, ![4096, 256]⟩
abbrev S_ : Shape := ⟨0, ![]⟩

class Facts : Prop where
  bcast_S_S4096x512 : S_.BroadcastsInDim S4096x512 (![] : Fin 0 → Fin S4096x512.rank)
  bcast_S_S31x256 : S_.BroadcastsInDim S31x256 (![] : Fin 0 → Fin S31x256.rank)
  bcast_S_S256 : S_.BroadcastsInDim S256 (![] : Fin 0 → Fin S256.rank)
  bcast_S_S4096x256 : S_.BroadcastsInDim S4096x256 (![] : Fin 0 → Fin S4096x256.rank)

variable [Facts]

def fn {F : FTy → Type} [FloatOps F] (main_arg0 : FVec F S4096x512 .f32) (main_arg1 : FVec F S31x256 .f32) (main_arg2 : FVec F S256 .f32) (main_arg3 : FVec F S256 .f32) (main_arg4 : FVec F S256 .f32) (main_arg5 : FVec F S4096x256 .f32) : IVec S4096x512 1 × IVec S31x256 1 × IVec S256 1 × IVec S256 1 × IVec S256 1 × IVec S4096x256 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S31x256 .f32 := Host.absf main_arg1
  let main_cst_0 : FVec F S_ .f32 := constant S_ .f32 0x7F800000#32
  let main_v4 : FVec F S31x256 .f32 := broadcastInDim S31x256 ![] bcast_S_S31x256 main_cst_0
  let main_v5 : IVec S31x256 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S4096x256 .f32 := Host.absf main_arg5
  let main_cst_4 : FVec F S_ .f32 := constant S_ .f32 0x7F800000#32
  let main_v16 : FVec F S4096x256 .f32 := broadcastInDim S4096x256 ![] bcast_S_S4096x256 main_cst_4
  let main_v17 : IVec S4096x256 1 := cmpf .olt main_v15 main_v16
  (main_v2, main_v5, main_v8, main_v11, main_v14, main_v17)
-- ==== Pre_finite_gla.lean ====
abbrev S4096x192 : Shape := ⟨2, ![4096, 192]⟩
abbrev S4096x384 : Shape := ⟨2, ![4096, 384]⟩
abbrev S4096x16 : Shape := ⟨2, ![4096, 16]⟩
abbrev S16x192 : Shape := ⟨2, ![16, 192]⟩
abbrev S192 : Shape := ⟨1, ![192]⟩
abbrev S384 : Shape := ⟨1, ![384]⟩
abbrev S_ : Shape := ⟨0, ![]⟩

class Facts : Prop where
  bcast_S_S4096x16 : S_.BroadcastsInDim S4096x16 (![] : Fin 0 → Fin S4096x16.rank)
  bcast_S_S16x192 : S_.BroadcastsInDim S16x192 (![] : Fin 0 → Fin S16x192.rank)

variable [Facts]

def fn {F : FTy → Type} [FloatOps F] (main_arg0 : FVec F S4096x192 .f32) (main_arg1 : FVec F S4096x192 .f32) (main_arg2 : FVec F S4096x384 .f32) (main_arg3 : FVec F S4096x384 .f32) (main_arg4 : FVec F S4096x16 .f32) (main_arg5 : FVec F S16x192 .f32) (main_arg6 : FVec F S192 .f32) (main_arg7 : FVec F S384 .f32) : IVec S4096x16 1 × IVec S16x192 1 :=
  let main_v0 : FVec F S4096x16 .f32 := Host.absf main_arg4
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_v3 : FVec F S16x192 .f32 := Host.absf main_arg5
  let main_cst_0 : FVec F S_ .f32 := constant S_ .f32 0x7F800000#32
  let main_v4 : FVec F S16x192 .f32 := broadcastInDim S16x192 ![] bcast_S_S16x192 main_cst_0
  let main_v5 : IVec S16x192 1 := cmpf .olt main_v3 main_v4
  (main_v2, main_v5)
-- ==== Down.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Up.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_10 : BitVec 32 := 0#32
  let v18 : BitVec 1 := Scalar.cmpi .ne v17 c0_i32_10
  v18

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpRefIdeal.lean ====
abbrev S4096x4096 : Shape := ⟨2, ![4096, 4096]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proj.lean ====
abbrev S4096x2832 : Shape := ⟨2, ![4096, 2832]⟩
abbrev S1024x2832 : Shape := ⟨2, ![1024, 2832]⟩
abbrev S4096x1024 : Shape := ⟨2, ![4096, 1024]⟩
abbrev S1024 : Shape := ⟨1, ![1024]⟩
abbrev S4096x192 : Shape := ⟨2, ![4096, 192]⟩
abbrev S4096x384 : Shape := ⟨2, ![4096, 384]⟩
abbrev S4096x16 : Shape := ⟨2, ![4096, 16]⟩
abbrev S4096x512 : Shape := ⟨2, ![4096, 512]⟩
abbrev S_ : Shape := ⟨0, ![]⟩
abbrev S4096x256 : Shape := ⟨2, ![4096, 256]⟩
abbrev S4096x128 : Shape := ⟨2, ![4096, 128]⟩
abbrev S4096x1408 : Shape := ⟨2, ![4096, 1408]⟩
abbrev S4096x1152 : Shape := ⟨2, ![4096, 1152]⟩
abbrev S2832x1024 : Shape := ⟨2, ![2832, 1024]⟩
abbrev S192x1024 : Shape := ⟨2, ![192, 1024]⟩
abbrev S384x1024 : Shape := ⟨2, ![384, 1024]⟩
abbrev S16x1024 : Shape := ⟨2, ![16, 1024]⟩
abbrev S512x1024 : Shape := ⟨2, ![512, 1024]⟩
abbrev S256x1024 : Shape := ⟨2, ![256, 1024]⟩
abbrev S128x1024 : Shape := ⟨2, ![128, 1024]⟩
abbrev S1408x1024 : Shape := ⟨2, ![1408, 1024]⟩
abbrev S1152x1024 : Shape := ⟨2, ![1152, 1024]⟩
abbrev S1x1024 : Shape := ⟨2, ![1, 1024]⟩
abbrev S512x1408 : Shape := ⟨2, ![512, 1408]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩

abbrev nBuf : Space → Nat
  | .hbm => 55
  | .vmem => 17
  | .smem => 0
  | _ => 0

abbrev bufTy : (tb : Table) → Fin (tcTables nBuf tb) → BufTy
  | .hbm, ⟨0, _⟩ => ⟨S4096x2832, .f32⟩
  | .hbm, ⟨1, _⟩ => ⟨S1024x2832, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x192, .f32⟩
  | .hbm, ⟨6, _⟩ => ⟨S4096x192, .f32⟩
  | .hbm, ⟨7, _⟩ => ⟨S4096x384, .f32⟩
  | .hbm, ⟨8, _⟩ => ⟨S4096x384, .f32⟩
  | .hbm, ⟨9, _⟩ => ⟨S4096x16, .f32⟩
  | .hbm, ⟨10, _⟩ => ⟨S4096x512, .f32⟩
  | .hbm, ⟨11, _⟩ => ⟨S4096x384, .f32⟩
  | .hbm, ⟨12, _⟩ => ⟨S4096x384, .f32⟩
  | .hbm, ⟨13, _⟩ => ⟨S4096x384, .f32⟩
  | .hbm, ⟨14, _⟩ => ⟨S_, .i32⟩
  | .hbm, ⟨15, _⟩ => ⟨S_, .f32⟩
  | .hbm, ⟨16, _⟩ => ⟨S4096x256, .f32⟩
  | .hbm, ⟨17, _⟩ => ⟨S_, .i32⟩
  | .hbm, ⟨18, _⟩ => ⟨S_, .f32⟩
  | .hbm, ⟨19, _⟩ => ⟨S4096x256, .f32⟩
  | .hbm, ⟨20, _⟩ => ⟨S_, .i32⟩
  | .hbm, ⟨21, _⟩ => ⟨S_, .f32⟩
  | .hbm, ⟨22, _⟩ => ⟨S4096x128, .f32⟩
  | .hbm, ⟨23, _⟩ => ⟨S4096x1408, .f32⟩
  | .hbm, ⟨24, _⟩ => ⟨S4096x1152, .f32⟩
  | .hbm, ⟨25, _⟩ => ⟨S2832x1024, .f32⟩
  | .hbm, ⟨26, _⟩ => ⟨S192x1024, .f32⟩
  | .hbm, ⟨27, _⟩ => ⟨S192x1024, .f32⟩
  | .hbm, ⟨28, _⟩ => ⟨S384x1024, .f32⟩
  | .hbm, ⟨29, _⟩ => ⟨S384x1024, .f32⟩
  | .hbm, ⟨30, _⟩ => ⟨S16x1024, .f32⟩
  | .hbm, ⟨31, _⟩ => ⟨S512x1024, .f32⟩
  | .hbm, ⟨32, _⟩ => ⟨S384x1024, .f32⟩
  | .hbm, ⟨33, _⟩ => ⟨S384x1024, .f32⟩
  | .hbm, ⟨34, _⟩ => ⟨S384x1024, .f32⟩
  | .hbm, ⟨35, _⟩ => ⟨S_, .i32⟩
  | .hbm, ⟨36, _⟩ => ⟨S_, .f32⟩
  | .hbm, ⟨37, _⟩ => ⟨S256x1024, .f32⟩
  | .hbm, ⟨38, _⟩ => ⟨S_, .i32⟩
  | .hbm, ⟨39, _⟩ => ⟨S_, .f32⟩
  | .hbm, ⟨40, _⟩ => ⟨S256x1024, .f32⟩
  | .hbm, ⟨41, _⟩ => ⟨S_, .i32⟩
  | .hbm, ⟨42, _⟩ => ⟨S_, .f32⟩
  | .hbm, ⟨43, _⟩ => ⟨S128x1024, .f32⟩
  | .hbm, ⟨44, _⟩ => ⟨S1408x1024, .f32⟩
  | .hbm, ⟨45, _⟩ => ⟨S1152x1024, .f32⟩
  | .hbm, ⟨46, _⟩ => ⟨S4096x1408, .bf16⟩
  | .hbm, ⟨47, _⟩ => ⟨S4096x512, .bf16⟩
  | .hbm, ⟨48, _⟩ => ⟨S4096x1152, .bf16⟩
  | .hbm, ⟨49, _⟩ => ⟨S1408x1024, .bf16⟩
  | .hbm, ⟨50, _⟩ => ⟨S512x1024, .bf16⟩
  | .hbm, ⟨51, _⟩ => ⟨S1152x1024, .bf16⟩
  | .hbm, ⟨52, _⟩ => ⟨S1x1024, .f32⟩
  | .hbm, ⟨53, _⟩ => ⟨S4096x1024, .f32⟩
  | .hbm, ⟨54, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x512, .bf16⟩
  | .local _ .vmem, ⟨3, _⟩ => ⟨S512x512, .bf16⟩
  | .local _ .vmem, ⟨4, _⟩ => ⟨S512x1152, .bf16⟩
  | .local _ .vmem, ⟨5, _⟩ => ⟨S512x1152, .bf16⟩
  | .local _ .vmem, ⟨6, _⟩ => ⟨S1408x1024, .bf16⟩
  | .local _ .vmem, ⟨7, _⟩ => ⟨S512x1024, .bf16⟩
  | .local _ .vmem, ⟨8, _⟩ => ⟨S1152x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S4096x2832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_call3_v0 : Ref sig .tc := ⟨.hbm, 36, rfl⟩
abbrev main_v24 : Ref sig .tc := ⟨.hbm, 37, rfl⟩
abbrev main_c_3 : Ref sig .tc := ⟨.hbm, 38, rfl⟩
abbrev main_call4_v0 : Ref sig .tc := ⟨.hbm, 39, rfl⟩
abbrev main_v25 : Ref sig .tc := ⟨.hbm, 40, rfl⟩
abbrev main_c_4 : Ref sig .tc := ⟨.hbm, 41, rfl⟩
abbrev main_call5_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1152x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ProjRefIdeal.lean ====
abbrev S4096x2832 : Shape := ⟨2, ![4096, 2832]⟩
abbrev S1024x2832 : Shape := ⟨2, ![1024, 2832]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2832, .f32⟩
  | .hbm, ⟨1, _⟩ => ⟨S1024x2832, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2832, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x2832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Glu.lean ====
abbrev S4096x512 : Shape := ⟨2, ![4096, 512]⟩
abbrev S31x256 : Shape := ⟨2, ![31, 256]⟩
abbrev S4096x256 : Shape := ⟨2, ![4096, 256]⟩
abbrev S_ : Shape := ⟨0, ![]⟩
abbrev S32x256 : Shape := ⟨2, ![32, 256]⟩
abbrev S512x512 : Shape := ⟨2, ![512, 512]⟩
abbrev S512x256 : Shape := ⟨2, ![512, 256]⟩
abbrev S544x256 : Shape := ⟨2, ![544, 256]⟩
abbrev S64x256 : Shape := ⟨2, ![64, 256]⟩
abbrev S1x256 : Shape := ⟨2, ![1, 256]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S31x256, .f32⟩
  | .hbm, ⟨2, _⟩ => ⟨S4096x256, .f32⟩
  | .hbm, ⟨3, _⟩ => ⟨S_, .i32⟩
  | .hbm, ⟨4, _⟩ => ⟨S_, .f32⟩
  | .hbm, ⟨5, _⟩ => ⟨S32x256, .f32⟩
  | .hbm, ⟨6, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S512x512, .bf16⟩
  | .local _ .vmem, ⟨8, _⟩ => ⟨S512x512, .bf16⟩
  | .local _ .vmem, ⟨9, _⟩ => ⟨S544x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GluRefIdeal.lean ====
abbrev S4096x512 : Shape := ⟨2, ![4096, 512]⟩
abbrev S31x256 : Shape := ⟨2, ![31, 256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S4096x31x4126 : Shape := ⟨3, ![4096, 31, 4126]⟩
abbrev S4096x31x256 : Shape := ⟨3, ![4096, 31, 256]⟩
abbrev S1x31x256 : Shape := ⟨3, ![1, 31, 256]⟩
abbrev S256x4126 : Shape := ⟨2, ![256, 4126]⟩

abbrev nBuf : Space → Nat
  | .hbm => 47
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S31x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096x256, .f32⟩
  | .hbm, ⟨15, _⟩ => ⟨S4096x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S30x256, .f32⟩
  | .hbm, ⟨20, _⟩ => ⟨S4126x256, .f32⟩
  | .hbm, ⟨21, _⟩ => ⟨S_, .f32⟩
  | .hbm, ⟨22, _⟩ => ⟨S30x256, .f32⟩
  | .hbm, ⟨23, _⟩ => ⟨S4096x31x4126, .i32⟩
  | .hbm, ⟨24, _⟩ => ⟨S4096x31x4126, .i32⟩
  | .hbm, ⟨25, _⟩ => ⟨S4096x31x4126, .i32⟩
  | .hbm, ⟨26, _⟩ => ⟨S4096x31x4126, .i32⟩
  | .hbm, ⟨27, _⟩ => ⟨S4096x31x4126, .i1⟩
  | .hbm, ⟨28, _⟩ => ⟨S4096x31x4126, .f32⟩
  | .hbm, ⟨29, _⟩ => ⟨S4096x31x256, .f32⟩
  | .hbm, ⟨30, _⟩ => ⟨S1x31x256, .f32⟩
  | .hbm, ⟨31, _⟩ => ⟨S4096x31x256, .f32⟩
  | .hbm, ⟨32, _⟩ => ⟨S4096x31x256, .f32⟩
  | .hbm, ⟨33, _⟩ => ⟨S_, .f32⟩
  | .hbm, ⟨34, _⟩ => ⟨S4096x256, .f32⟩
  | .hbm, ⟨35, _⟩ => ⟨S4096x31x256, .f32⟩
  | .hbm, ⟨36, _⟩ => ⟨S4096x31x256, .f32⟩
  | .hbm, ⟨37, _⟩ => ⟨S4096x31x256, .f32⟩
  | .hbm, ⟨38, _⟩ => ⟨S256x4126, .f32⟩
  | .hbm, ⟨39, _⟩ => ⟨S4126x256, .f32⟩
  | .hbm, ⟨40, _⟩ => ⟨S30x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x512, .f32⟩
  | .hbm, ⟨46, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩

abbrev nD : Nat := 1
abbrev τ : Topo := Topo.v7x

variable {F : FTy → Type} [FloatOps F]
-- ==== Dc.lean ====
abbrev S4096x512 : Shape := ⟨2, ![4096, 512]⟩
abbrev S31x256 : Shape := ⟨2, ![31, 256]⟩
abbrev S256 : Shape := ⟨1, ![256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S4096x1x256 : Shape := ⟨3, ![4096, 1, 256]⟩
abbrev S4096x16x256 : Shape := ⟨3, ![4096, 16, 256]⟩
abbrev S4096x15x256 : Shape := ⟨3, ![4096, 15, 256]⟩
abbrev S4096x31x256 : Shape := ⟨3, ![4096, 31, 256]⟩
abbrev S1x31x256 : Shape := ⟨3, ![1, 31, 256]⟩
abbrev S1x256 : Shape := ⟨2, ![1, 256]⟩
abbrev S32x256 : Shape := ⟨2, ![32, 256]⟩
abbrev S512x512 : Shape := ⟨2, ![512, 512]⟩
abbrev S32x512 : Shape := ⟨2, ![32, 512]⟩
abbrev S512x256 : Shape := ⟨2, ![512, 256]⟩
abbrev S544x256 : Shape := ⟨2, ![544, 256]⟩
abbrev S32x8x256 : Shape := ⟨3, ![32, 8, 256]⟩
abbrev S64x256 : Shape := ⟨2, ![64, 256]⟩
abbrev S64 : Shape := ⟨1, ![64]⟩
abbrev S64x1 : Shape := ⟨2, ![64, 1]⟩
abbrev S1x8x256 : Shape := ⟨3, ![1, 8, 256]⟩
abbrev S8x256 : Shape := ⟨2, ![8, 256]⟩
abbrev S8x8x256 : Shape := ⟨3, ![8, 8, 256]⟩

abbrev nBuf : Space → Nat
  | .hbm => 98
  | .vmem => 19
  | .smem => 0
  | _ => 0

abbrev bufTy : (tb : Table) → Fin (tcTables nBuf tb) → BufTy
  | .hbm, ⟨0, _⟩ => ⟨S4096x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S30x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4126x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x256, .f32⟩
  | .hbm, ⟨50, _⟩ => ⟨S4096x256, .f32⟩
  | .hbm, ⟨51, _⟩ => ⟨S4096x1x256, .f32⟩
  | .hbm, ⟨52, _⟩ => ⟨S4096x1x256, .f32⟩
  | .hbm, ⟨53, _⟩ => ⟨S4096x1x256, .f32⟩
  | .hbm, ⟨54, _⟩ => ⟨S4096x1x256, .f32⟩
  | .hbm, ⟨55, _⟩ => ⟨S4096x1x256, .f32⟩
  | .hbm, ⟨56, _⟩ => ⟨S4096x1x256, .f32⟩
  | .hbm, ⟨57, _⟩ => ⟨S4096x1x256, .f32⟩
  | .hbm, ⟨58, _⟩ => ⟨S4096x1x256, .f32⟩
  | .hbm, ⟨59, _⟩ => ⟨S4096x1x256, .f32⟩
  | .hbm, ⟨60, _⟩ => ⟨S4096x1x256, .f32⟩
  | .hbm, ⟨61, _⟩ => ⟨S4096x1x256, .f32⟩
  | .hbm, ⟨62, _⟩ => ⟨S4096x1x256, .f32⟩
  | .hbm, ⟨63, _⟩ => ⟨S4096x1x256, .f32⟩
  | .hbm, ⟨64, _⟩ => ⟨S4096x1x256, .f32⟩
  | .hbm, ⟨65, _⟩ => ⟨S4096x1x256, .f32⟩
  | .hbm, ⟨66, _⟩ => ⟨S4096x1x256, .f32⟩
  | .hbm, ⟨67, _⟩ => ⟨S4096x1x256, .f32⟩
  | .hbm, ⟨68, _⟩ => ⟨S4096x1x256, .f32⟩
  | .hbm, ⟨69, _⟩ => ⟨S4096x1x256, .f32⟩
  | .hbm, ⟨70, _⟩ => ⟨S4096x1x256, .f32⟩
  | .hbm, ⟨71, _⟩ => ⟨S4096x1x256, .f32⟩
  | .hbm, ⟨72, _⟩ => ⟨S4096x1x256, .f32⟩
  | .hbm, ⟨73, _⟩ => ⟨S4096x1x256, .f32⟩
  | .hbm, ⟨74, _⟩ => ⟨S4096x1x256, .f32⟩
  | .hbm, ⟨75, _⟩ => ⟨S4096x1x256, .f32⟩
  | .hbm, ⟨76, _⟩ => ⟨S4096x1x256, .f32⟩
  | .hbm, ⟨77, _⟩ => ⟨S4096x1x256, .f32⟩
  | .hbm, ⟨78, _⟩ => ⟨S4096x1x256, .f32⟩
  | .hbm, ⟨79, _⟩ => ⟨S4096x1x256, .f32⟩
  | .hbm, ⟨80, _⟩ => ⟨S4096x1x256, .f32⟩
  | .hbm, ⟨81, _⟩ => ⟨S4096x1x256, .f32⟩
  | .hbm, ⟨82, _⟩ => ⟨S4096x16x256, .f32⟩
  | .hbm, ⟨83, _⟩ => ⟨S4096x15x256, .f32⟩
  | .hbm, ⟨84, _⟩ => ⟨S4096x31x256, .f32⟩
  | .hbm, ⟨85, _⟩ => ⟨S1x31x256, .f32⟩
  | .hbm, ⟨86, _⟩ => ⟨S4096x31x256, .f32⟩
  | .hbm, ⟨87, _⟩ => ⟨S4096x31x256, .f32⟩
  | .hbm, ⟨88, _⟩ => ⟨S_, .f32⟩
  | .hbm, ⟨89, _⟩ => ⟨S4096x256, .f32⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S4096x256, .f32⟩
  | .hbm, ⟨94, _⟩ => ⟨S32x256, .f32⟩
  | .hbm, ⟨95, _⟩ => ⟨S1x256, .f32⟩
  | .hbm, ⟨96, _⟩ => ⟨S1x256, .f32⟩
  | .hbm, ⟨97, _⟩ => ⟨S1x256, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S32x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S544x256, .f32⟩
  | .local _ .vmem, ⟨18, _⟩ => ⟨S32x8x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_2 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83_0 : Ref sig .tc := ⟨.hbm, 93, rfl⟩
abbrev main_v83_1 : Ref sig .tc := ⟨.hbm, 94, rfl⟩
abbrev main_v83_2 : Ref sig .tc := ⟨.hbm, 95, rfl⟩
abbrev main_v83_3 : Ref sig .tc := ⟨.hbm, 96, rfl⟩
abbrev main_v83_4 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v3234 : BitVec 1 := Scalar.cmpi .eq arg0 c7_i32
  let v3235 : BitVec 32 := Scalar.extui v3234
  let c0_i32_2335 : BitVec 32 := 0#32
  let v3236 : BitVec 1 := Scalar.cmpi .ne v3235 c0_i32_2335
  v3236

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== DcRefIdeal.lean ====
abbrev S4096x512 : Shape := ⟨2, ![4096, 512]⟩
abbrev S31x256 : Shape := ⟨2, ![31, 256]⟩
abbrev S256 : Shape := ⟨1, ![256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S4096x31x4126 : Shape := ⟨3, ![4096, 31, 4126]⟩
abbrev S4096x31x256 : Shape := ⟨3, ![4096, 31, 256]⟩
abbrev S1x31x256 : Shape := ⟨3, ![1, 31, 256]⟩
abbrev S1x256 : Shape := ⟨2, ![1, 256]⟩
abbrev S4096 : Shape := ⟨1, ![4096]⟩
abbrev S4096x1 : Shape := ⟨2, ![4096, 1]⟩
abbrev S32x256 : Shape := ⟨2, ![32, 256]⟩

abbrev nBuf : Space → Nat
  | .hbm => 150
  | .vmem => 0
  | .smem => 0
  | _ => 0

abbrev hbmTy0_0 (i : Nat) : BufTy := match i % 128 with
  | 0 => ⟨S4096x512, .f32⟩
  | 1 => ⟨S31x256, .f32⟩
  | 2 => ⟨S256, .f32⟩
  | 3 => ⟨S256, .f32⟩
  | 4 => ⟨S256, .f32⟩
  | 5 => ⟨S4096x256, .f32⟩
  | 6 => ⟨S4096x256, .f32⟩
  | 7 => ⟨S4096x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S4096x256, .f32⟩
  | 15 => ⟨S4096x256, .f32⟩
  | 16 => ⟨S4096x256, .f32⟩
  | 17 => ⟨S_, .f32⟩
  | 18 => ⟨S30x256, .f32⟩
  | 19 => ⟨S4126x256, .f32⟩
  | 20 => ⟨S4096x31x4126, .i32⟩
  | 21 => ⟨S4096x31x4126, .i32⟩
  | 22 => ⟨S4096x31x4126, .i32⟩
  | 23 => ⟨S4096x31x4126, .i32⟩
  | 24 => ⟨S4096x31x4126, .i1⟩
  | 25 => ⟨S4096x31x4126, .f32⟩
  | 26 => ⟨S4096x31x256, .f32⟩
  | 27 => ⟨S1x31x256, .f32⟩
  | 28 => ⟨S4096x31x256, .f32⟩
  | 29 => ⟨S4096x31x256, .f32⟩
  | 30 => ⟨S_, .f32⟩
  | 31 => ⟨S4096x256, .f32⟩
  | 32 => ⟨S1x256, .f32⟩
  | 33 => ⟨S4096x256, .f32⟩
  | 34 => ⟨S4096x256, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x256, .f32⟩
  | 42 => ⟨S4096x256, .f32⟩
  | 43 => ⟨S4096x256, .f32⟩
  | 44 => ⟨S_, .f32⟩
  | 45 => ⟨S4096x256, .f32⟩
  | 46 => ⟨S4096x256, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x256, .f32⟩
  | 54 => ⟨S4096x256, .f32⟩
  | 55 => ⟨S_, .f32⟩
  | 56 => ⟨S4096x1, .f32⟩
  | 57 => ⟨S4096x1, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x256, .f32⟩
  | 64 => ⟨S4096x256, .f32⟩
  | 65 => ⟨S1x256, .f32⟩
  | 66 => ⟨S4096x256, .f32⟩
  | 67 => ⟨S4096x256, .f32⟩
  | 68 => ⟨S1x256, .f32⟩
  | 69 => ⟨S4096x256, .f32⟩
  | 70 => ⟨S4096x256, .f32⟩
  | 71 => ⟨S4096x256, .f32⟩
  | 72 => ⟨S4096x256, .f32⟩
  | 73 => ⟨S_, .f32⟩
  | 74 => ⟨S4096x256, .f32⟩
  | 75 => ⟨S4096x256, .f32⟩
  | 76 => ⟨S_, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S4096x256, .f32⟩
  | 83 => ⟨S4096x256, .f32⟩
  | 84 => ⟨S4096x256, .f32⟩
  | 85 => ⟨S4096x256, .f32⟩
  | 86 => ⟨S4096x256, .f32⟩
  | 87 => ⟨S4096x256, .f32⟩
  | 88 => ⟨S_, .f32⟩
  | 89 => ⟨S256, .f32⟩
  | 90 => ⟨S1x256, .f32⟩
  | 91 => ⟨S_, .f32⟩
  | 92 => ⟨S256, .f32⟩
  | 93 => ⟨S4096x256, .f32⟩
  | 94 => ⟨S_, .f32⟩
  | 95 => ⟨S256, .f32⟩
  | 96 => ⟨S1x256, .f32⟩
  | 97 => ⟨S4096x256, .f32⟩
  | 98 => ⟨S4096x256, .f32⟩
  | 99 => ⟨S_, .f32⟩
  | 100 => ⟨S256, .f32⟩
  | 101 => ⟨S4096x256, .f32⟩
  | 102 => ⟨S_, .f32⟩
  | 103 => ⟨S4096, .f32⟩
  | 104 => ⟨S4096x1, .f32⟩
  | 105 => ⟨S4096x256, .f32⟩
  | 106 => ⟨S4096x256, .f32⟩
  | 107 => ⟨S4096x1, .f32⟩
  | 108 => ⟨S4096x256, .f32⟩
  | 109 => ⟨S_, .f32⟩
  | 110 => ⟨S4096, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x256, .f32⟩
  | 118 => ⟨S4096x256, .f32⟩
  | 119 => ⟨S4096x256, .f32⟩
  | 120 => ⟨S_, .f32⟩
  | 121 => ⟨S4096, .f32⟩
  | 122 => ⟨S4096x1, .f32⟩
  | 123 => ⟨S4096x256, .f32⟩
  | 124 => ⟨S4096x1, .f32⟩
  | 125 => ⟨S_, .f32⟩
  | 126 => ⟨S4096x1, .f32⟩
  | 127 => ⟨S4096x1, .f32⟩
  | _ => ⟨S4096x512, .f32⟩

abbrev hbmTy0_1 (i : Nat) : BufTy := match i % 128 with
  | 0 => ⟨S_, .f32⟩
  | 1 => ⟨S4096, .f32⟩
  | 2 => ⟨S4096x256, .f32⟩
  | 3 => ⟨S4096x256, .f32⟩
  | 4 => ⟨S_, .f32⟩
  | 5 => ⟨S256, .f32⟩
  | 6 => ⟨S1x256, .f32⟩
  | 7 => ⟨S_, .f32⟩
  | 8 => ⟨S256, .f32⟩
  | 9 => ⟨S4096x31x256, .f32⟩
  | 10 => ⟨S4096x31x256, .f32⟩
  | 11 => ⟨S_, .f32⟩
  | 12 => ⟨S31x256, .f32⟩
  | 13 => ⟨S1x31x256, .f32⟩
  | 14 => ⟨S_, .f32⟩
  | 15 => ⟨S31x256, .f32⟩
  | 16 => ⟨S_, .i32⟩
  | 17 => ⟨S_, .f32⟩
  | 18 => ⟨S32x256, .f32⟩
  | 19 => ⟨S1x256, .f32⟩
  | 20 => ⟨S1x256, .f32⟩
  | 21 => ⟨S1x256, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_v54_2 : Ref sig .tc := ⟨.hbm, 78, rfl⟩
abbrev main_call0_cst_1 : Ref sig .tc := ⟨.hbm, 79, rfl⟩
abbrev main_call0_v6 : Ref sig .tc := ⟨.hbm, 80, rfl⟩
abbrev main_call0_v7 : Ref sig .tc := ⟨.hbm, 81, rfl⟩
abbrev main_v54_1 : Ref sig .tc := ⟨.hbm, 82, rfl⟩
abbrev main_v54_0 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_cst_16 : Ref sig .tc := ⟨.hbm, 112, rfl⟩
abbrev main_v74 : Ref sig .tc := ⟨.hbm, 113, rfl⟩
abbrev main_v75 : Ref sig .tc := ⟨.hbm, 114, rfl⟩
abbrev main_cst_17 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_18 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_19 : Ref sig .tc := ⟨.hbm, 125, rfl⟩
abbrev main_v84 : Ref sig .tc := ⟨.hbm, 126, rfl⟩
abbrev main_v85 : Ref sig .tc := ⟨.hbm, 127, rfl⟩
abbrev main_cst_20 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_21 : Ref sig .tc := ⟨.hbm, 132, rfl⟩
abbrev main_v89 : Ref sig .tc := ⟨.hbm, 133, rfl⟩
abbrev main_v90 : Ref sig .tc := ⟨.hbm, 134, rfl⟩
abbrev main_cst_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_v95 : Ref sig .tc := ⟨.hbm, 141, rfl⟩
abbrev main_cst_24 : Ref sig .tc := ⟨.hbm, 142, rfl⟩
abbrev main_v96 : Ref sig .tc := ⟨.hbm, 143, rfl⟩
abbrev main_c : Ref sig .tc := ⟨.hbm, 144, rfl⟩
abbrev main_call2_v0 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Conv.lean ====
abbrev S4096x512 : Shape := ⟨2, ![4096, 512]⟩
abbrev S31x256 : Shape := ⟨2, ![31, 256]⟩
abbrev S256 : Shape := ⟨1, ![256]⟩
abbrev S_ : Shape := ⟨0, ![]⟩
abbrev S32x256 : Shape := ⟨2, ![32, 256]⟩
abbrev S1x256 : Shape := ⟨2, ![1, 256]⟩
abbrev S4096x256 : Shape := ⟨2, ![4096, 256]⟩
abbrev S512x512 : Shape := ⟨2, ![512, 512]⟩
abbrev S32x512 : Shape := ⟨2, ![32, 512]⟩
abbrev S512x256 : Shape := ⟨2, ![512, 256]⟩
abbrev S544x256 : Shape := ⟨2, ![544, 256]⟩
abbrev S64x256 : Shape := ⟨2, ![64, 256]⟩
abbrev S64 : Shape := ⟨1, ![64]⟩
abbrev S64x1 : Shape := ⟨2, ![64, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S_, .i32⟩
  | .hbm, ⟨6, _⟩ => ⟨S_, .f32⟩
  | .hbm, ⟨7, _⟩ => ⟨S32x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S4096x256, .bf16⟩
  | .hbm, ⟨12, _⟩ => ⟨S4096x256, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S544x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S4096x512 : Shape := ⟨2, ![4096, 512]⟩
abbrev S31x256 : Shape := ⟨2, ![31, 256]⟩
abbrev S256 : Shape := ⟨1, ![256]⟩
abbrev S4096x256 : Shape := ⟨2, ![4096, 256]⟩
abbrev S_ : Shape := ⟨0, ![]⟩
abbrev S30x256 : Shape := ⟨2, ![30, 256]⟩
abbrev S4126x256 : Shape := ⟨2, ![4126, 256]⟩
abbrev S4096x31x4126 : Shape := ⟨3, ![4096, 31, 4126]⟩
abbrev S4096x31x256 : Shape := ⟨3, ![4096, 31, 256]⟩
abbrev S1x31x256 : Shape := ⟨3, ![1, 31, 256]⟩
abbrev S1x256 : Shape := ⟨2, ![1, 256]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S31x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S_, .f32⟩
  | .hbm, ⟨17, _⟩ => ⟨S30x256, .f32⟩
  | .hbm, ⟨18, _⟩ => ⟨S4126x256, .f32⟩
  | .hbm, ⟨19, _⟩ => ⟨S4096x31x4126, .i32⟩
  | .hbm, ⟨20, _⟩ => ⟨S4096x31x4126, .i32⟩
  | .hbm, ⟨21, _⟩ => ⟨S4096x31x4126, .i32⟩
  | .hbm, ⟨22, _⟩ => ⟨S4096x31x4126, .i32⟩
  | .hbm, ⟨23, _⟩ => ⟨S4096x31x4126, .i1⟩
  | .hbm, ⟨24, _⟩ => ⟨S4096x31x4126, .f32⟩
  | .hbm, ⟨25, _⟩ => ⟨S4096x31x256, .f32⟩
  | .hbm, ⟨26, _⟩ => ⟨S1x31x256, .f32⟩
  | .hbm, ⟨27, _⟩ => ⟨S4096x31x256, .f32⟩
  | .hbm, ⟨28, _⟩ => ⟨S4096x31x256, .f32⟩
  | .hbm, ⟨29, _⟩ => ⟨S_, .f32⟩
  | .hbm, ⟨30, _⟩ => ⟨S4096x256, .f32⟩
  | .hbm, ⟨31, _⟩ => ⟨S1x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x256, .f32⟩
  | .hbm, ⟨50, _⟩ => ⟨S4096x256, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x256, .f32⟩
  | .hbm, ⟨56, _⟩ => ⟨S4096x256, .f32⟩
  | .hbm, ⟨57, _⟩ => ⟨S1x256, .f32⟩
  | .hbm, ⟨58, _⟩ => ⟨S4096x256, .f32⟩
  | .hbm, ⟨59, _⟩ => ⟨S4096x256, .f32⟩
  | .hbm, ⟨60, _⟩ => ⟨S1x256, .f32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096x256, .f32⟩
  | .hbm, ⟨67, _⟩ => ⟨S4096x256, .f32⟩
  | .hbm, ⟨68, _⟩ => ⟨S_, .f32⟩
  | .hbm, ⟨69, _⟩ => ⟨S4096x256, .f32⟩
  | .hbm, ⟨70, _⟩ => ⟨S4096x256, .f32⟩
  | .hbm, ⟨71, _⟩ => ⟨S4096x256, .f32⟩
  | .hbm, ⟨72, _⟩ => ⟨S4096x256, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== MlpUp.lean ====
abbrev S4096x1024 : Shape := ⟨2, ![4096, 1024]⟩
abbrev S1024x4096 : Shape := ⟨2, ![1024, 4096]⟩
abbrev S1024 : Shape := ⟨1, ![1024]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024, .f32⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S1x1024, .f32⟩
  | .hbm, ⟨7, _⟩ => ⟨S4096x4096, .bf16⟩
  | .hbm, ⟨8, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== MlpUpRefIdeal.lean ====
abbrev S4096x1024 : Shape := ⟨2, ![4096, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MlpDown.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x4096, .bf16⟩
  | .hbm, ⟨4, _⟩ => ⟨S4096x1024, .bf16⟩
  | .hbm, ⟨5, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v16 : BitVec 1 := Scalar.cmpi .eq arg2 c1_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Fan.lean ====
abbrev S4096x1024 : Shape := ⟨2, ![4096, 1024]⟩
abbrev S1024x2832 : Shape := ⟨2, ![1024, 2832]⟩
abbrev S1024 : Shape := ⟨1, ![1024]⟩
abbrev S2832x1024 : Shape := ⟨2, ![2832, 1024]⟩
abbrev S192x1024 : Shape := ⟨2, ![192, 1024]⟩
abbrev S384x1024 : Shape := ⟨2, ![384, 1024]⟩
abbrev S16x1024 : Shape := ⟨2, ![16, 1024]⟩
abbrev S512x1024 : Shape := ⟨2, ![512, 1024]⟩
abbrev S_ : Shape := ⟨0, ![]⟩
abbrev S256x1024 : Shape := ⟨2, ![256, 1024]⟩
abbrev S128x1024 : Shape := ⟨2, ![128, 1024]⟩
abbrev S1408x1024 : Shape := ⟨2, ![1408, 1024]⟩
abbrev S1152x1024 : Shape := ⟨2, ![1152, 1024]⟩
abbrev S1x1024 : Shape := ⟨2, ![1, 1024]⟩
abbrev S4096x1408 : Shape := ⟨2, ![4096, 1408]⟩
abbrev S4096x512 : Shape := ⟨2, ![4096, 512]⟩
abbrev S4096x1152 : Shape := ⟨2, ![4096, 1152]⟩
abbrev S512x1408 : Shape := ⟨2, ![512, 1408]⟩
abbrev S512x512 : Shape := ⟨2, ![512, 512]⟩
abbrev S512x1152 : Shape := ⟨2, ![512, 1152]⟩
abbrev S512 : Shape := ⟨1, ![512]⟩
abbrev S512x1 : Shape := ⟨2, ![512, 1]⟩

abbrev nBuf : Space → Nat
  | .hbm => 32
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x2832, .f32⟩
  | .hbm, ⟨2, _⟩ => ⟨S1024, .f32⟩
  | .hbm, ⟨3, _⟩ => ⟨S2832x1024, .f32⟩
  | .hbm, ⟨4, _⟩ => ⟨S192x1024, .f32⟩
  | .hbm, ⟨5, _⟩ => ⟨S192x1024, .f32⟩
  | .hbm, ⟨6, _⟩ => ⟨S384x1024, .f32⟩
  | .hbm, ⟨7, _⟩ => ⟨S384x1024, .f32⟩
  | .hbm, ⟨8, _⟩ => ⟨S16x1024, .f32⟩
  | .hbm, ⟨9, _⟩ => ⟨S512x1024, .f32⟩
  | .hbm, ⟨10, _⟩ => ⟨S384x1024, .f32⟩
  | .hbm, ⟨11, _⟩ => ⟨S384x1024, .f32⟩
  | .hbm, ⟨12, _⟩ => ⟨S384x1024, .f32⟩
  | .hbm, ⟨13, _⟩ => ⟨S_, .i32⟩
  | .hbm, ⟨14, _⟩ => ⟨S_, .f32⟩
  | .hbm, ⟨15, _⟩ => ⟨S256x1024, .f32⟩
  | .hbm, ⟨16, _⟩ => ⟨S_, .i32⟩
  | .hbm, ⟨17, _⟩ => ⟨S_, .f32⟩
  | .hbm, ⟨18, _⟩ => ⟨S256x1024, .f32⟩
  | .hbm, ⟨19, _⟩ => ⟨S_, .i32⟩
  | .hbm, ⟨20, _⟩ => ⟨S_, .f32⟩
  | .hbm, ⟨21, _⟩ => ⟨S128x1024, .f32⟩
  | .hbm, ⟨22, _⟩ => ⟨S1408x1024, .f32⟩
  | .hbm, ⟨23, _⟩ => ⟨S1152x1024, .f32⟩
  | .hbm, ⟨24, _⟩ => ⟨S1408x1024, .bf16⟩
  | .hbm, ⟨25, _⟩ => ⟨S512x1024, .bf16⟩
  | .hbm, ⟨26, _⟩ => ⟨S1152x1024, .bf16⟩
  | .hbm, ⟨27, _⟩ => ⟨S1x1024, .f32⟩
  | .hbm, ⟨28, _⟩ => ⟨S4096x1408, .f32⟩
  | .hbm, ⟨29, _⟩ => ⟨S4096x512, .f32⟩
  | .hbm, ⟨30, _⟩ => ⟨S4096x1152, .bf16⟩
  | .hbm, ⟨31, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S512x1024, .bf16⟩
  | .local _ .vmem, ⟨4, _⟩ => ⟨S1152x1024, .bf16⟩
  | .local _ .vmem, ⟨5, _⟩ => ⟨S1x1024, .f32⟩
  | .local _ .vmem, ⟨6, _⟩ => ⟨S512x1408, .f32⟩
  | .local _ .vmem, ⟨7, _⟩ => ⟨S512x1408, .f32⟩
  | .local _ .vmem, ⟨8, _⟩ => ⟨S512x512, .f32⟩
  | .local _ .vmem, ⟨9, _⟩ => ⟨S512x512, .f32⟩
  | .local _ .vmem, ⟨10, _⟩ => ⟨S512x1152, .bf16⟩
  | .local _ .vmem, ⟨11, _⟩ => ⟨S512x1152, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_c_1 : Ref sig .tc := ⟨.hbm, 19, rfl⟩
abbrev main_call2_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1152x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FanRefIdeal.lean ====
abbrev S4096x1024 : Shape := ⟨2, ![4096, 1024]⟩
abbrev S1024x2832 : Shape := ⟨2, ![1024, 2832]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2832 : Shape := ⟨2, ![4096, 2832]⟩
abbrev S4096x192 : Shape := ⟨2, ![4096, 192]⟩
abbrev S4096x384 : Shape := ⟨2, ![4096, 384]⟩
abbrev S4096x16 : Shape := ⟨2, ![4096, 16]⟩
abbrev S4096x512 : Shape := ⟨2, ![4096, 512]⟩
abbrev S4096x256 : Shape := ⟨2, ![4096, 256]⟩
abbrev S4096x128 : Shape := ⟨2, ![4096, 128]⟩
abbrev S4096x1408 : Shape := ⟨2, ![4096, 1408]⟩
abbrev S4096x1152 : Shape := ⟨2, ![4096, 1152]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2832, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x2832, .f32⟩
  | .hbm, ⟨20, _⟩ => ⟨S4096x192, .f32⟩
  | .hbm, ⟨21, _⟩ => ⟨S4096x192, .f32⟩
  | .hbm, ⟨22, _⟩ => ⟨S4096x384, .f32⟩
  | .hbm, ⟨23, _⟩ => ⟨S4096x384, .f32⟩
  | .hbm, ⟨24, _⟩ => ⟨S4096x16, .f32⟩
  | .hbm, ⟨25, _⟩ => ⟨S4096x512, .f32⟩
  | .hbm, ⟨26, _⟩ => ⟨S4096x384, .f32⟩
  | .hbm, ⟨27, _⟩ => ⟨S4096x384, .f32⟩
  | .hbm, ⟨28, _⟩ => ⟨S4096x384, .f32⟩
  | .hbm, ⟨29, _⟩ => ⟨S_, .i32⟩
  | .hbm, ⟨30, _⟩ => ⟨S_, .f32⟩
  | .hbm, ⟨31, _⟩ => ⟨S4096x256, .f32⟩
  | .hbm, ⟨32, _⟩ => ⟨S_, .i32⟩
  | .hbm, ⟨33, _⟩ => ⟨S_, .f32⟩
  | .hbm, ⟨34, _⟩ => ⟨S4096x256, .f32⟩
  | .hbm, ⟨35, _⟩ => ⟨S_, .i32⟩
  | .hbm, ⟨36, _⟩ => ⟨S_, .f32⟩
  | .hbm, ⟨37, _⟩ => ⟨S4096x128, .f32⟩
  | .hbm, ⟨38, _⟩ => ⟨S4096x1408, .f32⟩
  | .hbm, ⟨39, _⟩ => ⟨S4096x1152, .f32⟩
  | .hbm, ⟨40, _⟩ => ⟨S4096x1152, .bf16⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_c_2 : Ref sig .tc := ⟨.hbm, 32, rfl⟩
abbrev main_call1_v0 : Ref sig .tc := ⟨.hbm, 33, rfl⟩
abbrev main_v24 : Ref sig .tc := ⟨.hbm, 34, rfl⟩
abbrev main_c_3 : Ref sig .tc := ⟨.hbm, 35, rfl⟩
abbrev main_call2_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Gla.lean ====
abbrev S4096x192 : Shape := ⟨2, ![4096, 192]⟩
abbrev S4096x384 : Shape := ⟨2, ![4096, 384]⟩
abbrev S4096x16 : Shape := ⟨2, ![4096, 16]⟩
abbrev S16x192 : Shape := ⟨2, ![16, 192]⟩
abbrev S192 : Shape := ⟨1, ![192]⟩
abbrev S384 : Shape := ⟨1, ![384]⟩
abbrev S_ : Shape := ⟨0, ![]⟩
abbrev S4096x256 : Shape := ⟨2, ![4096, 256]⟩
abbrev S4096x128 : Shape := ⟨2, ![4096, 128]⟩
abbrev S4096x1408 : Shape := ⟨2, ![4096, 1408]⟩
abbrev S128x256 : Shape := ⟨2, ![128, 256]⟩
abbrev S1x192 : Shape := ⟨2, ![1, 192]⟩
abbrev S1x256 : Shape := ⟨2, ![1, 256]⟩
abbrev S1x384 : Shape := ⟨2, ![1, 384]⟩
abbrev S256x384 : Shape := ⟨2, ![256, 384]⟩
abbrev S384x384 : Shape := ⟨2, ![384, 384]⟩
abbrev S64x64 : Shape := ⟨2, ![64, 64]⟩
abbrev S64x256x384 : Shape := ⟨3, ![64, 256, 384]⟩
abbrev S512x1408 : Shape := ⟨2, ![512, 1408]⟩
abbrev S512x384 : Shape := ⟨2, ![512, 384]⟩
abbrev S8x256x384 : Shape := ⟨3, ![8, 256, 384]⟩
abbrev S64x384 : Shape := ⟨2, ![64, 384]⟩
abbrev S512x128 : Shape := ⟨2, ![512, 128]⟩
abbrev S512x256 : Shape := ⟨2, ![512, 256]⟩
abbrev S64x256 : Shape := ⟨2, ![64, 256]⟩
abbrev S1x256x384 : Shape := ⟨3, ![1, 256, 384]⟩

abbrev nBuf : Space → Nat
  | .hbm => 114
  | .vmem => 13
  | .smem => 0
  | _ => 0

abbrev bufTy : (tb : Table) → Fin (tcTables nBuf tb) → BufTy
  | .hbm, ⟨0, _⟩ => ⟨S4096x192, .f32⟩
  | .hbm, ⟨1, _⟩ => ⟨S4096x192, .f32⟩
  | .hbm, ⟨2, _⟩ => ⟨S4096x384, .f32⟩
  | .hbm, ⟨3, _⟩ => ⟨S4096x384, .f32⟩
  | .hbm, ⟨4, _⟩ => ⟨S4096x16, .f32⟩
  | .hbm, ⟨5, _⟩ => ⟨S16x192, .f32⟩
  | .hbm, ⟨6, _⟩ => ⟨S192, .f32⟩
  | .hbm, ⟨7, _⟩ => ⟨S384, .f32⟩
  | .hbm, ⟨8, _⟩ => ⟨S_, .i32⟩
  | .hbm, ⟨9, _⟩ => ⟨S_, .f32⟩
  | .hbm, ⟨10, _⟩ => ⟨S4096x256, .f32⟩
  | .hbm, ⟨11, _⟩ => ⟨S_, .i32⟩
  | .hbm, ⟨12, _⟩ => ⟨S_, .f32⟩
  | .hbm, ⟨13, _⟩ => ⟨S4096x256, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x1408, .f32⟩
  | .hbm, ⟨18, _⟩ => ⟨S_, .i32⟩
  | .hbm, ⟨19, _⟩ => ⟨S_, .f32⟩
  | .hbm, ⟨20, _⟩ => ⟨S128x256, .f32⟩
  | .hbm, ⟨21, _⟩ => ⟨S1x192, .f32⟩
  | .hbm, ⟨22, _⟩ => ⟨S_, .i32⟩
  | .hbm, ⟨23, _⟩ => ⟨S_, .f32⟩
  | .hbm, ⟨24, _⟩ => ⟨S1x256, .f32⟩
  | .hbm, ⟨25, _⟩ => ⟨S1x384, .f32⟩
  | .hbm, ⟨26, _⟩ => ⟨S256x384, .i32⟩
  | .hbm, ⟨27, _⟩ => ⟨S256x384, .i32⟩
  | .hbm, ⟨28, _⟩ => ⟨S384x384, .i32⟩
  | .hbm, ⟨29, _⟩ => ⟨S384x384, .i32⟩
  | .hbm, ⟨30, _⟩ => ⟨S64x64, .i32⟩
  | .hbm, ⟨31, _⟩ => ⟨S64x64, .i32⟩
  | .hbm, ⟨32, _⟩ => ⟨S_, .i32⟩
  | .hbm, ⟨33, _⟩ => ⟨S256x384, .i32⟩
  | .hbm, ⟨34, _⟩ => ⟨S256x384, .i1⟩
  | .hbm, ⟨35, _⟩ => ⟨S256x384, .i32⟩
  | .hbm, ⟨36, _⟩ => ⟨S_, .i32⟩
  | .hbm, ⟨37, _⟩ => ⟨S256x384, .i32⟩
  | .hbm, ⟨38, _⟩ => ⟨S256x384, .i32⟩
  | .hbm, ⟨39, _⟩ => ⟨S_, .i32⟩
  | .hbm, ⟨40, _⟩ => ⟨S256x384, .i32⟩
  | .hbm, ⟨41, _⟩ => ⟨S256x384, .i1⟩
  | .hbm, ⟨42, _⟩ => ⟨S256x384, .i32⟩
  | .hbm, ⟨43, _⟩ => ⟨S256x384, .i32⟩
  | .hbm, ⟨44, _⟩ => ⟨S_, .i32⟩
  | .hbm, ⟨45, _⟩ => ⟨S256x384, .i32⟩
  | .hbm, ⟨46, _⟩ => ⟨S256x384, .i1⟩
  | .hbm, ⟨47, _⟩ => ⟨S256x384, .i32⟩
  | .hbm, ⟨48, _⟩ => ⟨S256x384, .i32⟩
  | .hbm, ⟨49, _⟩ => ⟨S_, .i32⟩
  | .hbm, ⟨50, _⟩ => ⟨S256x384, .i32⟩
  | .hbm, ⟨51, _⟩ => ⟨S256x384, .i1⟩
  | .hbm, ⟨52, _⟩ => ⟨S256x384, .i32⟩
  | .hbm, ⟨53, _⟩ => ⟨S_, .i32⟩
  | .hbm, ⟨54, _⟩ => ⟨S256x384, .i32⟩
  | .hbm, ⟨55, _⟩ => ⟨S256x384, .i32⟩
  | .hbm, ⟨56, _⟩ => ⟨S_, .i32⟩
  | .hbm, ⟨57, _⟩ => ⟨S256x384, .i32⟩
  | .hbm, ⟨58, _⟩ => ⟨S256x384, .i1⟩
  | .hbm, ⟨59, _⟩ => ⟨S256x384, .i32⟩
  | .hbm, ⟨60, _⟩ => ⟨S256x384, .i32⟩
  | .hbm, ⟨61, _⟩ => ⟨S_, .i32⟩
  | .hbm, ⟨62, _⟩ => ⟨S256x384, .i32⟩
  | .hbm, ⟨63, _⟩ => ⟨S256x384, .i1⟩
  | .hbm, ⟨64, _⟩ => ⟨S256x384, .i32⟩
  | .hbm, ⟨65, _⟩ => ⟨S256x384, .i32⟩
  | .hbm, ⟨66, _⟩ => ⟨S256x384, .i1⟩
  | .hbm, ⟨67, _⟩ => ⟨S_, .i32⟩
  | .hbm, ⟨68, _⟩ => ⟨S256x384, .i32⟩
  | .hbm, ⟨69, _⟩ => ⟨S256x384, .i1⟩
  | .hbm, ⟨70, _⟩ => ⟨S256x384, .i1⟩
  | .hbm, ⟨71, _⟩ => ⟨S256x384, .f32⟩
  | .hbm, ⟨72, _⟩ => ⟨S_, .i32⟩
  | .hbm, ⟨73, _⟩ => ⟨S384x384, .i32⟩
  | .hbm, ⟨74, _⟩ => ⟨S384x384, .i1⟩
  | .hbm, ⟨75, _⟩ => ⟨S384x384, .i32⟩
  | .hbm, ⟨76, _⟩ => ⟨S_, .i32⟩
  | .hbm, ⟨77, _⟩ => ⟨S384x384, .i32⟩
  | .hbm, ⟨78, _⟩ => ⟨S384x384, .i32⟩
  | .hbm, ⟨79, _⟩ => ⟨S_, .i32⟩
  | .hbm, ⟨80, _⟩ => ⟨S384x384, .i32⟩
  | .hbm, ⟨81, _⟩ => ⟨S384x384, .i1⟩
  | .hbm, ⟨82, _⟩ => ⟨S384x384, .i32⟩
  | .hbm, ⟨83, _⟩ => ⟨S384x384, .i32⟩
  | .hbm, ⟨84, _⟩ => ⟨S_, .i32⟩
  | .hbm, ⟨85, _⟩ => ⟨S384x384, .i32⟩
  | .hbm, ⟨86, _⟩ => ⟨S384x384, .i1⟩
  | .hbm, ⟨87, _⟩ => ⟨S384x384, .i32⟩
  | .hbm, ⟨88, _⟩ => ⟨S384x384, .i32⟩
  | .hbm, ⟨89, _⟩ => ⟨S_, .i32⟩
  | .hbm, ⟨90, _⟩ => ⟨S384x384, .i32⟩
  | .hbm, ⟨91, _⟩ => ⟨S384x384, .i1⟩
  | .hbm, ⟨92, _⟩ => ⟨S384x384, .i32⟩
  | .hbm, ⟨93, _⟩ => ⟨S_, .i32⟩
  | .hbm, ⟨94, _⟩ => ⟨S384x384, .i32⟩
  | .hbm, ⟨95, _⟩ => ⟨S384x384, .i32⟩
  | .hbm, ⟨96, _⟩ => ⟨S_, .i32⟩
  | .hbm, ⟨97, _⟩ => ⟨S384x384, .i32⟩
  | .hbm, ⟨98, _⟩ => ⟨S384x384, .i1⟩
  | .hbm, ⟨99, _⟩ => ⟨S384x384, .i32⟩
  | .hbm, ⟨100, _⟩ => ⟨S384x384, .i32⟩
  | .hbm, ⟨101, _⟩ => ⟨S_, .i32⟩
  | .hbm, ⟨102, _⟩ => ⟨S384x384, .i32⟩
  | .hbm, ⟨103, _⟩ => ⟨S384x384, .i1⟩
  | .hbm, ⟨104, _⟩ => ⟨S384x384, .i32⟩
  | .hbm, ⟨105, _⟩ => ⟨S384x384, .i32⟩
  | .hbm, ⟨106, _⟩ => ⟨S384x384, .i1⟩
  | .hbm, ⟨107, _⟩ => ⟨S384x384, .f32⟩
  | .hbm, ⟨108, _⟩ => ⟨S384x384, .bf16⟩
  | .hbm, ⟨109, _⟩ => ⟨S64x64, .i1⟩
  | .hbm, ⟨110, _⟩ => ⟨S64x64, .f32⟩
  | .hbm, ⟨111, _⟩ => ⟨S64x64, .bf16⟩
  | .hbm, ⟨112, _⟩ => ⟨S4096x384, .bf16⟩
  | .hbm, ⟨113, _⟩ => ⟨S64x256x384, .f32⟩
  | .local _ .vmem, ⟨0, _⟩ => ⟨S512x1408, .f32⟩
  | .local _ .vmem, ⟨1, _⟩ => ⟨S512x1408, .f32⟩
  | .local _ .vmem, ⟨2, _⟩ => ⟨S128x256, .f32⟩
  | .local _ .vmem, ⟨3, _⟩ => ⟨S1x256, .f32⟩
  | .local _ .vmem, ⟨4, _⟩ => ⟨S1x384, .f32⟩
  | .local _ .vmem, ⟨5, _⟩ => ⟨S256x384, .f32⟩
  | .local _ .vmem, ⟨6, _⟩ => ⟨S384x384, .bf16⟩
  | .local _ .vmem, ⟨7, _⟩ => ⟨S64x64, .bf16⟩
  | .local _ .vmem, ⟨8, _⟩ => ⟨S512x384, .bf16⟩
  | .local _ .vmem, ⟨9, _⟩ => ⟨S512x384, .bf16⟩
  | .local _ .vmem, ⟨10, _⟩ => ⟨S8x256x384, .f32⟩
  | .local _ .vmem, ⟨11, _⟩ => ⟨S8x256x384, .f32⟩
  | .local _ .vmem, ⟨12, _⟩ => ⟨S256x384, .f32⟩
  | _, _ => ⟨S4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_v3 : Ref sig .tc := ⟨.hbm, 17, rfl⟩
abbrev main_c_2 : Ref sig .tc := ⟨.hbm, 18, rfl⟩
abbrev main_call3_v0 : Ref sig .tc := ⟨.hbm, 19, rfl⟩
abbrev main_v4 : Ref sig .tc := ⟨.hbm, 20, rfl⟩
abbrev main_v5 : Ref sig .tc := ⟨.hbm, 21, rfl⟩
abbrev main_c_3 : Ref sig .tc := ⟨.hbm, 22, rfl⟩
abbrev main_call4_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_5 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_8 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_c_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_13 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_14 : Ref sig .tc := ⟨.hbm, 76, rfl⟩
abbrev main_v48 : Ref sig .tc := ⟨.hbm, 77, rfl⟩
abbrev main_v49 : Ref sig .tc := ⟨.hbm, 78, rfl⟩
abbrev main_c_15 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_16 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_17 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_18 : Ref sig .tc := ⟨.hbm, 93, rfl⟩
abbrev main_v61 : Ref sig .tc := ⟨.hbm, 94, rfl⟩
abbrev main_v62 : Ref sig .tc := ⟨.hbm, 95, rfl⟩
abbrev main_c_19 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_20 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77_0 : Ref sig .tc := ⟨.hbm, 112, rfl⟩
abbrev main_v77_1 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaRefIdeal.lean ====
abbrev S4096x192 : Shape := ⟨2, ![4096, 192]⟩
abbrev S4096x384 : Shape := ⟨2, ![4096, 384]⟩
abbrev S4096x16 : Shape := ⟨2, ![4096, 16]⟩
abbrev S16x192 : Shape := ⟨2, ![16, 192]⟩
abbrev S192 : Shape := ⟨1, ![192]⟩
abbrev S384 : Shape := ⟨1, ![384]⟩
abbrev S64x64x4x48 : Shape := ⟨4, ![64, 64, 4, 48]⟩
abbrev S64x64x4x96 : Shape := ⟨4, ![64, 64, 4, 96]⟩
abbrev S1x192 : Shape := ⟨2, ![1, 192]⟩
abbrev S_ : Shape := ⟨0, ![]⟩
abbrev S64x1x4x48 : Shape := ⟨4, ![64, 1, 4, 48]⟩
abbrev S64x4x48 : Shape := ⟨3, ![64, 4, 48]⟩
abbrev S64x4x48x96 : Shape := ⟨4, ![64, 4, 48, 96]⟩
abbrev S4x48x96 : Shape := ⟨3, ![4, 48, 96]⟩
abbrev S1x4x48 : Shape := ⟨3, ![1, 4, 48]⟩
abbrev S4x48 : Shape := ⟨2, ![4, 48]⟩
abbrev S1x4x48x96 : Shape := ⟨4, ![1, 4, 48, 96]⟩
abbrev S4x48x1 : Shape := ⟨3, ![4, 48, 1]⟩
abbrev S4x4 : Shape := ⟨2, ![4, 4]⟩
abbrev S1x4x1x4x1 : Shape := ⟨5, ![1, 4, 1, 4, 1]⟩
abbrev S64x4x48x1x96 : Shape := ⟨5, ![64, 4, 48, 1, 96]⟩
abbrev S64x4x48x4x96 : Shape := ⟨5, ![64, 4, 48, 4, 96]⟩
abbrev S64x192x384 : Shape := ⟨3, ![64, 192, 384]⟩
abbrev S64x256x384 : Shape := ⟨3, ![64, 256, 384]⟩

abbrev nBuf : Space → Nat
  | .hbm => 92
  | .vmem => 0
  | .smem => 0
  | _ => 0

abbrev bufTy : (tb : Table) → Fin (tcTables nBuf tb) → BufTy
  | .hbm, ⟨0, _⟩ => ⟨S4096x192, .f32⟩
  | .hbm, ⟨1, _⟩ => ⟨S4096x192, .f32⟩
  | .hbm, ⟨2, _⟩ => ⟨S4096x384, .f32⟩
  | .hbm, ⟨3, _⟩ => ⟨S4096x384, .f32⟩
  | .hbm, ⟨4, _⟩ => ⟨S4096x16, .f32⟩
  | .hbm, ⟨5, _⟩ => ⟨S16x192, .f32⟩
  | .hbm, ⟨6, _⟩ => ⟨S192, .f32⟩
  | .hbm, ⟨7, _⟩ => ⟨S384, .f32⟩
  | .hbm, ⟨8, _⟩ => ⟨S64x64x4x48, .f32⟩
  | .hbm, ⟨9, _⟩ => ⟨S64x64x4x96, .f32⟩
  | .hbm, ⟨10, _⟩ => ⟨S4096x192, .f32⟩
  | .hbm, ⟨11, _⟩ => ⟨S1x192, .f32⟩
  | .hbm, ⟨12, _⟩ => ⟨S4096x192, .f32⟩
  | .hbm, ⟨13, _⟩ => ⟨S4096x192, .f32⟩
  | .hbm, ⟨14, _⟩ => ⟨S4096x192, .f32⟩
  | .hbm, ⟨15, _⟩ => ⟨S_, .f32⟩
  | .hbm, ⟨16, _⟩ => ⟨S4096x192, .f32⟩
  | .hbm, ⟨17, _⟩ => ⟨S4096x192, .f32⟩
  | .hbm, ⟨18, _⟩ => ⟨S4096x192, .f32⟩
  | .hbm, ⟨19, _⟩ => ⟨S4096x192, .f32⟩
  | .hbm, ⟨20, _⟩ => ⟨S4096x192, .i1⟩
  | .hbm, ⟨21, _⟩ => ⟨S4096x192, .f32⟩
  | .hbm, ⟨22, _⟩ => ⟨S4096x192, .f32⟩
  | .hbm, ⟨23, _⟩ => ⟨S4096x192, .f32⟩
  | .hbm, ⟨24, _⟩ => ⟨S4096x192, .f32⟩
  | .hbm, ⟨25, _⟩ => ⟨S4096x192, .f32⟩
  | .hbm, ⟨26, _⟩ => ⟨S4096x192, .f32⟩
  | .hbm, ⟨27, _⟩ => ⟨S4096x192, .f32⟩
  | .hbm, ⟨28, _⟩ => ⟨S4096x192, .f32⟩
  | .hbm, ⟨29, _⟩ => ⟨S4096x192, .f32⟩
  | .hbm, ⟨30, _⟩ => ⟨S_, .f32⟩
  | .hbm, ⟨31, _⟩ => ⟨S4096x192, .f32⟩
  | .hbm, ⟨32, _⟩ => ⟨S4096x192, .f32⟩
  | .hbm, ⟨33, _⟩ => ⟨S64x64x4x48, .f32⟩
  | .hbm, ⟨34, _⟩ => ⟨S_, .f32⟩
  | .hbm, ⟨35, _⟩ => ⟨S_, .f32⟩
  | .hbm, ⟨36, _⟩ => ⟨S64x64x4x48, .f32⟩
  | .hbm, ⟨37, _⟩ => ⟨S64x1x4x48, .f32⟩
  | .hbm, ⟨38, _⟩ => ⟨S64x64x4x48, .f32⟩
  | .hbm, ⟨39, _⟩ => ⟨S64x64x4x48, .f32⟩
  | .hbm, ⟨40, _⟩ => ⟨S64x64x4x48, .f32⟩
  | .hbm, ⟨41, _⟩ => ⟨S64x64x4x48, .f32⟩
  | .hbm, ⟨42, _⟩ => ⟨S64x4x48, .f32⟩
  | .hbm, ⟨43, _⟩ => ⟨S64x4x48, .f32⟩
  | .hbm, ⟨44, _⟩ => ⟨S64x4x48x96, .f32⟩
  | .hbm, ⟨45, _⟩ => ⟨S_, .f32⟩
  | .hbm, ⟨46, _⟩ => ⟨S4x48x96, .f32⟩
  | .hbm, ⟨47, _⟩ => ⟨S_, .f32⟩
  | .hbm, ⟨48, _⟩ => ⟨S64x4x48x96, .f32⟩
  | .hbm, ⟨49, _⟩ => ⟨S_, .i32⟩
  | .hbm, ⟨50, _⟩ => ⟨S64x4x48, .f32⟩
  | .hbm, ⟨51, _⟩ => ⟨S64x4x48x96, .f32⟩
  | .hbm, ⟨52, _⟩ => ⟨S_, .i32⟩
  | .hbm, ⟨53, _⟩ => ⟨S4x48x96, .f32⟩
  | .hbm, ⟨54, _⟩ => ⟨S64x4x48x96, .f32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S1x4x48, .f32⟩
  | .hbm, ⟨60, _⟩ => ⟨S4x48, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x4x48x96, .f32⟩
  | .hbm, ⟨65, _⟩ => ⟨S4x48x96, .f32⟩
  | .hbm, ⟨66, _⟩ => ⟨S4x48x1, .f32⟩
  | .hbm, ⟨67, _⟩ => ⟨S4x48x96, .f32⟩
  | .hbm, ⟨68, _⟩ => ⟨S4x48x96, .f32⟩
  | .hbm, ⟨69, _⟩ => ⟨S4x48x96, .f32⟩
  | .hbm, ⟨70, _⟩ => ⟨S1x4x48x96, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S64x4x48x96, .f32⟩
  | .hbm, ⟨75, _⟩ => ⟨S_, .i32⟩
  | .hbm, ⟨76, _⟩ => ⟨S_, .i32⟩
  | .hbm, ⟨77, _⟩ => ⟨S4x4, .i32⟩
  | .hbm, ⟨78, _⟩ => ⟨S4x4, .i32⟩
  | .hbm, ⟨79, _⟩ => ⟨S4x4, .i1⟩
  | .hbm, ⟨80, _⟩ => ⟨S1x4x1x4x1, .i1⟩
  | .hbm, ⟨81, _⟩ => ⟨S64x4x48x1x96, .f32⟩
  | .hbm, ⟨82, _⟩ => ⟨S_, .f32⟩
  | .hbm, ⟨83, _⟩ => ⟨S_, .f32⟩
  | .hbm, ⟨84, _⟩ => ⟨S64x4x48x4x96, .i1⟩
  | .hbm, ⟨85, _⟩ => ⟨S64x4x48x4x96, .f32⟩
  | .hbm, ⟨86, _⟩ => ⟨S64x4x48x4x96, .f32⟩
  | .hbm, ⟨87, _⟩ => ⟨S64x4x48x4x96, .f32⟩
  | .hbm, ⟨88, _⟩ => ⟨S64x192x384, .f32⟩
  | .hbm, ⟨89, _⟩ => ⟨S_, .i32⟩
  | .hbm, ⟨90, _⟩ => ⟨S_, .f32⟩
  | .hbm, ⟨91, _⟩ => ⟨S64x256x384, .f32⟩
  | _, _ => ⟨S4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_call1_call0_cst : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_cst_1 : Ref sig .tc := ⟨.hbm, 47, rfl⟩
abbrev main_v20 : Ref sig .tc := ⟨.hbm, 48, rfl⟩
abbrev main_c : Ref sig .tc := ⟨.hbm, 49, rfl⟩
abbrev main_v21_0 : Ref sig .tc := ⟨.hbm, 50, rfl⟩
abbrev main_v21_1 : Ref sig .tc := ⟨.hbm, 51, rfl⟩
abbrev main_v21_2 : Ref sig .tc := ⟨.hbm, 52, rfl⟩
abbrev main_v21_3 : Ref sig .tc := ⟨.hbm, 53, rfl⟩
abbrev main_v21_4 : Ref sig .tc := ⟨.hbm, 54, rfl⟩
abbrev main_while0c_c_8 : Ref sig .tc := ⟨.hbm, 55, rfl⟩
abbrev main_while0c_v30 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_call2_v0 : Ref sig .tc := ⟨.hbm, 59, rfl⟩
abbrev main_while0b_v30 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_v0 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_v35 : Ref sig .tc := ⟨.hbm, 69, rfl⟩
abbrev main_while0b_call4_v0 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_v36 : Ref sig .tc := ⟨.hbm, 74, rfl⟩
abbrev main_while0b_c_8 : Ref sig .tc := ⟨.hbm, 75, rfl⟩
abbrev main_while0b_v37 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_2 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_v27 : Ref sig .tc := ⟨.hbm, 87, rfl⟩
abbrev main_v28 : Ref sig .tc := ⟨.hbm, 88, rfl⟩
abbrev main_c_3 : Ref sig .tc := ⟨.hbm, 89, rfl⟩
abbrev main_call6_v0 : Ref sig .tc := ⟨.hbm, 90, rfl⟩
abbrev main_v29 : Ref sig .tc := ⟨.hbm, 91, rfl⟩

abbrev nD : Nat := 1
abbrev τ : Topo := Topo.v7x

variable {F : FTy → Type} [FloatOps F]

abbrev main_while0_count : Scf.Loop 32 := ⟨0#32, 64#32, 1#32⟩
-- ==== Att.lean ====
abbrev S4096x384 : Shape := ⟨2, ![4096, 384]⟩
abbrev S6x257 : Shape := ⟨2, ![6, 257]⟩
abbrev S384x1024 : Shape := ⟨2, ![384, 1024]⟩
abbrev S_ : Shape := ⟨0, ![]⟩
abbrev S8x384 : Shape := ⟨2, ![8, 384]⟩
abbrev S4096x1152 : Shape := ⟨2, ![4096, 1152]⟩
abbrev S16x3x512x128 : Shape := ⟨4, ![16, 3, 512, 128]⟩
abbrev S256x384 : Shape := ⟨2, ![256, 384]⟩
abbrev S1x3x512x128 : Shape := ⟨4, ![1, 3, 512, 128]⟩
abbrev S4608x384 : Shape := ⟨2, ![4608, 384]⟩
abbrev S3x512x768 : Shape := ⟨3, ![3, 512, 768]⟩
abbrev S2 : Shape := ⟨1, ![2]⟩
abbrev S1 : Shape := ⟨1, ![1]⟩
abbrev S512x384 : Shape := ⟨2, ![512, 384]⟩
abbrev S8x1024 : Shape := ⟨2, ![8, 1024]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S256x128 : Shape := ⟨2, ![256, 128]⟩
abbrev S768x128 : Shape := ⟨2, ![768, 128]⟩
abbrev S512x128 : Shape := ⟨2, ![512, 128]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩
abbrev S1x1x512x128 : Shape := ⟨4, ![1, 1, 512, 128]⟩

abbrev nBuf : Space → Nat
  | .hbm => 35
  | .vmem => 11
  | .smem => 0
  | _ => 0

abbrev bufTy : (tb : Table) → Fin (tcTables nBuf tb) → BufTy
  | .hbm, ⟨0, _⟩ => ⟨S4096x384, .f32⟩
  | .hbm, ⟨1, _⟩ => ⟨S4096x384, .f32⟩
  | .hbm, ⟨2, _⟩ => ⟨S4096x384, .f32⟩
  | .hbm, ⟨3, _⟩ => ⟨S6x257, .f32⟩
  | .hbm, ⟨4, _⟩ => ⟨S384x1024, .i32⟩
  | .hbm, ⟨5, _⟩ => ⟨S384x1024, .i32⟩
  | .hbm, ⟨6, _⟩ => ⟨S_, .i32⟩
  | .hbm, ⟨7, _⟩ => ⟨S384x1024, .i32⟩
  | .hbm, ⟨8, _⟩ => ⟨S384x1024, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S384x1024, .i32⟩
  | .hbm, ⟨13, _⟩ => ⟨S384x1024, .i32⟩
  | .hbm, ⟨14, _⟩ => ⟨S_, .i32⟩
  | .hbm, ⟨15, _⟩ => ⟨S384x1024, .i32⟩
  | .hbm, ⟨16, _⟩ => ⟨S384x1024, .i32⟩
  | .hbm, ⟨17, _⟩ => ⟨S_, .i32⟩
  | .hbm, ⟨18, _⟩ => ⟨S384x1024, .i32⟩
  | .hbm, ⟨19, _⟩ => ⟨S384x1024, .i32⟩
  | .hbm, ⟨20, _⟩ => ⟨S384x1024, .i1⟩
  | .hbm, ⟨21, _⟩ => ⟨S_, .i32⟩
  | .hbm, ⟨22, _⟩ => ⟨S384x1024, .i32⟩
  | .hbm, ⟨23, _⟩ => ⟨S384x1024, .i1⟩
  | .hbm, ⟨24, _⟩ => ⟨S384x1024, .i1⟩
  | .hbm, ⟨25, _⟩ => ⟨S_, .i32⟩
  | .hbm, ⟨26, _⟩ => ⟨S_, .f32⟩
  | .hbm, ⟨27, _⟩ => ⟨S8x384, .f32⟩
  | .hbm, ⟨28, _⟩ => ⟨S4096x1152, .f32⟩
  | .hbm, ⟨29, _⟩ => ⟨S4096x1152, .bf16⟩
  | .hbm, ⟨30, _⟩ => ⟨S4096x1152, .f32⟩
  | .hbm, ⟨31, _⟩ => ⟨S4096x1152, .bf16⟩
  | .hbm, ⟨32, _⟩ => ⟨S384x1024, .f32⟩
  | .hbm, ⟨33, _⟩ => ⟨S4096x384, .bf16⟩
  | .hbm, ⟨34, _⟩ => ⟨S16x3x512x128, .f32⟩
  | .local _ .vmem, ⟨0, _⟩ => ⟨S256x384, .bf16⟩
  | .local _ .vmem, ⟨1, _⟩ => ⟨S256x384, .bf16⟩
  | .local _ .vmem, ⟨2, _⟩ => ⟨S8x384, .f32⟩
  | .local _ .vmem, ⟨3, _⟩ => ⟨S384x1024, .f32⟩
  | .local _ .vmem, ⟨4, _⟩ => ⟨S256x384, .bf16⟩
  | .local _ .vmem, ⟨5, _⟩ => ⟨S256x384, .bf16⟩
  | .local _ .vmem, ⟨6, _⟩ => ⟨S1x3x512x128, .f32⟩
  | .local _ .vmem, ⟨7, _⟩ => ⟨S1x3x512x128, .f32⟩
  | .local _ .vmem, ⟨8, _⟩ => ⟨S4608x384, .bf16⟩
  | .local _ .vmem, ⟨9, _⟩ => ⟨S4608x384, .bf16⟩
  | .local _ .vmem, ⟨10, _⟩ => ⟨S3x512x768, .f32⟩
  | _, _ => ⟨S4096x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v7 : BitVec 32 := Scalar.muli arg0 c256_i32
  v7
def k0_off1 (i : grid0.Coords) : Fin 2 → Nat :=
  let arg0 : BitVec 32 := BitVec.ofNat 32 (i 0).val
  let c256_i32 : BitVec 32 := 256#32
  let v7 : BitVec 32 := Scalar.muli arg0 c256_i32
  let v8 : BitVec 32 := v7
  let v9 : Index := Scalar.indexCast v8
  let c0 : Index := 0#32
  ![v9.toNat, 0]
def k0_off2 (i : grid0.Coords) : Fin 2 → Nat :=
  let arg0 : BitVec 32 := BitVec.ofNat 32 (i 0).val
  let c256_i32 : BitVec 32 := 256#32
  let v7 : BitVec 32 := Scalar.muli arg0 c256_i32
  let v8 : BitVec 32 := v7
  let v57 : Index := Scalar.indexCast v8
  let c128 : Index := 128#32
  ![v57.toNat, 128]
def k0_off3 (i : grid0.Coords) : Fin 2 → Nat :=
  let arg0 : BitVec 32 := BitVec.ofNat 32 (i 0).val
  let c256_i32 : BitVec 32 := 256#32
  let v7 : BitVec 32 := Scalar.muli arg0 c256_i32
  let v8 : BitVec 32 := v7
  let v105 : Index := Scalar.indexCast v8
  let c256 : Index := 256#32
  ![v105.toNat, 256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttRefIdeal.lean ====
abbrev S4096x384 : Shape := ⟨2, ![4096, 384]⟩
abbrev S6x257 : Shape := ⟨2, ![6, 257]⟩
abbrev S64x64x6x64 : Shape := ⟨4, ![64, 64, 6, 64]⟩
abbrev S_ : Shape := ⟨0, ![]⟩
abbrev S72x64x6x64 : Shape := ⟨4, ![72, 64, 6, 64]⟩
abbrev S64x576x6x64 : Shape := ⟨4, ![64, 576, 6, 64]⟩
abbrev S64x6x64x576 : Shape := ⟨4, ![64, 6, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S6x64x576 : Shape := ⟨3, ![6, 64, 576]⟩
abbrev S9 : Shape := ⟨1, ![9]⟩
abbrev S1 : Shape := ⟨1, ![1]⟩
abbrev S8 : Shape := ⟨1, ![8]⟩
abbrev S9x1 : Shape := ⟨2, ![9, 1]⟩
abbrev S576x1 : Shape := ⟨2, ![576, 1]⟩
abbrev S1x1 : Shape := ⟨2, ![1, 1]⟩
abbrev S64x1x1x576 : Shape := ⟨4, ![64, 1, 1, 576]⟩
abbrev S1x6x64x576 : Shape := ⟨4, ![1, 6, 64, 576]⟩
abbrev S64x6x64 : Shape := ⟨3, ![64, 6, 64]⟩
abbrev S64x6x64x1 : Shape := ⟨4, ![64, 6, 64, 1]⟩
abbrev S64x6x64x64 : Shape := ⟨4, ![64, 6, 64, 64]⟩

abbrev nBuf : Space → Nat
  | .hbm => 164
  | .vmem => 0
  | .smem => 0
  | _ => 0

abbrev hbmTy0_0 (i : Nat) : BufTy := match i % 128 with
  | 0 => ⟨S4096x384, .f32⟩
  | 1 => ⟨S4096x384, .f32⟩
  | 2 => ⟨S4096x384, .f32⟩
  | 3 => ⟨S6x257, .f32⟩
  | 4 => ⟨S64x64x6x64, .f32⟩
  | 5 => ⟨S64x64x6x64, .f32⟩
  | 6 => ⟨S64x64x6x64, .f32⟩
  | 7 => ⟨S_, .i32⟩
  | 8 => ⟨S_, .f32⟩
  | 9 => ⟨S72x64x6x64, .f32⟩
  | 10 => ⟨S_, .i32⟩
  | 11 => ⟨S_, .f32⟩
  | 12 => ⟨S72x64x6x64, .f32⟩
  | 13 => ⟨S64x64x6x64, .f32⟩
  | 14 => ⟨S64x64x6x64, .f32⟩
  | 15 => ⟨S64x64x6x64, .f32⟩
  | 16 => ⟨S64x64x6x64, .f32⟩
  | 17 => ⟨S64x64x6x64, .f32⟩
  | 18 => ⟨S64x64x6x64, .f32⟩
  | 19 => ⟨S64x64x6x64, .f32⟩
  | 20 => ⟨S64x64x6x64, .f32⟩
  | 21 => ⟨S64x64x6x64, .f32⟩
  | 22 => ⟨S64x576x6x64, .f32⟩
  | 23 => ⟨S64x64x6x64, .f32⟩
  | 24 => ⟨S64x64x6x64, .f32⟩
  | 25 => ⟨S64x64x6x64, .f32⟩
  | 26 => ⟨S64x64x6x64, .f32⟩
  | 27 => ⟨S64x64x6x64, .f32⟩
  | 28 => ⟨S64x64x6x64, .f32⟩
  | 29 => ⟨S64x64x6x64, .f32⟩
  | 30 => ⟨S64x64x6x64, .f32⟩
  | 31 => ⟨S64x64x6x64, .f32⟩
  | 32 => ⟨S64x576x6x64, .f32⟩
  | 33 => ⟨S64x6x64x576, .f32⟩
  | 34 => ⟨S_, .f32⟩
  | 35 => ⟨S64x6x64x576, .f32⟩
  | 36 => ⟨S64x6x64x576, .f32⟩
  | 37 => ⟨S64, .i32⟩
  | 38 => ⟨S64x1, .i32⟩
  | 39 => ⟨S576, .i32⟩
  | 40 => ⟨S1x576, .i32⟩
  | 41 => ⟨S_, .i32⟩
  | 42 => ⟨S1x576, .i32⟩
  | 43 => ⟨S1x576, .i32⟩
  | 44 => ⟨S64x576, .i32⟩
  | 45 => ⟨S64x576, .i32⟩
  | 46 => ⟨S64x576, .i32⟩
  | 47 => ⟨S_, .i32⟩
  | 48 => ⟨S_, .i32⟩
  | 49 => ⟨S_, .i32⟩
  | 50 => ⟨S64x576, .i32⟩
  | 51 => ⟨S64x576, .i32⟩
  | 52 => ⟨S_, .i32⟩
  | 53 => ⟨S64x576, .i32⟩
  | 54 => ⟨S64x576, .i32⟩
  | 55 => ⟨S_, .i32⟩
  | 56 => ⟨S64x576, .i32⟩
  | 57 => ⟨S64x576, .i32⟩
  | 58 => ⟨S_, .i32⟩
  | 59 => ⟨S64x576, .i32⟩
  | 60 => ⟨S64x576, .i1⟩
  | 61 => ⟨S_, .i32⟩
  | 62 => ⟨S64x576, .i32⟩
  | 63 => ⟨S64x576, .i32⟩
  | 64 => ⟨S64x576, .i32⟩
  | 65 => ⟨S64x576x1, .i32⟩
  | 66 => ⟨S6x64x576, .f32⟩
  | 67 => ⟨S64, .i32⟩
  | 68 => ⟨S64x1, .i32⟩
  | 69 => ⟨S_, .i32⟩
  | 70 => ⟨S64x1, .i32⟩
  | 71 => ⟨S64x1, .i32⟩
  | 72 => ⟨S9, .i32⟩
  | 73 => ⟨S_, .i32⟩
  | 74 => ⟨S1, .i32⟩
  | 75 => ⟨S9, .i32⟩
  | 76 => ⟨S1, .i32⟩
  | 77 => ⟨S8, .i32⟩
  | 78 => ⟨S9, .i32⟩
  | 79 => ⟨S_, .i32⟩
  | 80 => ⟨S1, .i32⟩
  | 81 => ⟨S9, .i32⟩
  | 82 => ⟨S_, .i32⟩
  | 83 => ⟨S9, .i32⟩
  | 84 => ⟨S9, .i32⟩
  | 85 => ⟨S9, .i32⟩
  | 86 => ⟨S_, .i32⟩
  | 87 => ⟨S_, .i32⟩
  | 88 => ⟨S9, .i32⟩
  | 89 => ⟨S_, .i32⟩
  | 90 => ⟨S576, .i32⟩
  | 91 => ⟨S_, .i32⟩
  | 92 => ⟨S9, .i32⟩
  | 93 => ⟨S9, .i1⟩
  | 94 => ⟨S_, .i32⟩
  | 95 => ⟨S9, .i32⟩
  | 96 => ⟨S9, .i32⟩
  | 97 => ⟨S9, .i32⟩
  | 98 => ⟨S9x1, .i32⟩
  | 99 => ⟨S_, .i32⟩
  | 100 => ⟨S9, .i32⟩
  | 101 => ⟨S576, .i32⟩
  | 102 => ⟨S_, .i32⟩
  | 103 => ⟨S_, .i32⟩
  | 104 => ⟨S576, .i32⟩
  | 105 => ⟨S_, .i32⟩
  | 106 => ⟨S576, .i32⟩
  | 107 => ⟨S576, .i32⟩
  | 108 => ⟨S_, .i32⟩
  | 109 => ⟨S576, .i32⟩
  | 110 => ⟨S576, .i1⟩
  | 111 => ⟨S_, .i32⟩
  | 112 => ⟨S576, .i32⟩
  | 113 => ⟨S576, .i32⟩
  | 114 => ⟨S576, .i32⟩
  | 115 => ⟨S576x1, .i32⟩
  | 116 => ⟨S1, .i32⟩
  | 117 => ⟨S_, .i32⟩
  | 118 => ⟨S576x1, .i32⟩
  | 119 => ⟨S576x1, .i1⟩
  | 120 => ⟨S1x1, .i32⟩
  | 121 => ⟨S576x1, .i32⟩
  | 122 => ⟨S576x1, .i1⟩
  | 123 => ⟨S576x1, .i1⟩
  | 124 => ⟨S_, .i1⟩
  | 125 => ⟨S576, .i1⟩
  | 126 => ⟨S576, .i32⟩
  | 127 => ⟨S_, .i32⟩
  | _ => ⟨S4096x384, .f32⟩

abbrev hbmTy0_1 (i : Nat) : BufTy := match i % 128 with
  | 0 => ⟨S576, .i32⟩
  | 1 => ⟨S576, .i32⟩
  | 2 => ⟨S1x576, .i32⟩
  | 3 => ⟨S64x576, .i32⟩
  | 4 => ⟨S64x576, .i32⟩
  | 5 => ⟨S64x576, .i32⟩
  | 6 => ⟨S_, .i32⟩
  | 7 => ⟨S64x576, .i32⟩
  | 8 => ⟨S64x576, .i1⟩
  | 9 => ⟨S64x1x1x576, .i1⟩
  | 10 => ⟨S1x6x64x576, .f32⟩
  | 11 => ⟨S64x6x64x576, .f32⟩
  | 12 => ⟨S64x6x64x576, .f32⟩
  | 13 => ⟨S_, .f32⟩
  | 14 => ⟨S_, .f32⟩
  | 15 => ⟨S64x6x64x576, .i1⟩
  | 16 => ⟨S64x6x64x576, .f32⟩
  | 17 => ⟨S64x6x64x576, .f32⟩
  | 18 => ⟨S_, .f32⟩
  | 19 => ⟨S64x6x64, .f32⟩
  | 20 => ⟨S_, .f32⟩
  | 21 => ⟨S64x6x64, .f32⟩
  | 22 => ⟨S64x6x64, .f32⟩
  | 23 => ⟨S64x6x64x1, .f32⟩
  | 24 => ⟨S64x6x64x576, .f32⟩
  | 25 => ⟨S64x6x64x576, .f32⟩
  | 26 => ⟨S64x6x64x576, .f32⟩
  | 27 => ⟨S_, .f32⟩
  | 28 => ⟨S64x6x64, .f32⟩
  | 29 => ⟨S64x6x64x1, .f32⟩
  | 30 => ⟨S64x6x64x576, .f32⟩
  | 31 => ⟨S64x6x64x576, .f32⟩
  | 32 => ⟨S64x6x64x64, .f32⟩
  | 33 => ⟨S64x64x6x64, .f32⟩
  | 34 => ⟨S4096x384, .f32⟩
  | 35 => ⟨S4096x384, .bf16⟩
  | _ => ⟨S4096x384, .f32⟩

abbrev hbmTy (i : Nat) : BufTy := match i / 128 with
  | 0 => hbmTy0_0 i
  | 1 => hbmTy0_1 i
  | _ => ⟨S4096x384, .f32⟩

abbrev bufTy : (tb : Table) → Fin (tcTables nBuf tb) → BufTy
  | .hbm, ⟨i, _⟩ => hbmTy i
  | _, _ => ⟨S4096x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_1 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_8 : Ref sig .tc := ⟨.hbm, 73, rfl⟩
abbrev main_v52 : Ref sig .tc := ⟨.hbm, 74, rfl⟩
abbrev main_v53 : Ref sig .tc := ⟨.hbm, 75, rfl⟩
abbrev main_call3_v0 : Ref sig .tc := ⟨.hbm, 76, rfl⟩
abbrev main_call3_v1 : Ref sig .tc := ⟨.hbm, 77, rfl⟩
abbrev main_v54 : Ref sig .tc := ⟨.hbm, 78, rfl⟩
abbrev main_c_9 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_call4_v0 : Ref sig .tc := ⟨.hbm, 85, rfl⟩
abbrev main_call4_call0_c : Ref sig .tc := ⟨.hbm, 86, rfl⟩
abbrev main_call4_call0_v0 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_call5_call0_c : Ref sig .tc := ⟨.hbm, 102, rfl⟩
abbrev main_call5_call0_v0 : Ref sig .tc := ⟨.hbm, 103, rfl⟩
abbrev main_v69 : Ref sig .tc := ⟨.hbm, 104, rfl⟩
abbrev main_c_15 : Ref sig .tc := ⟨.hbm, 105, rfl⟩
abbrev main_v70 : Ref sig .tc := ⟨.hbm, 106, rfl⟩
abbrev main_v71 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_c_1 : Ref sig .tc := ⟨.hbm, 116, rfl⟩
abbrev main_call6_c_2 : Ref sig .tc := ⟨.hbm, 117, rfl⟩
abbrev main_call6_v6 : Ref sig .tc := ⟨.hbm, 118, rfl⟩
abbrev main_call6_v7 : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_c_3 : Ref sig .tc := ⟨.hbm, 124, rfl⟩
abbrev main_call6_v12 : Ref sig .tc := ⟨.hbm, 125, rfl⟩
abbrev main_call6_v13 : Ref sig .tc := ⟨.hbm, 126, rfl⟩
abbrev main_call6_c_4 : Ref sig .tc := ⟨.hbm, 127, rfl⟩
abbrev main_call6_v14 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_c_16 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_17 : Ref sig .tc := ⟨.hbm, 141, rfl⟩
abbrev main_call7_v0 : Ref sig .tc := ⟨.hbm, 142, rfl⟩
abbrev main_call7_v1 : Ref sig .tc := ⟨.hbm, 143, rfl⟩
abbrev main_call7_v2 : Ref sig .tc := ⟨.hbm, 144, rfl⟩
abbrev main_v83 : Ref sig .tc := ⟨.hbm, 145, rfl⟩
abbrev main_cst_18 : Ref sig .tc := ⟨.hbm, 146, rfl⟩
abbrev main_v84 : Ref sig .tc := ⟨.hbm, 147, rfl⟩
abbrev main_cst_19 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_cst_20 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩

abbrev nD : Nat := 1
abbrev τ : Topo := Topo.v7x

variable {F : FTy → Type} [FloatOps F]
-- ==== Proof.Lits.lean ====
/- The float literals of the programs as real numbers. -/
module

public import Idealize.ShloMosaic.Lib.IdealHost

@[expose] public section

noncomputable section

namespace Cert.Lits

open Idealize.ShloMosaic

theorem two_f32 : Ideal.ofBits .f32 0x40000000#32 = ((2 : ℝ) : EReal) := by
  simp [Ideal.ofBits, Ideal.ieee, -EReal.coe_mul]; norm_num

theorem half_f32 : Ideal.ofBits .f32 0x3F000000#32 = ((1 / 2 : ℝ) : EReal) := by
  simp [Ideal.ofBits, Ideal.ieee, -EReal.coe_mul]; norm_num

theorem thousand_f32 : Ideal.ofBits .f32 0x44800000#32 = ((1024 : ℝ) : EReal) := by
  simp [Ideal.ofBits, Ideal.ieee, -EReal.coe_mul]; norm_num

theorem thousandth_f32 : Ideal.ofBits .f32 0x3A800000#32 = ((1 / 1024 : ℝ) : EReal) := by
  simp [Ideal.ofBits, Ideal.ieee, -EReal.coe_mul]; norm_num

theorem neg_half_f32 : Ideal.ofBits .f32 0xBF000000#32 = ((-(1 / 2) : ℝ) : EReal) := by
  simp [Ideal.ofBits, Ideal.ieee, -EReal.coe_mul]; norm_num

/-- The small number added under every root is a positive real. -/
theorem eps_f32 : ∃ e : ℝ, 0 < e ∧ Ideal.ofBits .f32 0x358637BD#32 = (e : EReal) := by
  refine ⟨_, ?_, by simp [Ideal.ofBits, Ideal.ieee, -EReal.coe_mul]; rfl⟩
  norm_num

end Cert.Lits
end
-- ==== Proof.Down.lean ====
/- The squared-relu backward product `du = (dh2 · w_downᵀ) · 2 · max(u, 0)`: what the tiled call leaves in its
   result array is the derivative of `(max(u, 0))² · w_down` against the cotangent `dh2`. -/
module

public import proofs.«01_k».proof.Proof.Gen.DownIdeal.Value
public import proofs.«01_k».proof.Proof.Gen.DownRefIdeal.Run
public import proofs.«01_k».proof.Proof.Lits
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.DownIdeal.Down

open Cert.DownIdeal Cert.DownIdeal.Gen
open Idealize.ShloMosaic Idealize.ShloMosaic.TcCoe Idealize.SL.Sem
open Idealize.ShloMosaic.Pipeline (Dat)

/-- `p · 2 · max(u, 0)` is the derivative of the square of the positive part, branch by branch. -/
theorem relu_sq (p u : EReal) :
    (if 0 < u then max u 0 * p + p * max u 0 else 0) = p * (((2 : ℝ) : EReal) * max u 0) := by
  split_ifs with h
  · have hu : (0 : EReal) ≤ max u 0 := le_max_right _ _
    have h2 : ((2 : ℝ) : EReal) * max u 0 = max u 0 + max u 0 := by
      rw [show ((2 : ℝ) : EReal) = 1 + 1 by norm_cast, EReal.right_distrib_of_nonneg zero_le_one zero_le_one, one_mul]
    rw [mul_comm (max u 0) p, h2]
    exact (EReal.left_distrib_of_nonneg hu hu).symm
  · rw [max_eq_right (not_lt.1 h), mul_zero, mul_zero]

/-- The derivative at one entry: row `r` of the cotangent against row `s` of the weights, times `2 max(u, 0)`. -/
def du (dh w : FVec Ideal S4096x1024 .f32) (u : FVec Ideal S4096x4096 .f32) : FVec Ideal S4096x4096 .bf16 := fun i =>
  (∑ k : Fin 1024, dh (ix2 (i 0) k) * w (ix2 (i 1) k)) * (((2 : ℝ) : EReal) * max (u i) 0)

/-- What one tile's body stores. -/
theorem tile (dh : FVec Ideal S1024x1024 .f32) (w u : FVec Ideal S1024x1024 .bf16) (j : S1024x1024.Idx) :
    k0_pay1 (F := Ideal) dh w u j
      = (∑ k : Fin 1024, dh (ix2 (j 0) k) * w (ix2 (j 1) k)) * (((2 : ℝ) : EReal) * max (u j) 0) := by
  pointwise [k0_pay1]
  rw [Lits.two_f32]

theorem places : ∀ t : Fin cfg0.N, win0_0.index t = ![(grid0.coords t 0).val, 0] ∧ win0_1.index t = ![(grid0.coords t 1).val, 0]
    ∧ win0_2.index t = ![(grid0.coords t 0).val, (grid0.coords t 1).val]
    ∧ win0_3.index t = ![(grid0.coords t 0).val, (grid0.coords t 1).val] :=
  (by decide +kernel : ∀ t : Fin grid0.N, _)

variable (m : (ℓ : Loc nD τ sig) → Buf (Elt Ideal) ℓ)

/-- The call's result array. -/
theorem result (c : Dev nD) : (Gen.dats m 0 c).arrAt 3 (cfgs 0).N
    = du (m ((c : Thread nD τ).loc main_arg0)) (m ((c : Thread nD τ).loc main_arg1)) (m ((c : Thread nD τ).loc main_arg2)) := by
  refine (Gen.dats m 0 c).arrAt_eq_of_covers 3 _ (by decide +kernel) fun t _ y => ?_
  blk_simp
  rw [after0_3]; frame_out
  rw [tile]
  simp only [du]
  blk_point [iblk, V, places t]

/-- The tiled call and the derivative end with the same array. -/
theorem same : Cert.algebraic_DownIdeal_DownRefIdeal := by
  pair_intro
  · run_from Cert.DownIdeal.Gen.run_main m g
  · run_from Cert.DownRefIdeal.Value.run m' g'
    rw [result]
    funext i
    pointwise [du]
    exact relu_sq _ _

end Cert.DownIdeal.Down
end
-- ==== Proof.Norm.lean ====
/- Facts over the extended reals that the rms norm's gradient takes, wherever it stands. -/
module

public import proofs.«01_k».proof.Proof.Lits
public import Idealize.ShloMosaic.PureOps.Ideal.Laws

@[expose] public section

noncomputable section

namespace Cert.Norm

open Idealize.ShloMosaic

/-- The square of an extended real is not negative. -/
theorem sq_nonneg (x : EReal) : 0 ≤ x * x := by
  rcases le_total 0 x with h | h
  · exact mul_nonneg h h
  · rw [← neg_mul_neg]
    exact mul_nonneg (by simpa using EReal.neg_le_neg_iff.2 h) (by simpa using EReal.neg_le_neg_iff.2 h)

/-- The mean square plus the norm's small constant is positive. -/
theorem mean_sq_pos {n : ℕ} (x : Fin n → EReal) :
    0 < Ideal.div (∑ k, x k * x k) (Ideal.ofBits .f32 0x44800000#32) + Ideal.ofBits .f32 0x358637BD#32 := by
  obtain ⟨e, he, h⟩ := Lits.eps_f32
  rw [h, Lits.thousand_f32, Ideal.div_coe (by norm_num)]
  refine lt_of_lt_of_le (b := (0 : EReal) + e) ?_ (add_le_add_left (mul_nonneg (Finset.sum_nonneg fun k _ => sq_nonneg _) ?_) _)
  · rw [zero_add]; exact_mod_cast he
  · norm_num

/-- The reciprocal square root over its own argument is its cube. -/
theorem rsqrt_div {x : EReal} (h : 0 < x) :
    Ideal.div (Ideal.rsqrt x) x = Ideal.rsqrt x * Ideal.rsqrt x * Ideal.rsqrt x := by
  induction x with
  | bot => exact absurd h (by simp)
  | top => simp [Ideal.div]
  | coe r =>
    have hr : 0 < r := by exact_mod_cast h
    have hs : (0 : ℝ) < Real.sqrt r := Real.sqrt_pos.2 hr
    rw [Ideal.div_coe hr.ne', show Ideal.rsqrt (r : EReal) = ((Real.sqrt r)⁻¹ : ℝ) by
      simp [hr.not_gt, hr.ne']]
    rw [← EReal.coe_mul, ← EReal.coe_mul, ← EReal.coe_mul]
    congr 1
    have := Real.mul_self_sqrt hr.le
    nth_rewrite 2 [← this]
    field_simp

/-- A sum is scaled term by term by a real that is not negative. -/
theorem mul_sum_coe {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- Twice, as a sum. -/
theorem two_mul' (x : EReal) : ((2 : ℝ) : EReal) * x = x + x := by
  rw [show ((2 : ℝ) : EReal) = 1 + 1 by norm_cast, EReal.right_distrib_of_nonneg zero_le_one zero_le_one, one_mul]

/-- The gradient of the norm at one entry: what the derivative of `x · rsqrt (mean x² + ε)` by its own
    argument leaves (the right side), against the closed form the tiled calls take (the left one). -/
theorem grad {n : ℕ} (x d : Fin n → EReal) (j : Fin n) (r : EReal)
    (hr : r = Ideal.rsqrt (Ideal.div (∑ k, x k * x k) (Ideal.ofBits .f32 0x44800000#32) + Ideal.ofBits .f32 0x358637BD#32)) :
    r * d j - x j * (r * r * r * Ideal.div (∑ k, x k * d k) (Ideal.ofBits .f32 0x44800000#32))
      = d j * r + (x j * Ideal.div ((∑ k, x k * d k) * (Ideal.ofBits .f32 0xBF000000#32
            * Ideal.div r (Ideal.div (∑ k, x k * x k) (Ideal.ofBits .f32 0x44800000#32) + Ideal.ofBits .f32 0x358637BD#32)))
            (Ideal.ofBits .f32 0x44800000#32)
          + Ideal.div ((∑ k, x k * d k) * (Ideal.ofBits .f32 0xBF000000#32
            * Ideal.div r (Ideal.div (∑ k, x k * x k) (Ideal.ofBits .f32 0x44800000#32) + Ideal.ofBits .f32 0x358637BD#32)))
            (Ideal.ofBits .f32 0x44800000#32) * x j) := by
  have hx := mean_sq_pos x
  subst hr
  rw [rsqrt_div hx, Lits.thousand_f32, Lits.neg_half_f32]
  generalize Ideal.rsqrt _ = r
  rw [Ideal.div_coe (by norm_num), Ideal.div_coe (by norm_num)]
  rw [sub_eq_add_neg, mul_comm r (d j), mul_comm _ (x j), ← two_mul']
  congr 1
  generalize (∑ k, x k * d k) = S
  generalize x j = y
  rw [show (-(y * (r * r * r * (S * ((1 / 1024 : ℝ) : EReal)))) : EReal) = ((2 : ℝ) : EReal) * (((-(1 / 2) : ℝ)) : EReal) * (y * (r * r * r * (S * ((1 / 1024 : ℝ) : EReal)))) by
    rw [← EReal.coe_mul, show ((2 : ℝ) * -(1 / 2)) = -1 by norm_num, EReal.coe_neg, EReal.coe_one, neg_one_mul]]
  ac_rfl

/-- One row's scale, from the row. -/
def scl {n : ℕ} (x : Fin n → EReal) : EReal :=
  Ideal.rsqrt (Ideal.div (∑ k, x k * x k) (Ideal.ofBits .f32 0x44800000#32) + Ideal.ofBits .f32 0x358637BD#32)

/-- The gradient by a row at a column, in the tiled calls' closed form: what reaches the row beside the norm, and the
    norm's own part from the gradient by the scaled row. -/
def dx {n : ℕ} (x d res : Fin n → EReal) (j : Fin n) : EReal :=
  res j + scl x * d j - x j * (scl x * scl x * scl x * Ideal.div (∑ k, x k * d k) (Ideal.ofBits .f32 0x44800000#32))

/-- The same gradient in the order the derivative of the plain lines takes. -/
theorem dx_eq {n : ℕ} (x d res : Fin n → EReal) (j : Fin n) :
    res j + d j * scl x
        + x j * Ideal.div ((∑ k, x k * d k) * (Ideal.ofBits .f32 0xBF000000#32
            * Ideal.div (scl x) (Ideal.div (∑ k, x k * x k) (Ideal.ofBits .f32 0x44800000#32) + Ideal.ofBits .f32 0x358637BD#32)))
            (Ideal.ofBits .f32 0x44800000#32)
        + Ideal.div ((∑ k, x k * d k) * (Ideal.ofBits .f32 0xBF000000#32
            * Ideal.div (scl x) (Ideal.div (∑ k, x k * x k) (Ideal.ofBits .f32 0x44800000#32) + Ideal.ofBits .f32 0x358637BD#32)))
            (Ideal.ofBits .f32 0x44800000#32) * x j = dx x d res j := by
  rw [add_assoc, add_assoc, ← grad x d j (scl x) rfl, dx, sub_eq_add_neg, sub_eq_add_neg, add_assoc]

end Cert.Norm
end
-- ==== Proof.Loss.lean ====
/- The loss head: the mean squared error of the normed states, its gradient by the states and by the norm's
   weights. The call adds the loss and the weights' gradient up over its eight tiles of rows. -/
module

public import proofs.«01_k».proof.Proof.Gen.LossIdeal.Value
public import proofs.«01_k».proof.Proof.Gen.LossRefIdeal.Run
public import proofs.«01_k».proof.Proof.Norm
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.LossIdeal.Loss

open Cert.LossIdeal Cert.LossIdeal.Gen
open Idealize.ShloMosaic Idealize.ShloMosaic.TcCoe Idealize.SL.Sem
open Idealize.ShloMosaic.Pipeline (Dat)

/-- One row's scale, from the row. -/
def scl (x : Fin 1024 → EReal) : EReal :=
  Ideal.rsqrt (Ideal.div (∑ k, x k * x k) (Ideal.ofBits .f32 0x44800000#32) + Ideal.ofBits .f32 0x358637BD#32)

/-- One row's error at a column: the normed row less the target. -/
def err (x g t : Fin 1024 → EReal) (b : Fin 1024) : EReal := x b * scl x * g b - t b

/-- One row's loss: half the mean of its squared errors. -/
def lossRow (x g t : Fin 1024 → EReal) : EReal :=
  Ideal.ofBits .f32 0x3F000000#32 * Ideal.div (∑ b, err x g t b * err x g t b) (Ideal.ofBits .f32 0x44800000#32)

/-- The gradient by the normed row at a column. -/
def dy (x g t : Fin 1024 → EReal) (b : Fin 1024) : EReal := err x g t b * Ideal.ofBits .f32 0x3A800000#32

/-- The gradient by the row at a column, in the call's closed form. -/
def dRow (x g t : Fin 1024 → EReal) (b : Fin 1024) : EReal :=
  scl x * (dy x g t b * g b)
    - x b * (scl x * scl x * scl x * Ideal.div (∑ k, x k * (dy x g t k * g k)) (Ideal.ofBits .f32 0x44800000#32))

/-- A row's part of the gradient by the norm's weights. -/
def dgRow (x g t : Fin 1024 → EReal) (b : Fin 1024) : EReal := dy x g t b * x b * scl x

def tot (x : FVec Ideal S4096x1024 .f32) (g : FVec Ideal S1024 .f32) (t : FVec Ideal S4096x1024 .f32) : FVec Ideal S1x1 .f32 :=
  fun _ => ∑ a : Fin 4096, lossRow (fun k => x (ix2 a k)) (fun k => g (ix1 k)) (fun k => t (ix2 a k))

def dh (x : FVec Ideal S4096x1024 .f32) (g : FVec Ideal S1024 .f32) (t : FVec Ideal S4096x1024 .f32) : FVec Ideal S4096x1024 .f32 :=
  fun i => dRow (fun k => x (ix2 (i 0) k)) (fun k => g (ix1 k)) (fun k => t (ix2 (i 0) k)) (i 1)

def dg (x : FVec Ideal S4096x1024 .f32) (g : FVec Ideal S1024 .f32) (t : FVec Ideal S4096x1024 .f32) : FVec Ideal S1x1024 .f32 :=
  fun i => ∑ a : Fin 4096, dgRow (fun k => x (ix2 a k)) (fun k => g (ix1 k)) (fun k => t (ix2 a k)) (i 1)

/-! ## What one tile's body stores -/

theorem tile_tot (x : FVec Ideal S512x1024 .f32) (g : FVec Ideal S1x1024 .f32) (t : FVec Ideal S512x1024 .f32) (o : FVec Ideal S1x1 .f32)
    (j : S1x1.Idx) : k0_pay8 (F := Ideal) x g t o j
      = o j + ∑ a : Fin 512, lossRow (fun k => x (ix2 a k)) (fun k => g (ix2 0 k)) (fun k => t (ix2 a k)) := by
  pointwise [k0_pay8, k0_pay7, k0_pay6, k0_pay5, lossRow, err, scl]
  rw [Lits.half_f32]
  exact congrArg (o j + ·) (Norm.mul_sum_coe (by norm_num) _ _)

theorem zero_tot (j : S1x1.Idx) : k0_pay4 (F := Ideal) j = 0 := by
  pointwise [k0_pay4]

theorem zero_dg (j : S1x1024.Idx) : k0_pay3 (F := Ideal) j = 0 := by
  pointwise [k0_pay3]

theorem tile_dh (x : FVec Ideal S512x1024 .f32) (g : FVec Ideal S1x1024 .f32) (t : FVec Ideal S512x1024 .f32) (j : S512x1024.Idx) :
    k0_pay1 (F := Ideal) x (k0_pay6 x) (k0_pay9 x g t) (k0_pay10 g) j
      = dRow (fun k => x (ix2 (j 0) k)) (fun k => g (ix2 0 k)) (fun k => t (ix2 (j 0) k)) (j 1) := by
  pointwise [k0_pay1, k0_pay9, k0_pay10, k0_pay7, k0_pay6, k0_pay5, dRow, dy, err, scl]

theorem tile_dg (x : FVec Ideal S512x1024 .f32) (g : FVec Ideal S1x1024 .f32) (t : FVec Ideal S512x1024 .f32) (o : FVec Ideal S1x1024 .f32)
    (j : S1x1024.Idx) : k0_pay2 (F := Ideal) x (k0_pay6 x) (k0_pay9 x g t) o j
      = o j + ∑ a : Fin 512, dgRow (fun k => x (ix2 a k)) (fun k => g (ix2 0 k)) (fun k => t (ix2 a k)) (j 1) := by
  pointwise [k0_pay2, k0_pay9, k0_pay7, k0_pay6, k0_pay5, dgRow, dy, err, scl]

theorem places : ∀ t : Fin cfg0.N, win0_0.index t = ![(grid0.coords t 0).val, 0] ∧ win0_1.index t = ![0, 0]
    ∧ win0_2.index t = ![(grid0.coords t 0).val, 0] ∧ win0_4.index t = ![(grid0.coords t 0).val, 0]
    ∧ (grid0.coords t 0).val = t.val :=
  (by decide +kernel : ∀ t : Fin grid0.N, _)

variable (m : (ℓ : Loc nD τ sig) → Buf (Elt Ideal) ℓ)

theorem result_dh (c : Dev nD) : (Gen.dats m 0 c).arrAt 4 (cfgs 0).N
    = dh (m ((c : Thread nD τ).loc main_arg0)) (m ((c : Thread nD τ).loc main_arg1)) (m ((c : Thread nD τ).loc main_arg2)) := by
  refine (Gen.dats m 0 c).arrAt_eq_of_covers 4 _ (by decide +kernel) fun t _ y => ?_
  blk_simp
  rw [after0_4]
  by_cases h : t.val % 8 = 0
  · rw [outsAt0_A m c t h]; frame_out
    rw [tile_dh]
    simp only [dh]
    blk_point [iblk, V, places t]
  · rw [outsAt0_B m c t h]; frame_out
    rw [tile_dh]
    simp only [dh]
    blk_point [iblk, V, places t]

theorem result_tot (c : Dev nD) : (Gen.dats m 0 c).arrAt 3 (cfgs 0).N
    = tot (m ((c : Thread nD τ).loc main_arg0)) (m ((c : Thread nD τ).loc main_arg1)) (m ((c : Thread nD τ).loc main_arg2)) := by
  refine (Gen.dats m 0 c).arrAt_eq_of_after_last 3 t0_7 (by decide +kernel) _ fun j => ?_
  blk_simp
  rw [after0_3, Pipeline.eq_sum_fin_of_reset_step_apply_last (fun n h => (outsAt0 m c n h).1) 8 (fun _ => 0) _
    (fun t h j => by rw [outsAt0_A m c t h]; frame_out; rw [tile_tot, zero_tot])
    (fun t h j => by rw [outsAt0_B m c t h]; frame_out; rw [tile_tot]) (le_of_eq N_0) t0_7 rfl j, zero_add]
  simp only [tot]
  refine Fin.sum_mul_add_congr fun p a hl => ?_
  congr 1 <;> funext k <;> blk_point [iblk, V, places p]

theorem result_dg (c : Dev nD) : (Gen.dats m 0 c).arrAt 5 (cfgs 0).N
    = dg (m ((c : Thread nD τ).loc main_arg0)) (m ((c : Thread nD τ).loc main_arg1)) (m ((c : Thread nD τ).loc main_arg2)) := by
  refine (Gen.dats m 0 c).arrAt_eq_of_after_last 5 t0_7 (by decide +kernel) _ fun j => ?_
  blk_simp
  rw [after0_5, Pipeline.eq_sum_fin_of_reset_step_apply_last (fun n h => (outsAt0 m c n h).2.2) 8 (fun _ => 0) _
    (fun t h j => by rw [outsAt0_A m c t h]; frame_out; rw [tile_dg, zero_dg])
    (fun t h j => by rw [outsAt0_B m c t h]; frame_out; rw [tile_dg]) (le_of_eq N_0) t0_7 rfl j, zero_add]
  simp only [dg]
  refine Fin.sum_mul_add_congr fun p a hl => ?_
  congr 1 <;> (try funext k) <;> blk_point [iblk, V, places p]

/-- The factor of the derivative of half the mean of squares. -/
theorem factor (x : EReal) : Ideal.div (Ideal.ofBits .f32 0x3F000000#32) (Ideal.ofBits .f32 0x44800000#32)
    * (Ideal.ofBits .f32 0x40000000#32 * x) = x * Ideal.ofBits .f32 0x3A800000#32 := by
  rw [Lits.half_f32, Lits.thousand_f32, Lits.two_f32, Lits.thousandth_f32, Ideal.div_coe (by norm_num), ← mul_assoc,
    ← EReal.coe_mul, ← EReal.coe_mul, mul_comm]
  norm_num

/-- The derivative of one row's loss by the row, in the reference's order, is the closed form. -/
theorem row (x g t : Fin 1024 → EReal) (j : Fin 1024) :
    dy x g t j * g j * scl x + (x j * Ideal.div ((∑ k, x k * (dy x g t k * g k)) * (Ideal.ofBits .f32 0xBF000000#32
        * Ideal.div (scl x) (Ideal.div (∑ k, x k * x k) (Ideal.ofBits .f32 0x44800000#32) + Ideal.ofBits .f32 0x358637BD#32)))
        (Ideal.ofBits .f32 0x44800000#32)
      + Ideal.div ((∑ k, x k * (dy x g t k * g k)) * (Ideal.ofBits .f32 0xBF000000#32
        * Ideal.div (scl x) (Ideal.div (∑ k, x k * x k) (Ideal.ofBits .f32 0x44800000#32) + Ideal.ofBits .f32 0x358637BD#32)))
        (Ideal.ofBits .f32 0x44800000#32) * x j) = dRow x g t j :=
  (Norm.grad x (fun k => dy x g t k * g k) j _ rfl).symm

/-- The tiled call and the derivative of the loss end with the same three arrays. -/
theorem same : Cert.algebraic_LossIdeal_LossRefIdeal := by
  pair_intro
  · run_from Cert.LossIdeal.Gen.run_main m g
  · run_from Cert.LossRefIdeal.Value.run m' g'
    · rw [result_tot]
      funext i
      pointwise [tot, lossRow, err, scl]
      rw [Lits.half_f32]
      exact Norm.mul_sum_coe (by norm_num) _ _
    · rw [result_dh]
      obtain ⟨h0, h1, h2⟩ := hagree c
      unfold Cert.LossRefIdeal.Value.res_main_v50
      rw [h0, h1, h2]
      funext i
      refine Eq.trans ?_ (row _ _ _ _)
      pointwise [dy, err, scl]
      simp only [factor, Finset.univ_unique, Finset.sum_singleton]
      exact add_assoc _ _ _
    · rw [result_dg]
      funext i
      pointwise [dg, dgRow, dy, err, scl]
      simp only [factor, Finset.univ_unique, Finset.sum_singleton]
      refine Finset.sum_congr rfl fun a _ => ?_
      ac_rfl

end Cert.LossIdeal.Loss
end
-- ==== Proof.Up.lean ====
/- The gradient through the first layer of the block after the attention and the norm before it: the product is added up
   over four blocks of columns, then the norm's gradient; the weights' gradient is added up over the four tiles of rows. -/
module

public import proofs.«01_k».proof.Proof.Gen.UpIdeal.Value
public import proofs.«01_k».proof.Proof.Gen.UpRefIdeal.Run
public import proofs.«01_k».proof.Proof.Norm
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.UpIdeal.Up

open Cert.UpIdeal Cert.UpIdeal.Gen
open Idealize.ShloMosaic Idealize.ShloMosaic.TcCoe Idealize.SL.Sem
open Idealize.ShloMosaic.Pipeline (Dat)

/-- One block of rows of cotangents times one block of columns of the weights. -/
def part (d : FVec Ideal S1024x1024 .bf16) (w : FVec Ideal S1x1024x1024 .bf16) : S1024x1024.Idx → EReal := fun j =>
  ∑ k : Fin 1024, d (ix2 (j 0) k) * w (ix3 0 (j 1) k)

theorem tile_prod (d : FVec Ideal S1024x1024 .bf16) (w : FVec Ideal S1x1024x1024 .bf16) (j : S1024x1024.Idx) :
    k0_pay3 (F := Ideal) d w j = part d w j := by
  pointwise [k0_pay3, k0_pay2, part]

theorem tile_add (d : FVec Ideal S1024x1024 .bf16) (w : FVec Ideal S1x1024x1024 .bf16) (A : FVec Ideal S1024x1024 .f32)
    (j : S1024x1024.Idx) : k0_pay4 (F := Ideal) d w A j = A j + part d w j := by
  pointwise [k0_pay4, k0_pay2, part]

theorem tile_dh (A x : FVec Ideal S1024x1024 .f32) (g : FVec Ideal S1x1024 .f32) (r : FVec Ideal S1024x1024 .f32) (j : S1024x1024.Idx) :
    k0_pay7 (F := Ideal) A x g r j
      = Norm.dx (fun k => x (ix2 (j 0) k)) (fun k => A (ix2 (j 0) k) * g (ix2 0 k)) (fun k => r (ix2 (j 0) k)) (j 1) := by
  pointwise [k0_pay7, k0_pay6, Norm.dx, Norm.scl]

theorem tile_dg (A x : FVec Ideal S1024x1024 .f32) (o : FVec Ideal S1x1024 .f32) (j : S1x1024.Idx) :
    k0_pay5 (F := Ideal) (k0_pay8 A x o) j
      = o j + ∑ a : Fin 1024, A (ix2 a (j 1)) * x (ix2 a (j 1)) * Norm.scl (fun k => x (ix2 a k)) := by
  pointwise [k0_pay5, k0_pay8, k0_pay6, Norm.scl]

theorem zero_dg (j : S1x1024.Idx) : k0_pay1 (F := Ideal) j = 0 := by
  pointwise [k0_pay1]

theorem places : ∀ t : Fin cfg0.N, win0_0.index t = ![t.val / 4, t.val % 4] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] ∧ t.val < 16 :=
  (by decide +kernel : ∀ t : Fin grid0.N, _)

variable (m : (ℓ : Loc nD τ sig) → Buf (Elt Ideal) ℓ)

/-- One row of the cotangents times one row of the weights. -/
def acc (d : FVec Ideal S4096x4096 .f32) (w : FVec Ideal S1024x4096 .f32) (a : Fin 4096) (b : Fin 1024) : EReal :=
  ∑ k : Fin 4096, d (ix2 a k) * w (ix2 b k)

theorem carried (c : Dev nD) (t : Fin cfg0.N) (ht : t.val % 4 = 3) (a b : Fin 1024) :
    (outsAt0 m c t.val t.isLt).2.2 (ix2 a b) = acc (m ((c : Thread nD τ).loc main_arg0)) (m ((c : Thread nD τ).loc main_arg1))
      ⟨t.val / 4 * 1024 + a.val, by have h : t.val < 16 := t.isLt; omega⟩ b := by
  rw [Pipeline.eq_sum_fin_of_reset_step_apply_of_flush (fun n h => (outsAt0 m c n h).2.2) 4 (fun _ => 0)
    (fun t j => part (iblk m c 0 t) (iblk m c 1 t) j)
    (fun t h j => by
      have ht : t.val < 16 := t.isLt
      by_cases h0 : t.val % 16 = 0
      · rw [outsAt0_A m c t h0 h (by omega) (by omega)]; frame_out; rw [tile_prod, zero_add]
      · rw [outsAt0_D m c t h0 h (by omega) (by omega)]; frame_out; rw [tile_prod, zero_add])
    (fun t h j => by
      have ht : t.val < 16 := t.isLt
      by_cases h3 : t.val % 4 = 3
      · rw [outsAt0_C m c t (by omega) h (by omega) h3]; frame_out; rw [tile_add, (Memref.isWhole_whole _).read_unread]
      · rw [outsAt0_B m c t (by omega) h (by omega) h3]; frame_out; rw [tile_add, (Memref.isWhole_whole _).read_unread]) t ht, zero_add]
  unfold acc part
  refine Fin.sum_mul_add_congr fun p k hl => ?_
  have hd : (4 * (t.val / 4) + p.val) / 4 = t.val / 4 := by omega
  have hm : (4 * (t.val / 4) + p.val) % 4 = p.val := by omega
  congr 1
  · have h := places ⟨4 * (t.val / 4) + p.val, by have h : t.val < 16 := t.isLt; show _ < 16; omega⟩
    simp only [hd, hm] at h
    blk_point [iblk, V, h]
  · have h := places ⟨4 * (t.val / 4) + p.val, by have h : t.val < 16 := t.isLt; show _ < 16; omega⟩
    simp only [hd, hm] at h
    blk_point [iblk, V, h]

def dh (d : FVec Ideal S4096x4096 .f32) (w : FVec Ideal S1024x4096 .f32) (x : FVec Ideal S4096x1024 .f32) (g : FVec Ideal S1024 .f32)
    (r : FVec Ideal S4096x1024 .f32) : FVec Ideal S4096x1024 .f32 := fun i =>
  Norm.dx (fun k => x (ix2 (i 0) k)) (fun b => acc d w (i 0) b * g (ix1 b)) (fun k => r (ix2 (i 0) k)) (i 1)

/-- The gradient of the norm's weights. -/
def dg (d : FVec Ideal S4096x4096 .f32) (w : FVec Ideal S1024x4096 .f32) (x : FVec Ideal S4096x1024 .f32) :
    FVec Ideal S1x1024 .f32 := fun j =>
  ∑ a : Fin 4096, acc d w a (j 1) * x (ix2 a (j 1)) * Norm.scl (fun k => x (ix2 a k))

/-- The point that ends a run leaves in the scratch what it stores there. -/
theorem carried_C (c : Dev nD) (t : Fin cfg0.N) (h3 : t.val % 4 = 3) (A : FVec Ideal S1024x1024 .f32)
    (hA : A = (outsAt0 m c (t.val - 1) (Nat.lt_of_le_of_lt (Nat.sub_le _ _) t.isLt)).2.2) (a b : Fin 1024) :
    k0_pay4 (F := Ideal) (iblk m c 0 t) (iblk m c 1 t) A (ix2 a b)
      = acc (m ((c : Thread nD τ).loc main_arg0)) (m ((c : Thread nD τ).loc main_arg1))
          ⟨t.val / 4 * 1024 + a.val, by have h : t.val < 16 := t.isLt; omega⟩ b := by
  rw [← carried m c t h3, outsAt0_C m c t (by omega) (by omega) (by omega) h3, hA]
  frame_out
  rw [(Memref.isWhole_whole _).read_unread]

theorem blk_x (c : Dev nD) (t : Fin cfg0.N) (a k : Fin 1024) :
    (iblk m c 2 t (ix2 a k) : EReal) = (m ((c : Thread nD τ).loc main_arg2) : FVec Ideal S4096x1024 .f32)
      (ix2 ⟨t.val / 4 * 1024 + a.val, by have h : t.val < 16 := t.isLt; omega⟩ k) := by
  blk_point [iblk, V, places t]

theorem blk_r (c : Dev nD) (t : Fin cfg0.N) (a k : Fin 1024) :
    (iblk m c 4 t (ix2 a k) : EReal) = (m ((c : Thread nD τ).loc main_arg4) : FVec Ideal S4096x1024 .f32)
      (ix2 ⟨t.val / 4 * 1024 + a.val, by have h : t.val < 16 := t.isLt; omega⟩ k) := by
  blk_point [iblk, V, places t]

theorem blk_g (c : Dev nD) (t : Fin cfg0.N) (k : Fin 1024) :
    (iblk m c 3 t (ix2 0 k) : EReal) = (m ((c : Thread nD τ).loc main_arg3) : FVec Ideal S1024 .f32) (ix1 k) := by
  blk_point [iblk, V, places t]

theorem blk_dh (c : Dev nD) (t : Fin cfg0.N) (h3 : t.val % 4 = 3) (a b : Fin 1024) :
    Norm.dx (fun k => iblk m c 2 t (ix2 a k)) (fun k => k0_pay4 (F := Ideal) (iblk m c 0 t) (iblk m c 1 t)
        (outsAt0 m c (t.val - 1) (Nat.lt_of_le_of_lt (Nat.sub_le _ _) t.isLt)).2.2 (ix2 a k) * iblk m c 3 t (ix2 0 k))
        (fun k => iblk m c 4 t (ix2 a k)) b
      = dh (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨t.val / 4 * 1024 + a.val, by have h : t.val < 16 := t.isLt; omega⟩ b) := by
  simp only [carried_C m c t h3 _ rfl, blk_g, blk_x, blk_r]
  rfl

theorem result_dh (c : Dev nD) : (Gen.dats m 0 c).arrAt 5 (cfgs 0).N
    = dh (m ((c : Thread nD τ).loc main_arg0)) (m ((c : Thread nD τ).loc main_arg1)) (m ((c : Thread nD τ).loc main_arg2))
      (m ((c : Thread nD τ).loc main_arg3)) (m ((c : Thread nD τ).loc main_arg4)) := by
  refine (Gen.dats m 0 c).arrAt_eq_of_covers 5 _ (by decide +kernel) fun t hf y => ?_
  have h3 : t.val % 4 = 3 := (flush0_5 t).mp hf
  blk_simp
  rw [after0_5, outsAt0_C m c t (by omega) (by omega) (by omega) h3]
  frame_out
  rw [(Memref.isWhole_whole _).read_unread]
  refine (tile_dh _ _ _ _ _).trans ((blk_dh m c t h3 (y 0) (y 1)).trans (congrArg _ ?_))
  blk_point [places t]

/-- What a point adds to the weights' gradient: the last of each run adds its tile's rows, the others nothing. -/
def step (c : Dev nD) (t : Fin cfg0.N) (b : Fin 1024) : EReal :=
  if t.val % 4 = 3 then ∑ a : Fin 1024, acc (m ((c : Thread nD τ).loc main_arg0)) (m ((c : Thread nD τ).loc main_arg1))
      ⟨t.val / 4 * 1024 + a.val, by have h : t.val < 16 := t.isLt; omega⟩ b
    * (m ((c : Thread nD τ).loc main_arg2) : FVec Ideal S4096x1024 .f32) (ix2 ⟨t.val / 4 * 1024 + a.val, by have h : t.val < 16 := t.isLt; omega⟩ b)
    * Norm.scl (fun k => (m ((c : Thread nD τ).loc main_arg2) : FVec Ideal S4096x1024 .f32)
        (ix2 ⟨t.val / 4 * 1024 + a.val, by have h : t.val < 16 := t.isLt; omega⟩ k)) else 0

/-- All points together add all rows. -/
theorem steps (c : Dev nD) (b : Fin 1024) : ∑ t, step m c t b
    = dg (m ((c : Thread nD τ).loc main_arg0)) (m ((c : Thread nD τ).loc main_arg1)) (m ((c : Thread nD τ).loc main_arg2)) (ix2 0 b) := by
  let f : Fin 4096 → EReal := fun a => acc (m ((c : Thread nD τ).loc main_arg0)) (m ((c : Thread nD τ).loc main_arg1)) a b
    * (m ((c : Thread nD τ).loc main_arg2) : FVec Ideal S4096x1024 .f32) (ix2 a b)
    * Norm.scl (fun k => (m ((c : Thread nD τ).loc main_arg2) : FVec Ideal S4096x1024 .f32) (ix2 a k))
  let g : Fin 4 → Fin 4 → EReal := fun q r => if r.val = 3 then ∑ a : Fin 1024, f ⟨q.val * 1024 + a.val, by omega⟩ else 0
  refine Eq.trans (b := ∑ q : Fin 4, ∑ r : Fin 4, g q r) ?_ ?_
  · exact Fin.sum_divmod_fin (N := 16) 4 g
  · refine Eq.trans (b := ∑ q : Fin 4, ∑ a : Fin 1024, f ⟨q.val * 1024 + a.val, by omega⟩) (Finset.sum_congr rfl fun q _ => ?_) ?_
    · refine (Finset.sum_eq_single (3 : Fin 4) (fun r _ hr => ?_) (fun h => absurd (Finset.mem_univ _) h)).trans (if_pos rfl)
      exact if_neg fun h => hr (Fin.ext h)
    · exact Fin.sum_mul_add_congr fun p a hl => rfl

theorem result_dg (c : Dev nD) : (Gen.dats m 0 c).arrAt 6 (cfgs 0).N
    = dg (m ((c : Thread nD τ).loc main_arg0)) (m ((c : Thread nD τ).loc main_arg1)) (m ((c : Thread nD τ).loc main_arg2)) := by
  refine (Gen.dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun t j => step m c t (j 1))
    (fun t h j => by
      rw [outsAt0_A m c t h (by omega) (by omega) (by omega)]; frame_out
      unfold step
      rw [if_neg (by omega), zero_dg, add_zero])
    (fun t h j => by
      by_cases h3 : t.val % 4 = 3
      · rw [outsAt0_C m c t (by omega) (by omega) (by omega) h3]; frame_out
        rw [tile_dg]
        unfold step
        rw [if_pos h3, (Memref.isWhole_whole _).read_unread]
        refine congrArg (_ + ·) (Finset.sum_congr rfl fun a _ => ?_)
        rw [show k0_pay4 (F := Ideal) (iblk m c 0 t) (iblk m c 1 t) _ (ix2 a (j 1)) = _ from carried_C m c t h3 _ rfl a (j 1),
          show iblk m c 2 t (ix2 a (j 1)) = _ from blk_x m c t a (j 1)]
        simp only [blk_x]
      · unfold step
        rw [if_neg h3, add_zero]
        by_cases h0 : t.val % 4 = 0
        · rw [outsAt0_D m c t h h0 (by omega) h3]; rfl
        · rw [outsAt0_B m c t (by omega) h0 (by omega) h3]; rfl) (le_of_eq N_0) t0_15 rfl j, zero_add]
  exact steps m c (j 1)

set_option maxHeartbeats 1600000 in
theorem same : Cert.algebraic_UpIdeal_UpRefIdeal := by
  pair_intro
  · run_from Cert.UpIdeal.Gen.run_main m g
  · run_from Cert.UpRefIdeal.Value.run m' g'
    · rw [result_dh]
      obtain ⟨h0, h1, h2, h3, h4⟩ := hagree c
      unfold Cert.UpRefIdeal.Value.res_main_v38
      rw [h0, h1, h2, h3, h4]
      funext i
      refine Eq.trans ?_ (Norm.dx_eq _ _ _ _)
      pointwise [acc, Norm.scl]
      simp only [Finset.univ_unique, Finset.sum_singleton]
    · rw [result_dg]
      funext i
      pointwise [dg, acc, Norm.scl]
      simp only [Finset.univ_unique, Finset.sum_singleton]
      refine Finset.sum_congr rfl fun a _ => ?_
      ac_rfl

end Cert.UpIdeal.Up
end
-- ==== Proof.Cols.lean ====
/- The input projection's columns as the calls pack them: the recurrence's parts filled up to whole lanes, then the
   convolution's and the attention's. -/
module

public import proofs.«01_k».proof.Proof.Lits

@[expose] public section

noncomputable section

namespace Cert.Cols

/-- The columns of the recurrence, each part filled up with zeros to whole lanes. -/
def pack (f : Fin 2832 → EReal) (k : Fin 1408) : EReal :=
  if h : k.val < 192 then f ⟨k, by omega⟩ else if h : k.val < 256 then 0 else if h : k.val < 448 then f ⟨k - 64, by omega⟩
  else if h : k.val < 512 then 0 else if h : k.val < 1296 then f ⟨k - 128, by omega⟩ else 0

/-- The columns of the convolution. -/
def mid (f : Fin 2832 → EReal) (k : Fin 512) : EReal := f ⟨k + 1168, by omega⟩

/-- The columns of the attention. -/
def last (f : Fin 2832 → EReal) (k : Fin 1152) : EReal := f ⟨k + 1680, by omega⟩

/-- Packing columns commutes with a product. -/
theorem sum_pack (x : Fin 1024 → EReal) (f : Fin 1024 → Fin 2832 → EReal) (k : Fin 1408) :
    ∑ j, x j * pack (f j) k = pack (fun n => ∑ j, x j * f j n) k := by
  simp only [pack]
  split_ifs <;> simp only [mul_zero, Finset.sum_const_zero]

end Cert.Cols
end
-- ==== Proof.Proj.lean ====
/- The gradient through the joint input projection and the norm before it: three products over the packed columns,
   added up, then the norm's gradient; the weights' gradient is added up over the eight tiles of rows. -/
module

public import proofs.«01_k».proof.Proof.Gen.ProjIdeal.Value
public import proofs.«01_k».proof.Proof.Gen.ProjRefIdeal.Run
public import proofs.«01_k».proof.Proof.Norm
public import proofs.«01_k».proof.Proof.Cols
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.ProjIdeal.Proj

open Cert.ProjIdeal Cert.ProjIdeal.Gen
open Idealize.ShloMosaic Idealize.ShloMosaic.TcCoe Idealize.SL.Sem
open Idealize.ShloMosaic.Pipeline (Dat)
open Cert.Cols

/-- A product of one row of cotangents with one row of the projection, over all columns. -/
def acc (p w : Fin 2832 → EReal) : EReal := ∑ k, p k * w k

/-- The same from the packed columns. -/
def acc3 (p0 : Fin 1408 → EReal) (p1 : Fin 512 → EReal) (p2 : Fin 1152 → EReal) (w0 : Fin 1408 → EReal) (w1 : Fin 512 → EReal)
    (w2 : Fin 1152 → EReal) : EReal := (∑ k, p0 k * w0 k) + (∑ k, p1 k * w1 k) + ∑ k, p2 k * w2 k

/-- The product over the packed columns is the product over the projection's own. -/
theorem acc3_eq (p w : Fin 2832 → EReal) : acc3 (pack p) (mid p) (last p) (pack w) (mid w) (last w) = acc p w := by
  set F : ℕ → EReal := fun n => if h : n < 2832 then p ⟨n, h⟩ * w ⟨n, h⟩ else 0 with hF
  set G : ℕ → EReal := fun k => if k < 192 then F k else if k < 256 then 0 else if k < 448 then F (k - 64)
    else if k < 512 then 0 else if k < 1296 then F (k - 128) else 0 with hG
  have h0 : ∑ k, pack p k * pack w k = ∑ k ∈ Finset.range 1408, G k := by
    rw [Finset.sum_range]
    refine Finset.sum_congr rfl fun k _ => ?_
    have hk := k.isLt
    simp only [pack, hG, hF]
    split_ifs <;> first | omega | rfl | exact mul_zero _
  have h1 : ∑ k, mid p k * mid w k = ∑ k ∈ Finset.range 512, F (1168 + k) := by
    rw [Finset.sum_range]
    refine Finset.sum_congr rfl fun k _ => ?_
    have hk := k.isLt
    simp only [mid, hF, add_comm]
    rw [dif_pos (by omega)]
  have h2 : ∑ k, last p k * last w k = ∑ k ∈ Finset.range 1152, F (1680 + k) := by
    rw [Finset.sum_range]
    refine Finset.sum_congr rfl fun k _ => ?_
    have hk := k.isLt
    simp only [last, hF, add_comm]
    rw [dif_pos (by omega)]
  have h3 : acc p w = ∑ k ∈ Finset.range 2832, F k := by
    rw [Finset.sum_range]
    refine Finset.sum_congr rfl fun k _ => ?_
    simp only [hF, k.isLt, dite_true]
  have part (a n s : ℕ) (h : ∀ k, k < n → G (a + k) = F (s + k)) :
      ∑ k ∈ Finset.range n, G (a + k) = ∑ k ∈ Finset.range n, F (s + k) :=
    Finset.sum_congr rfl fun k hk => h k (Finset.mem_range.1 hk)
  have gap (a n : ℕ) (h : ∀ k, k < n → G (a + k) = 0) : ∑ k ∈ Finset.range n, G (a + k) = 0 :=
    Finset.sum_eq_zero fun k hk => h k (Finset.mem_range.1 hk)
  have g0 : ∑ k ∈ Finset.range 192, G k = ∑ k ∈ Finset.range 192, F k :=
    Finset.sum_congr rfl fun k hk => by simp only [hG, if_pos (Finset.mem_range.1 hk)]
  have e : ∑ k ∈ Finset.range 1408, G k = ∑ k ∈ Finset.range 1168, F k := by
    rw [show 1408 = 192 + 64 + 192 + 64 + 784 + 112 from rfl, show 1168 = 192 + 192 + 784 from rfl]
    simp only [Finset.sum_range_add]
    rw [g0, gap (192) 64, part (192 + 64) 192 192, gap (192 + 64 + 192) 64, part (192 + 64 + 192 + 64) 784 (192 + 192),
      gap (192 + 64 + 192 + 64 + 784) 112, add_zero, add_zero, add_zero] <;> intro k hk <;> simp only [hG]
    · rw [if_neg (by omega), if_neg (by omega), if_neg (by omega), if_neg (by omega), if_neg (by omega)]
    · rw [if_neg (by omega), if_neg (by omega), if_neg (by omega), if_neg (by omega), if_pos (by omega)]
      congr 1; omega
    · rw [if_neg (by omega), if_neg (by omega), if_neg (by omega), if_pos (by omega)]
    · rw [if_neg (by omega), if_neg (by omega), if_pos (by omega)]
      congr 1; omega
    · rw [if_neg (by omega), if_pos (by omega)]
  rw [acc3, h0, h1, h2, h3, e, show 2832 = 1168 + 512 + 1152 from rfl, Finset.sum_range_add, Finset.sum_range_add]

theorem tile_acc (p0 : FVec Ideal S512x1408 .bf16) (w0 : FVec Ideal S1408x1024 .bf16) (p1 : FVec Ideal S512x512 .bf16)
    (w1 : FVec Ideal S512x1024 .bf16) (p2 : FVec Ideal S512x1152 .bf16) (w2 : FVec Ideal S1152x1024 .bf16) (j : S512x1024.Idx) :
    k0_pay3 (F := Ideal) p0 w0 p1 w1 p2 w2 j
      = acc3 (fun k => p0 (ix2 (j 0) k)) (fun k => p1 (ix2 (j 0) k)) (fun k => p2 (ix2 (j 0) k)) (fun k => w0 (ix2 k (j 1)))
          (fun k => w1 (ix2 k (j 1))) (fun k => w2 (ix2 k (j 1))) := by
  pointwise [k0_pay3, acc3]

theorem tile_dh (A : FVec Ideal S512x1024 .f32) (p0 : FVec Ideal S512x1408 .bf16) (w0 : FVec Ideal S1408x1024 .bf16) (p1 : FVec Ideal S512x512 .bf16)
    (w1 : FVec Ideal S512x1024 .bf16) (p2 : FVec Ideal S512x1152 .bf16) (w2 : FVec Ideal S1152x1024 .bf16)
    (hA : k0_pay3 (F := Ideal) p0 w0 p1 w1 p2 w2 = A) (x : FVec Ideal S512x1024 .f32) (g : FVec Ideal S1x1024 .f32)
    (r : FVec Ideal S512x1024 .f32) (j : S512x1024.Idx) :
    k0_pay1 (F := Ideal) x (k0_pay5 x) (k0_pay6 p0 w0 p1 w1 p2 w2 g) (k0_pay7 p0 w0 p1 w1 p2 w2 x g) r j
      = Norm.dx (fun k => x (ix2 (j 0) k)) (fun k => A (ix2 (j 0) k) * g (ix2 0 k)) (fun k => r (ix2 (j 0) k)) (j 1) := by
  subst hA
  pointwise [k0_pay1, k0_pay5, k0_pay6, k0_pay7, Norm.dx, Norm.scl]

theorem tile_dg (A : FVec Ideal S512x1024 .f32) (x : FVec Ideal S512x1024 .f32) (o : FVec Ideal S1x1024 .f32) (j : S1x1024.Idx) :
    k0_pay2 (F := Ideal) A x (k0_pay5 x) o j
      = o j + ∑ a : Fin 512, A (ix2 a (j 1)) * x (ix2 a (j 1)) * Norm.scl (fun k => x (ix2 a k)) := by
  pointwise [k0_pay2, k0_pay5, Norm.scl]

theorem zero_dg (j : S1x1024.Idx) : k0_pay4 (F := Ideal) j = 0 := by
  pointwise [k0_pay4]

theorem places : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![0, 0]
    ∧ win0_6.index t = ![(grid0.coords t 0).val, 0] ∧ win0_7.index t = ![0, 0] ∧ win0_8.index t = ![(grid0.coords t 0).val, 0]
    ∧ win0_9.index t = ![(grid0.coords t 0).val, 0] ∧ (grid0.coords t 0).val = t.val :=
  (by decide +kernel : ∀ t : Fin grid0.N, _)

variable (m : (ℓ : Loc nD τ sig) → Buf (Elt Ideal) ℓ)

/-- The launch's cotangents, one row of them. -/
abbrev row (c : Dev nD) (a : Fin 4096) : Fin 2832 → EReal :=
  fun k => (m ((c : Thread nD τ).loc main_arg0) : FVec Ideal S4096x2832 .f32) (ix2 a k)

/-- The launch's weights, one row of them. -/
abbrev wrow (c : Dev nD) (b : Fin 1024) : Fin 2832 → EReal :=
  fun k => (m ((c : Thread nD τ).loc main_arg1) : FVec Ideal S1024x2832 .f32) (ix2 b k)

theorem rd_p0 (c : Dev nD) (a : Fin 4096) (k : Fin 1408) : (V m c main_v29 (ix2 a k) : EReal) = pack (row m c a) k := by
  have hk := k.isLt
  unfold V
  simp only [List.flatten_cons, List.flatten_nil, List.append_nil]
  repeat after_reads_at
  have e (n k : ℕ) (h : n < 2832) (h' : k < 2832) (hn : n = k) : (m ((c : Thread nD τ).loc main_arg0) : FVec Ideal _ .f32) (ix2 a ⟨n, h⟩)
      = (m ((c : Thread nD τ).loc main_arg0) : FVec Ideal _ .f32) (ix2 a ⟨k, h'⟩) := by subst hn; rfl
  have z : (FloatOps.sitofp (F := Ideal) FTy.f32 (0#32 : BitVec 32) : EReal) = 0 := by
    simp [FloatOps.sitofp]
  simp only [pack]
  repeat' split
  all_goals first | omega | exact z | exact e _ _ _ _ (by omega)

theorem rd_p1 (c : Dev nD) (a : Fin 4096) (k : Fin 512) : (V m c main_v30 (ix2 a k) : EReal) = mid (row m c a) k := by
  have hk := k.isLt
  unfold V
  simp only [List.flatten_cons, List.flatten_nil, List.append_nil]
  repeat after_reads_at
  have e (n k : ℕ) (h : n < 2832) (h' : k < 2832) (hn : n = k) : (m ((c : Thread nD τ).loc main_arg0) : FVec Ideal _ .f32) (ix2 a ⟨n, h⟩)
      = (m ((c : Thread nD τ).loc main_arg0) : FVec Ideal _ .f32) (ix2 a ⟨k, h'⟩) := by subst hn; rfl
  have z : (FloatOps.sitofp (F := Ideal) FTy.f32 (0#32 : BitVec 32) : EReal) = 0 := by
    simp [FloatOps.sitofp]
  simp only [mid]
  exact e _ _ _ _ (by omega)

theorem rd_p2 (c : Dev nD) (a : Fin 4096) (k : Fin 1152) : (V m c main_v31 (ix2 a k) : EReal) = last (row m c a) k := by
  have hk := k.isLt
  unfold V
  simp only [List.flatten_cons, List.flatten_nil, List.append_nil]
  repeat after_reads_at
  have e (n k : ℕ) (h : n < 2832) (h' : k < 2832) (hn : n = k) : (m ((c : Thread nD τ).loc main_arg0) : FVec Ideal _ .f32) (ix2 a ⟨n, h⟩)
      = (m ((c : Thread nD τ).loc main_arg0) : FVec Ideal _ .f32) (ix2 a ⟨k, h'⟩) := by subst hn; rfl
  have z : (FloatOps.sitofp (F := Ideal) FTy.f32 (0#32 : BitVec 32) : EReal) = 0 := by
    simp [FloatOps.sitofp]
  simp only [last]
  repeat' split
  all_goals first | omega | exact z | exact e _ _ _ _ (by omega)

theorem rd_w0 (c : Dev nD) (b : Fin 1024) (k : Fin 1408) : (V m c main_v32 (ix2 k b) : EReal) = pack (wrow m c b) k := by
  have hk := k.isLt
  unfold V
  simp only [List.flatten_cons, List.flatten_nil, List.append_nil]
  repeat after_reads_at
  have e (n k : ℕ) (h : n < 2832) (h' : k < 2832) (hn : n = k) : (m ((c : Thread nD τ).loc main_arg1) : FVec Ideal _ .f32) (ix2 b ⟨n, h⟩)
      = (m ((c : Thread nD τ).loc main_arg1) : FVec Ideal _ .f32) (ix2 b ⟨k, h'⟩) := by subst hn; rfl
  have z : (FloatOps.sitofp (F := Ideal) FTy.f32 (0#32 : BitVec 32) : EReal) = 0 := by
    simp [FloatOps.sitofp]
  simp only [pack]
  repeat' split
  all_goals first | omega | exact z | exact e _ _ _ _ (by omega)

theorem rd_w1 (c : Dev nD) (b : Fin 1024) (k : Fin 512) : (V m c main_v33 (ix2 k b) : EReal) = mid (wrow m c b) k := by
  have hk := k.isLt
  unfold V
  simp only [List.flatten_cons, List.flatten_nil, List.append_nil]
  repeat after_reads_at
  have e (n k : ℕ) (h : n < 2832) (h' : k < 2832) (hn : n = k) : (m ((c : Thread nD τ).loc main_arg1) : FVec Ideal _ .f32) (ix2 b ⟨n, h⟩)
      = (m ((c : Thread nD τ).loc main_arg1) : FVec Ideal _ .f32) (ix2 b ⟨k, h'⟩) := by subst hn; rfl
  have z : (FloatOps.sitofp (F := Ideal) FTy.f32 (0#32 : BitVec 32) : EReal) = 0 := by
    simp [FloatOps.sitofp]
  simp only [mid]
  exact e _ _ _ _ (by omega)

theorem rd_w2 (c : Dev nD) (b : Fin 1024) (k : Fin 1152) : (V m c main_v34 (ix2 k b) : EReal) = last (wrow m c b) k := by
  have hk := k.isLt
  unfold V
  simp only [List.flatten_cons, List.flatten_nil, List.append_nil]
  repeat after_reads_at
  have e (n k : ℕ) (h : n < 2832) (h' : k < 2832) (hn : n = k) : (m ((c : Thread nD τ).loc main_arg1) : FVec Ideal _ .f32) (ix2 b ⟨n, h⟩)
      = (m ((c : Thread nD τ).loc main_arg1) : FVec Ideal _ .f32) (ix2 b ⟨k, h'⟩) := by subst hn; rfl
  have z : (FloatOps.sitofp (F := Ideal) FTy.f32 (0#32 : BitVec 32) : EReal) = 0 := by
    simp [FloatOps.sitofp]
  simp only [last]
  repeat' split
  all_goals first | omega | exact z | exact e _ _ _ _ (by omega)

theorem blk_p0 (c : Dev nD) (t : Fin cfg0.N) (a : Fin 512) (k : Fin 1408) :
    (iblk m c 0 t (ix2 a k) : EReal) = pack (row m c ⟨t.val * 512 + a.val, by have h : t.val < 8 := t.isLt; omega⟩) k := by
  refine Eq.trans ?_ (rd_p0 m c _ k)
  blk_point [iblk, places t]

theorem blk_p1 (c : Dev nD) (t : Fin cfg0.N) (a : Fin 512) (k : Fin 512) :
    (iblk m c 1 t (ix2 a k) : EReal) = mid (row m c ⟨t.val * 512 + a.val, by have h : t.val < 8 := t.isLt; omega⟩) k := by
  refine Eq.trans ?_ (rd_p1 m c _ k)
  blk_point [iblk, places t]

theorem blk_p2 (c : Dev nD) (t : Fin cfg0.N) (a : Fin 512) (k : Fin 1152) :
    (iblk m c 2 t (ix2 a k) : EReal) = last (row m c ⟨t.val * 512 + a.val, by have h : t.val < 8 := t.isLt; omega⟩) k := by
  refine Eq.trans ?_ (rd_p2 m c _ k)
  blk_point [iblk, places t]

theorem blk_w0 (c : Dev nD) (t : Fin cfg0.N) (b : Fin 1024) (k : Fin 1408) :
    (iblk m c 3 t (ix2 k b) : EReal) = pack (wrow m c b) k := by
  refine Eq.trans ?_ (rd_w0 m c b k)
  blk_point [iblk, places t]

theorem blk_w1 (c : Dev nD) (t : Fin cfg0.N) (b : Fin 1024) (k : Fin 512) :
    (iblk m c 4 t (ix2 k b) : EReal) = mid (wrow m c b) k := by
  refine Eq.trans ?_ (rd_w1 m c b k)
  blk_point [iblk, places t]

theorem blk_w2 (c : Dev nD) (t : Fin cfg0.N) (b : Fin 1024) (k : Fin 1152) :
    (iblk m c 5 t (ix2 k b) : EReal) = last (wrow m c b) k := by
  refine Eq.trans ?_ (rd_w2 m c b k)
  blk_point [iblk, places t]

theorem blk_x (c : Dev nD) (t : Fin cfg0.N) (a : Fin 512) (k : Fin 1024) :
    (iblk m c 6 t (ix2 a k) : EReal) = (m ((c : Thread nD τ).loc main_arg2) : FVec Ideal S4096x1024 .f32)
      (ix2 ⟨t.val * 512 + a.val, by have h : t.val < 8 := t.isLt; omega⟩ k) := by
  have e : V m c main_arg2 = m ((c : Thread nD τ).loc main_arg2) := by
    unfold V
    simp only [List.flatten_cons, List.flatten_nil, List.append_nil]
    after_reads_at
  rw [← e]
  blk_point [iblk, places t]

theorem blk_r (c : Dev nD) (t : Fin cfg0.N) (a : Fin 512) (k : Fin 1024) :
    (iblk m c 8 t (ix2 a k) : EReal) = (m ((c : Thread nD τ).loc main_arg4) : FVec Ideal S4096x1024 .f32)
      (ix2 ⟨t.val * 512 + a.val, by have h : t.val < 8 := t.isLt; omega⟩ k) := by
  have e : V m c main_arg4 = m ((c : Thread nD τ).loc main_arg4) := by
    unfold V
    simp only [List.flatten_cons, List.flatten_nil, List.append_nil]
    after_reads_at
  rw [← e]
  blk_point [iblk, places t]

theorem kept0 (c : Dev nD) : V m c main_arg0 = m ((c : Thread nD τ).loc main_arg0) := by
  unfold V
  simp only [List.flatten_cons, List.flatten_nil, List.append_nil]
  after_reads_at

theorem kept1 (c : Dev nD) : V m c main_arg1 = m ((c : Thread nD τ).loc main_arg1) := by
  unfold V
  simp only [List.flatten_cons, List.flatten_nil, List.append_nil]
  after_reads_at

theorem kept3 (c : Dev nD) : V m c main_arg3 = m ((c : Thread nD τ).loc main_arg3) := by
  unfold V
  simp only [List.flatten_cons, List.flatten_nil, List.append_nil]
  after_reads_at

theorem blk_g (c : Dev nD) (t : Fin cfg0.N) (k : Fin 1024) :
    (iblk m c 7 t (ix2 0 k) : EReal) = (m ((c : Thread nD τ).loc main_arg3) : FVec Ideal S1024 .f32) (ix1 k) := by
  have e : V m c main_v35 (ix2 0 k) = (m ((c : Thread nD τ).loc main_arg3) : FVec Ideal S1024 .f32) (ix1 k) := by
    unfold V
    simp only [List.flatten_cons, List.flatten_nil, List.append_nil]
    repeat after_reads_at
  rw [← e]
  blk_point [iblk, places t]

/-- The tile's product of cotangents and weights. -/
theorem blk_acc (c : Dev nD) (t : Fin cfg0.N) (a : Fin 512) (b : Fin 1024) :
    k0_pay3 (F := Ideal) (iblk m c 0 t) (iblk m c 3 t) (iblk m c 1 t) (iblk m c 4 t) (iblk m c 2 t) (iblk m c 5 t) (ix2 a b)
      = acc (row m c ⟨t.val * 512 + a.val, by have h : t.val < 8 := t.isLt; omega⟩) (wrow m c b) := by
  refine (tile_acc _ _ _ _ _ _ _).trans ?_
  rw [← acc3_eq]
  show acc3 (fun k => iblk m c 0 t (ix2 a k)) (fun k => iblk m c 1 t (ix2 a k)) (fun k => iblk m c 2 t (ix2 a k))
    (fun k => iblk m c 3 t (ix2 k b)) (fun k => iblk m c 4 t (ix2 k b)) (fun k => iblk m c 5 t (ix2 k b)) = _
  simp only [blk_p0, blk_p1, blk_p2, blk_w0, blk_w1, blk_w2]

/-- The gradient of the norm's input, for the whole array. -/
def dh (p : FVec Ideal S4096x2832 .f32) (w : FVec Ideal S1024x2832 .f32) (x : FVec Ideal S4096x1024 .f32) (g : FVec Ideal S1024 .f32)
    (r : FVec Ideal S4096x1024 .f32) : FVec Ideal S4096x1024 .f32 := fun i =>
  Norm.dx (fun k => x (ix2 (i 0) k)) (fun b => acc (fun k => p (ix2 (i 0) k)) (fun k => w (ix2 b k)) * g (ix1 b))
    (fun k => r (ix2 (i 0) k)) (i 1)

/-- The gradient of the norm's weights. -/
def dg (p : FVec Ideal S4096x2832 .f32) (w : FVec Ideal S1024x2832 .f32) (x : FVec Ideal S4096x1024 .f32) :
    FVec Ideal S1x1024 .f32 := fun j =>
  ∑ a : Fin 4096, acc (fun k => p (ix2 a k)) (fun k => w (ix2 (j 1) k)) * x (ix2 a (j 1)) * Norm.scl (fun k => x (ix2 a k))

theorem blk_dh (c : Dev nD) (t : Fin cfg0.N) (a : Fin 512) (b : Fin 1024) :
    Norm.dx (fun k => iblk m c 6 t (ix2 a k)) (fun k => k0_pay3 (F := Ideal) (iblk m c 0 t) (iblk m c 3 t) (iblk m c 1 t)
        (iblk m c 4 t) (iblk m c 2 t) (iblk m c 5 t) (ix2 a k) * iblk m c 7 t (ix2 0 k)) (fun k => iblk m c 8 t (ix2 a k)) b
      = dh (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨t.val * 512 + a.val, by have h : t.val < 8 := t.isLt; omega⟩ b) := by
  simp only [blk_acc, blk_g, blk_x, blk_r]
  rfl

theorem result_dh (c : Dev nD) : (Gen.dats m 0 c).arrAt 9 (cfgs 0).N
    = dh (m ((c : Thread nD τ).loc main_arg0)) (m ((c : Thread nD τ).loc main_arg1)) (m ((c : Thread nD τ).loc main_arg2))
      (m ((c : Thread nD τ).loc main_arg3)) (m ((c : Thread nD τ).loc main_arg4)) := by
  refine (Gen.dats m 0 c).arrAt_eq_of_covers 9 _ (by decide +kernel) fun t _ y => ?_
  blk_simp
  rw [after0_9]
  by_cases h : t.val % 8 = 0
  · rw [outsAt0_A m c t h]; frame_out
    refine (tile_dh _ _ _ _ _ _ _ rfl _ _ _ _).trans ((blk_dh m c t (y 0) (y 1)).trans ?_)
    refine congrArg _ ?_
    blk_point [places t]
  · rw [outsAt0_B m c t h]; frame_out
    refine (tile_dh _ _ _ _ _ _ _ rfl _ _ _ _).trans ((blk_dh m c t (y 0) (y 1)).trans (congrArg _ ?_))
    blk_point [places t]

theorem result_dg (c : Dev nD) : (Gen.dats m 0 c).arrAt 10 (cfgs 0).N
    = dg (m ((c : Thread nD τ).loc main_arg0)) (m ((c : Thread nD τ).loc main_arg1)) (m ((c : Thread nD τ).loc main_arg2)) := by
  refine (Gen.dats m 0 c).arrAt_eq_of_after_last 10 t0_7 (by decide +kernel) _ fun j => ?_
  blk_simp
  rw [after0_10, Pipeline.eq_sum_fin_of_reset_step_apply_last (fun n h => (outsAt0 m c n h).2) 8 (fun _ => 0) _
    (fun t h j => by rw [outsAt0_A m c t h]; frame_out; rw [tile_dg, zero_dg])
    (fun t h j => by rw [outsAt0_B m c t h]; frame_out; rw [tile_dg]) (le_of_eq N_0) t0_7 rfl j, zero_add]
  simp only [dg]
  refine Fin.sum_mul_add_congr fun p a hl => ?_
  rw [show k0_pay3 (F := Ideal) (iblk m c 0 p) (iblk m c 3 p) (iblk m c 1 p) (iblk m c 4 p) (iblk m c 2 p) (iblk m c 5 p) (ix2 a (j 1))
    = _ from blk_acc m c p a (j 1), show iblk m c 6 p (ix2 a (j 1)) = _ from blk_x m c p a (j 1)]
  simp only [blk_x]

set_option maxHeartbeats 1600000 in
theorem same : Cert.algebraic_ProjIdeal_ProjRefIdeal := by
  pair_intro
  · run_from Cert.ProjIdeal.Gen.run_main m g
    · exact kept0 m c
    · exact kept1 m c
    · exact kept3 m c
  · run_from Cert.ProjRefIdeal.Value.run m' g'
    · rw [result_dh]
      obtain ⟨h0, h1, h2, h3, h4⟩ := hagree c
      unfold Cert.ProjRefIdeal.Value.res_main_v38
      rw [h0, h1, h2, h3, h4]
      funext i
      refine Eq.trans ?_ (Norm.dx_eq _ _ _ _)
      pointwise [acc, Norm.scl]
      simp only [Finset.univ_unique, Finset.sum_singleton]
    · rw [result_dg]
      funext i
      pointwise [dg, acc, Norm.scl]
      simp only [Finset.univ_unique, Finset.sum_singleton]
      refine Finset.sum_congr rfl fun a _ => ?_
      ac_rfl

end Cert.ProjIdeal.Proj
end
-- ==== Proof.Glu.lean ====
/- The gradient of the gated convolution's input: the transposed convolution of the cotangent over 31 taps, times the
   derivative of the gate, in tiles of 512 rows that read 32 rows of the next tile. -/
module

public import proofs.«01_k».proof.Proof.Gen.GluIdeal.Value
public import proofs.«01_k».proof.Proof.Gen.GluRefIdeal.Run
public import proofs.«01_k».proof.Proof.Norm
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.GluIdeal.Glu

open Cert.GluIdeal Cert.GluIdeal.Gen
open Idealize.ShloMosaic Idealize.ShloMosaic.TcCoe Idealize.SL.Sem
open Idealize.ShloMosaic.Pipeline (Dat)

theorem places : ∀ t : Fin cfg0.N, win0_0.index t = ![t.val, 0] ∧ win0_1.index t = ![t.val, 0]
    ∧ win0_2.index t = ![min ((t.val + 1) * 16) 127, 0] ∧ win0_3.index t = ![0, 0] ∧ win0_4.index t = ![t.val, 0]
    ∧ (grid0.coords t 0).val = t.val ∧ t.val < 8 :=
  (by decide +kernel : ∀ t : Fin grid0.N, _)

variable (m : (ℓ : Loc nD τ sig) → Buf (Elt Ideal) ℓ)

/-- The cotangent's rows a tile works on: its own 512 rows and the 32 rows after them, zero after the last tile. -/
def buf (i : grid0.Coords) (d : FVec Ideal S512x256 .f32) (e : FVec Ideal S32x256 .f32) : FVec Ideal S544x256 .f32 := fun j =>
  if h : (j 0).val < 512 then d (ix2 ⟨(j 0).val, h⟩ (j 1))
  else if (i 0).val < 7 then e (ix2 ⟨(j 0).val - 512, by have h' : (j 0).val < 544 := (j 0).isLt; omega⟩ (j 1)) else 0

theorem scratch (i : grid0.Coords) (d : FVec Ideal S512x256 .f32) (e : FVec Ideal S32x256 .f32) :
    View.canon (Val := Elt Ideal) (e := .f32) [⟨Rect.unit (s := S544x256) ![512, 0] ![32, 256] inb_S544x256_S32x256_512_0, k0_pay6 (F := Ideal) i e⟩,
      ⟨Rect.unit (s := S544x256) ![0, 0] ![512, 256] inb_S544x256_S512x256_0_0, k0_pay5 (F := Ideal) d⟩] = buf i d e := by
  funext j
  have hi : (i 0).val < 8 := (i 0).isLt
  have hcover : ∃ p ∈ ([⟨Rect.unit (s := S544x256) ![512, 0] S32x256.size inb_S544x256_S32x256_512_0, k0_pay6 (F := Ideal) i e⟩,
      ⟨Rect.unit (s := S544x256) ![0, 0] S512x256.size inb_S544x256_S512x256_0_0, k0_pay5 (F := Ideal) d⟩] :
        List (View.Piece (Elt Ideal) S544x256 .f32)), j ∈ p.1.set := by
    have h0 : (j 0).val < 544 := (j 0).isLt
    have h1 : (j 1).val < 256 := (j 1).isLt
    by_cases h : (j 0).val < 512
    · refine ⟨_, List.mem_cons_of_mem _ (List.mem_singleton_self _), ?_⟩
      rw [Rect.mem_set_unit]
      intro a
      match a with
      | ⟨0, _⟩ => exact ⟨Nat.zero_le _, by show (j 0).val < 0 + 512; omega⟩
      | ⟨1, _⟩ => exact ⟨Nat.zero_le _, by show (j 1).val < 0 + 256; omega⟩
    · refine ⟨_, List.mem_cons_self, ?_⟩
      rw [Rect.mem_set_unit]
      intro a
      match a with
      | ⟨0, _⟩ => exact ⟨by show 512 ≤ (j 0).val; omega, by show (j 0).val < 512 + 32; omega⟩
      | ⟨1, _⟩ => exact ⟨Nat.zero_le _, by show (j 1).val < 0 + 256; omega⟩
  canon_tiles x h using hcover
  · simp only [buf]
    rw [dif_neg (by omega)]
    pointwise [k0_pay6]
    have hb : BitVec.slt (BitVec.ofNat 32 (i 0).val) 7#32 = decide ((i 0).val < 7) := by
      generalize (i 0).val = n at hi
      interval_cases n <;> rfl
    simp only [Scalar.select, Scalar.cmpi, IntOp.cmpi, hb]
    by_cases h7 : (i 0).val < 7
    · rw [if_pos (by simp [h7]), if_pos h7]
      blk_point []
    · rw [if_neg (by simp [h7]), if_neg h7]
  · simp only [buf]
    rw [dif_pos (by omega)]
    pointwise [k0_pay5]
    blk_point []

/-- A sum of 31 terms in the order the taps are added. -/
theorem ladder (f : Fin 31 → EReal) : ∑ j, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  repeat rw [Fin.sum_univ_castSucc]
  rw [Fin.sum_univ_zero, zero_add]
  rfl

def taps (B : FVec Ideal S544x256 .f32) (w : FVec Ideal S32x256 .f32) (n : Fin 512) (b : Fin 256) : EReal :=
  ∑ j : Fin 31, w (ix2 ⟨j, by omega⟩ b) * B (ix2 ⟨n + (30 - j), by omega⟩ b)

/-- The gate as the kernel computes it. -/
def sg (x : EReal) : EReal := Ideal.div 1 (1 + Ideal.exp (0 - x))

def tile (B : FVec Ideal S544x256 .f32) (w : FVec Ideal S32x256 .f32) (u : FVec Ideal S512x512 .f32) : FVec Ideal S512x512 .bf16 := fun y =>
  let n : Fin 512 := y 0
  let b : Fin 512 := y 1
  if h : b.val < 256 then taps B w n ⟨b, h⟩ * sg (u (ix2 n ⟨b + 256, by omega⟩))
  else taps B w n ⟨b - 256, by omega⟩ * u (ix2 n ⟨b - 256, by omega⟩) * sg (u (ix2 n b))
    * (1 - sg (u (ix2 n b)))

/-- The cotangent's rows, zero past the end. -/
def ext (d : FVec Ideal S4096x256 .f32) (n : ℕ) (b : Fin 256) : EReal := if h : n < 4096 then d (ix2 ⟨n, h⟩ b) else 0

/-- The transposed convolution of the cotangent. -/
def back (d : FVec Ideal S4096x256 .f32) (w : FVec Ideal S31x256 .f32) (n : ℕ) (b : Fin 256) : EReal :=
  ∑ j : Fin 31, w (ix2 j b) * ext d (n + (30 - j)) b

/-- The gradient of both halves of the gate's input. -/
def du (u : FVec Ideal S4096x512 .f32) (w : FVec Ideal S31x256 .f32) (d : FVec Ideal S4096x256 .f32) : FVec Ideal S4096x512 .bf16 := fun i =>
  let n : Fin 4096 := i 0
  let b : Fin 512 := i 1
  if h : b.val < 256 then back d w n ⟨b, h⟩ * sg (u (ix2 n ⟨b + 256, by omega⟩))
  else back d w n ⟨b - 256, by omega⟩ * u (ix2 n ⟨b - 256, by omega⟩) * sg (u (ix2 n b)) * (1 - sg (u (ix2 n b)))

/-- The padded weights agree with the weights on their first 31 rows. -/
theorem pad_at (c : Dev nD) (i : S32x256.Idx) (h : (i 0).val < 31) :
    (V m c main_v0 i : EReal) = (m ((c : Thread nD τ).loc main_arg1) : FVec Ideal S31x256 .f32) (ix2 ⟨(i 0).val, h⟩ (i 1)) := by
  unfold V
  simp only [List.flatten_cons, List.flatten_nil, List.append_nil]
  repeat after_reads_at
  refine (dif_pos h).trans ?_
  blk_point []

theorem blk_w (c : Dev nD) (t : Fin cfg0.N) (j : Fin 31) (b : Fin 256) :
    (iblk m c 3 t (ix2 ⟨j, by omega⟩ b) : EReal) = (m ((c : Thread nD τ).loc main_arg1) : FVec Ideal S31x256 .f32) (ix2 j b) := by
  refine Eq.trans (b := V m c main_v0 (ix2 ⟨j, by omega⟩ b)) ?_ (pad_at m c _ j.isLt)
  blk_point [iblk, places t]

theorem blk_u (c : Dev nD) (t : Fin cfg0.N) (a b : Fin 512) :
    (iblk m c 0 t (ix2 a b) : EReal) = (m ((c : Thread nD τ).loc main_arg0) : FVec Ideal S4096x512 .f32)
      (ix2 ⟨t.val * 512 + a.val, by have h := (places t).2.2.2.2.2.2; omega⟩ b) := by
  blk_point [iblk, V, places t]

theorem buf_lo (i : grid0.Coords) (d : FVec Ideal S512x256 .f32) (e : FVec Ideal S32x256 .f32) (k : ℕ) (hk : k < 544) (b : Fin 256)
    (h : k < 512) : buf i d e (ix2 ⟨k, hk⟩ b) = d (ix2 ⟨k, h⟩ b) := dif_pos h

theorem buf_hi (i : grid0.Coords) (d : FVec Ideal S512x256 .f32) (e : FVec Ideal S32x256 .f32) (k : ℕ) (hk : k < 544) (b : Fin 256)
    (h : ¬ k < 512) : buf i d e (ix2 ⟨k, hk⟩ b) = if (i 0).val < 7 then e (ix2 ⟨k - 512, by omega⟩ b) else 0 := dif_neg h

theorem blk_d (c : Dev nD) (t : Fin cfg0.N) (k : ℕ) (hk : k < 544) (b : Fin 256) :
    buf (grid0.coords t) (iblk m c 1 t) (iblk m c 2 t) (ix2 ⟨k, hk⟩ b)
      = ext (m ((c : Thread nD τ).loc main_arg2)) (t.val * 512 + k) b := by
  have hp := places t
  have h8 := hp.2.2.2.2.2.2
  have hc := hp.2.2.2.2.2.1
  unfold ext
  by_cases h : k < 512
  · rw [buf_lo _ _ _ _ _ _ h, dif_pos (by omega)]
    blk_point [iblk, V, places t]
  · rw [buf_hi _ _ _ _ _ _ h, hc]
    by_cases h7 : t.val < 7
    · rw [if_pos h7, dif_pos (by omega)]
      blk_point [iblk, V, places t]
    · rw [if_neg h7, dif_neg (by omega)]

theorem taps_eq (c : Dev nD) (t : Fin cfg0.N) (n : Fin 512) (b : Fin 256) :
    taps (buf (grid0.coords t) (iblk m c 1 t) (iblk m c 2 t)) (iblk m c 3 t) n b
      = back (m ((c : Thread nD τ).loc main_arg2)) (m ((c : Thread nD τ).loc main_arg1)) (t.val * 512 + n) b := by
  unfold taps back
  refine Finset.sum_congr rfl fun j _ => ?_
  rw [blk_w, blk_d, Nat.add_assoc]

theorem tile_eq (c : Dev nD) (t : Fin cfg0.N) (a b : Fin 512) :
    tile (buf (grid0.coords t) (iblk m c 1 t) (iblk m c 2 t)) (iblk m c 3 t) (iblk m c 0 t) (ix2 a b)
      = du (m ((c : Thread nD τ).loc main_arg0)) (m ((c : Thread nD τ).loc main_arg1)) (m ((c : Thread nD τ).loc main_arg2))
        (ix2 ⟨t.val * 512 + a.val, by have h := (places t).2.2.2.2.2.2; omega⟩ b) := by
  by_cases h : b.val < 256
  · refine (dif_pos h).trans (Eq.trans ?_ (dif_pos h).symm)
    exact congrArg₂ (· * ·) (taps_eq m c t a _) (congrArg sg (blk_u m c t a _))
  · refine (dif_neg h).trans (Eq.trans ?_ (dif_neg h).symm)
    exact congrArg₂ (· * ·) (congrArg₂ (· * ·) (congrArg₂ (· * ·) (taps_eq m c t a _) (blk_u m c t a _))
      (congrArg sg (blk_u m c t a b))) (congrArg (fun z => 1 - sg z) (blk_u m c t a b))

/-- A sum against the indicator of `x + j = 30 + n` picks one row. -/
theorem pick (d : FVec Ideal S4096x256 .f32) (w : FVec Ideal S31x256 .f32) (n : Fin 4096) (b : Fin 256) :
    (∑ x : Fin 4096, ∑ j : Fin 31, d (ix2 x b) * w (ix2 j b) *
      FloatOps.uitofp (F := Ideal) FTy.f32 (IntOp.cmpi CmpIPredicate.eq (IntOp.addi (BitVec.ofNat 32 x.val) (BitVec.ofNat 32 j.val))
        (BitVec.ofNat 32 (30 + n.val)))) = back d w n b := by
  rw [Finset.sum_comm]
  unfold back ext
  refine Finset.sum_congr rfl fun j _ => ?_
  have hj := j.isLt
  have hn := n.isLt
  have key : ∀ x : Fin 4096, d (ix2 x b) * w (ix2 j b) *
      FloatOps.uitofp (F := Ideal) FTy.f32 (IntOp.cmpi CmpIPredicate.eq (IntOp.addi (BitVec.ofNat 32 x.val) (BitVec.ofNat 32 j.val))
        (BitVec.ofNat 32 (30 + n.val))) = if x.val = n.val + (30 - j) then w (ix2 j b) * d (ix2 x b) else 0 := by
    intro x
    have hx := x.isLt
    have he : (BitVec.ofNat 32 x.val + BitVec.ofNat 32 j.val = BitVec.ofNat 32 (30 + n.val)) ↔ x.val = n.val + (30 - j) := by
      rw [← BitVec.toNat_inj]
      simp only [BitVec.toNat_add, BitVec.toNat_ofNat]
      omega
    by_cases h : x.val = n.val + (30 - j)
    · rw [if_pos h]
      simp [IntOp.cmpi, IntOp.addi, he.2 h, FloatOps.uitofp, mul_comm]
    · rw [if_neg h]
      simp [IntOp.cmpi, IntOp.addi, mt he.1 h, FloatOps.uitofp]
  rw [Finset.sum_congr rfl fun x _ => key x]
  by_cases h : n.val + (30 - j) < 4096
  · rw [dif_pos h, Finset.sum_eq_single ⟨n.val + (30 - j), h⟩, if_pos rfl]
    · intro x _ hx
      rw [if_neg fun e => hx (Fin.ext e)]
    · intro hx
      exact absurd (Finset.mem_univ _) hx
  · rw [dif_neg h, mul_zero]
    refine Finset.sum_eq_zero fun x _ => ?_
    have hx := x.isLt
    rw [if_neg (by omega)]

set_option maxHeartbeats 3200000 in
theorem out_eq (c : Dev nD) (t : Fin cfg0.N) (y : S512x512.Idx) : outsAt0 m c t y
    = tile (buf (grid0.coords t) (iblk m c 1 t) (iblk m c 2 t)) (iblk m c 3 t) (iblk m c 0 t) y := by
  unfold outsAt0
  frame_out
  simp only [View.readCov_eq_canon', scratch]
  generalize buf (grid0.coords t) (iblk m c 1 t) (iblk m c 2 t) = B
  canon_tiles x h
  all_goals
    open_payloads
    pointwise []
    simp only [tile, taps, ladder, sg]
    first
      | rw [dif_neg (by omega)]
      | rw [dif_pos (by omega)]
    blk_point []

theorem result_du (c : Dev nD) : (Gen.dats m 0 c).arrAt 4 (cfgs 0).N
    = du (m ((c : Thread nD τ).loc main_arg0)) (m ((c : Thread nD τ).loc main_arg1)) (m ((c : Thread nD τ).loc main_arg2)) := by
  refine (Gen.dats m 0 c).arrAt_eq_of_covers 4 _ (by decide +kernel) fun t hf y => ?_
  blk_simp
  rw [after0_4, out_eq]
  refine (tile_eq m c t (y 0) (y 1)).trans (congrArg _ ?_)
  blk_point [places t]

theorem kept1 (c : Dev nD) : V m c main_arg1 = m ((c : Thread nD τ).loc main_arg1) := by
  unfold V
  simp only [List.flatten_cons, List.flatten_nil, List.append_nil]
  repeat after_reads_at

set_option maxHeartbeats 1600000 in
theorem same : Cert.algebraic_GluIdeal_GluRefIdeal := by
  pair_intro
  · run_from Cert.GluIdeal.Gen.run_main m g
    · exact kept1 m c
  · run_from Cert.GluRefIdeal.Value.run m' g'
    rw [result_du]
    funext i
    rw [(hagree c).2.2]
    pointwise [pick]
    unfold du
    dsimp only
    by_cases h : (i 1).val < 256
    · rw [dif_pos h]
      refine Eq.trans ?_ (dif_pos h).symm
      refine congrArg₂ (· * ·) (pick _ _ (i 0) _) ?_
      unfold sg
      rw [zero_sub]
      blk_point []
    · rw [dif_neg h]
      refine Eq.trans ?_ (dif_neg h).symm
      refine (congrArg₂ (· * ·) (congrArg₂ (· * ·) rfl (pick _ _ (i 0) _)) rfl).trans ?_
      have hi : ∀ hh, (⟨256 + ((i 1).val - 256), hh⟩ : Fin 512) = i 1 := fun _ => Fin.ext (by show 256 + ((i 1).val - 256) = (i 1).val; omega)
      unfold sg
      rw [zero_sub, hi, ← mul_assoc]
      congr 2
      exact mul_comm _ _
-- ==== Proof.DcHost.lean ====
/- What the host computes before the kernel: the gated input and its convolution over 31 taps. -/
module

public import proofs.«01_k».proof.Proof.Gen.DcIdeal.Frame.Runs
public import Idealize.ShloMosaic.Lib.Pipeline.ValueKit
public import Idealize.ShloMosaic.Lib.Pointwise
public import Idealize.ShloMosaic.Lib.StableHlo.ReadAt

@[expose] public section

set_option maxRecDepth 16384

noncomputable section

namespace Cert.DcIdeal.Host

open Cert.DcIdeal Cert.DcIdeal.Gen
open Idealize.ShloMosaic Idealize.ShloMosaic.TcCoe Idealize.SL.Sem

/-- The gated input. -/
def glu (u : FVec Ideal S4096x512 .f32) (n : Fin 4096) (k : Fin 256) : EReal :=
  u (ix2 n ⟨k.val, by omega⟩) * Ideal.div 1 (1 + Ideal.exp (-(u (ix2 n ⟨256 + k.val, by omega⟩))))

/-- The gated input behind 30 rows of zeros. -/
def hp (u : FVec Ideal S4096x512 .f32) (n : ℕ) (k : Fin 256) : EReal :=
  if h : 30 ≤ n ∧ n < 4126 then glu u ⟨n - 30, by omega⟩ k else 0

/-- The convolution. -/
def cv (u : FVec Ideal S4096x512 .f32) (w : FVec Ideal S31x256 .f32) (n : ℕ) (k : Fin 256) : EReal :=
  ∑ j : Fin 31, hp u (n + j.val) k * w (ix2 j k)

variable (m : (ℓ : Loc nD τ sig) → Buf (Elt Ideal) ℓ)

theorem pad_if (u : FVec Ideal S4096x512 .f32) (n : ℕ) (k : Fin 256) (h : n < 4126) :
    (if h' : n < 30 then 0 else u (ix2 ⟨n - 30, by omega⟩ ⟨k.val, by omega⟩) *
      Ideal.div 1 (1 + Ideal.exp (-(u (ix2 ⟨n - 30, by omega⟩ ⟨256 + k.val, by omega⟩))))) = hp u n k := by
  by_cases h' : n < 30
  · refine Eq.trans (dif_pos h') (Eq.symm (dif_neg ?_))
    omega
  · refine Eq.trans (dif_neg h') (Eq.symm (dif_pos ?_))
    omega

theorem last_tap (u : FVec Ideal S4096x512 .f32) (n : Fin 4096) (k : Fin 256) :
    u (ix2 n ⟨k.val, by omega⟩) * Ideal.div 1 (1 + Ideal.exp (-(u (ix2 n ⟨256 + k.val, by omega⟩)))) = hp u (n.val + 30) k := by
  refine Eq.trans ?_ (Eq.symm (dif_pos ?_))
  · exact congrArg (fun n => glu u n k) (Fin.ext (Nat.add_sub_cancel n.val 30).symm)
  · have hn := n.isLt
    omega

set_option maxHeartbeats 16000000 in
theorem conv_at (c : Dev nD) (i : S4096x256.Idx) :
    (V m c main_v79 i : EReal) = cv (m ((c : Thread nD τ).loc main_arg0)) (m ((c : Thread nD τ).loc main_arg1)) (i 0).val (i 1) := by
  have h0 : (i 0).val < 4096 := (i 0).isLt
  unfold V
  simp only [List.flatten_cons, List.flatten_nil, List.append_nil]
  repeat after_reads_at
  unfold cv
  rw [show (∑ j : Fin 31, hp (m ((c : Thread nD τ).loc main_arg0)) ((i 0).val + j.val) (i 1) * (m ((c : Thread nD τ).loc main_arg1) : FVec Ideal S31x256 .f32) (ix2 j (i 1)))
    = ∑ j : Fin (16 + 15), hp (m ((c : Thread nD τ).loc main_arg0)) ((i 0).val + j.val) (i 1) * (m ((c : Thread nD τ).loc main_arg1) : FVec Ideal S31x256 .f32) (ix2 j (i 1)) from rfl, Fin.sum_univ_add]
  refine congrArg₂ (· + ·) (Finset.sum_congr rfl fun x _ => congrArg₂ (· * ·) ?_ rfl) (Finset.sum_congr rfl fun x _ => congrArg₂ (· * ·) ?_ rfl)
  all_goals
    fin_cases x
    all_goals
      repeat after_reads_at
      first
        | exact last_tap _ (i 0) (i 1)
        | refine (pad_if _ _ _ ?_).trans (congrArg (fun n => hp _ n _) ?_)
          · omega
          · first
              | rfl
              | exact Nat.add_comm _ _

end Cert.DcIdeal.Host
end
-- ==== Proof.DcRow.lean ====
/- One row of the layer norm and gate behind the convolution, and its gradient, as the kernel's blocks of 64 rows compute
   them. -/
module

public import proofs.«01_k».proof.Proof.Gen.DcIdeal.Skeleton
public import Idealize.ShloMosaic.Lib.Pipeline.ValueKit
public import Idealize.ShloMosaic.Lib.Pointwise

@[expose] public section

set_option maxRecDepth 16384

noncomputable section

namespace Cert.DcIdeal.Row

open Cert.DcIdeal Cert.DcIdeal.Gen
open Idealize.ShloMosaic

/-- The mean of a row. -/
def mean (x : Fin 256 → EReal) : EReal := Ideal.div (∑ k, x k) (Ideal.ofBits .f32 0x43800000#32)

/-- A row less its mean. -/
def cen (x : Fin 256 → EReal) (k : Fin 256) : EReal := x k - mean x

/-- One over the row's deviation. -/
def inv (x : Fin 256 → EReal) : EReal := Ideal.rsqrt (mean (fun k => cen x k * cen x k) + Ideal.ofBits .f32 0x358637BD#32)

/-- The normed row. -/
def nrm (x : Fin 256 → EReal) (k : Fin 256) : EReal := cen x k * inv x

/-- The gradient at the gate's input. -/
def dz (x g l o : Fin 256 → EReal) (k : Fin 256) : EReal :=
  let z := nrm x k * g k + l k
  let s := Ideal.div 1 (1 + Ideal.exp (0 - z))
  o k * (s * (1 + z * (1 - s)))

/-- The gradient at the normed row. -/
def dn (x g l o : Fin 256 → EReal) (k : Fin 256) : EReal := dz x g l o k * g k

/-- The gradient at the row. -/
def dx (x g l o : Fin 256 → EReal) (k : Fin 256) : EReal :=
  inv x * (dn x g l o k - mean (dn x g l o) - nrm x k * mean (fun k => dn x g l o k * nrm x k))

/-- Block row `a` as it enters the norm. -/
abbrev xr (c : FVec Ideal S64x256 .f32) (b : FVec Ideal S1x256 .f32) (a : Fin 64) : Fin 256 → EReal :=
  fun k => c (ix2 a k) + b (ix2 0 k)

section
variable {F : FTy → Type} [FloatOps F]

/-- The gradient of a block of rows. -/
abbrev bdx (c o : FVec F S64x256 .f32) (b g l : FVec F S1x256 .f32) : FVec F S64x256 .f32 :=
  k0_pay18 (k0_pay12 (k0_pay10 c) b) (k0_pay13 (k0_pay10 c) b) o (k0_pay14 (k0_pay10 c) b g l) g

/-- What a block of rows adds to the scale's gradient. -/
abbrev bdg (c o : FVec F S64x256 .f32) (b g l r : FVec F S1x256 .f32) : FVec F S1x256 .f32 :=
  k0_pay16 (k0_pay13 (k0_pay10 c) b) o (k0_pay14 (k0_pay10 c) b g l) r

/-- What a block of rows adds to the offset's gradient. -/
abbrev bdl (c o : FVec F S64x256 .f32) (b g l r : FVec F S1x256 .f32) : FVec F S1x256 .f32 :=
  k0_pay17 o (k0_pay14 (k0_pay10 c) b g l) r

/-- What a block of rows adds to the bias's gradient. -/
abbrev bdb (c o : FVec F S64x256 .f32) (b g l r : FVec F S1x256 .f32) : FVec F S1x256 .f32 :=
  k0_pay20 (bdx c o b g l) r
end

variable (c o : FVec Ideal S64x256 .f32) (b g l r : FVec Ideal S1x256 .f32)

/-- The two sums over a row, the block's row. -/
abbrev v1 (v : FVec Ideal S1x256 .f32) : Fin 256 → EReal := fun k => v (ix2 0 k)

abbrev v64 (v : FVec Ideal S64x256 .f32) (a : Fin 64) : Fin 256 → EReal := fun k => v (ix2 a k)

theorem eta (v : FVec Ideal S64x256 .f32) (j : S64x256.Idx) : v j = v (ix2 (j 0) (j 1)) :=
  congrArg v (funext fun a => match a with | ⟨0, _⟩ => rfl | ⟨1, _⟩ => rfl)

theorem at_cen (j : S64x256.Idx) : k0_pay11 (F := Ideal) (k0_pay10 (F := Ideal) c) b j = cen (xr c b (j 0)) (j 1) := by
  pointwise [k0_pay10, k0_pay11, cen, mean]
  rw [eta c j]

theorem at_inv (j : S64x1.Idx) : k0_pay12 (F := Ideal) (k0_pay10 (F := Ideal) c) b j = inv (xr c b (j 0)) := by
  unfold k0_pay12
  generalize hX : k0_pay11 (F := Ideal) (k0_pay10 (F := Ideal) c) b = X
  pointwise [inv, mean]
  subst hX
  simp only [at_cen]
  rfl

theorem at_nrm (j : S64x256.Idx) : k0_pay13 (F := Ideal) (k0_pay10 (F := Ideal) c) b j = nrm (xr c b (j 0)) (j 1) := by
  unfold k0_pay13
  generalize hX : k0_pay11 (F := Ideal) (k0_pay10 (F := Ideal) c) b = X
  generalize hY : k0_pay12 (F := Ideal) (k0_pay10 (F := Ideal) c) b = Y
  pointwise [nrm]
  subst hX hY
  simp only [at_cen, at_inv]
  rfl

theorem at_gate (j : S64x256.Idx) : k0_pay15 (F := Ideal) o (k0_pay14 (F := Ideal) (k0_pay10 (F := Ideal) c) b g l) j = dz (xr c b (j 0)) (v1 g) (v1 l) (v64 o (j 0)) (j 1) := by
  unfold k0_pay15 k0_pay14
  generalize hX : k0_pay13 (F := Ideal) (k0_pay10 (F := Ideal) c) b = X
  pointwise [dz]
  subst hX
  simp only [at_nrm]
  rw [eta o j]

theorem at_dx (j : S64x256.Idx) : bdx (F := Ideal) c o b g l j = dx (xr c b (j 0)) (v1 g) (v1 l) (v64 o (j 0)) (j 1) := by
  unfold bdx k0_pay18
  generalize hX : k0_pay13 (F := Ideal) (k0_pay10 (F := Ideal) c) b = X
  generalize hY : k0_pay12 (F := Ideal) (k0_pay10 (F := Ideal) c) b = Y
  generalize hZ : k0_pay15 (F := Ideal) o (k0_pay14 (F := Ideal) (k0_pay10 (F := Ideal) c) b g l) = Z
  pointwise [dx, mean]
  subst hX hY hZ
  simp only [at_nrm, at_inv, at_gate]
  rfl

theorem at_dg (j : S1x256.Idx) : bdg (F := Ideal) c o b g l r j
    = r j + ∑ a : Fin 64, dz (xr c b a) (v1 g) (v1 l) (v64 o a) (j 1) * nrm (xr c b a) (j 1) := by
  have h0 : (j 0).val = 0 := by have h : (j 0).val < 1 := (j 0).isLt; omega
  unfold bdg k0_pay16
  generalize hX : k0_pay13 (F := Ideal) (k0_pay10 (F := Ideal) c) b = X
  generalize hZ : k0_pay15 (F := Ideal) o (k0_pay14 (F := Ideal) (k0_pay10 (F := Ideal) c) b g l) = Z
  pointwise []
  subst hX hZ
  simp only [at_nrm, at_gate]
  rfl

theorem at_dl (j : S1x256.Idx) : bdl (F := Ideal) c o b g l r j
    = r j + ∑ a : Fin 64, dz (xr c b a) (v1 g) (v1 l) (v64 o a) (j 1) := by
  unfold bdl k0_pay17
  generalize hZ : k0_pay15 (F := Ideal) o (k0_pay14 (F := Ideal) (k0_pay10 (F := Ideal) c) b g l) = Z
  pointwise []
  subst hZ
  simp only [at_gate]
  rfl

theorem at_db (j : S1x256.Idx) : bdb (F := Ideal) c o b g l r j
    = r j + ∑ a : Fin 64, dx (xr c b a) (v1 g) (v1 l) (v64 o a) (j 1) := by
  unfold bdb k0_pay20
  generalize hZ : bdx (F := Ideal) c o b g l = Z
  pointwise []
  subst hZ
  simp only [at_dx]
  rfl

end Cert.DcIdeal.Row
end
-- ==== Proof.Dw.lean ====
/- The weights' gradient of the convolution is added up in a scratch of 31 rows, one row per tap, one store per tap and
   block of 64 positions. Here: what a list of such stores leaves in a row. -/
module

public import proofs.«01_k».proof.Proof.Gen.DcIdeal.Skeleton
public import Idealize.ShloMosaic.Lib.Pipeline.ValueKit
public import Idealize.ShloMosaic.Lib.WritesUnit
public import Idealize.ShloMosaic.Lib.Pointwise

@[expose] public section

set_option maxRecDepth 16384

noncomputable section

namespace Cert.DcIdeal.Dw

open Cert.DcIdeal Cert.DcIdeal.Gen
open Idealize.ShloMosaic

abbrev Pieces (F : FTy → Type) := List (View.Piece (Elt F) S32x8x256 EltTy.f32)

theorem row_in (n : Fin 31) : ∀ a, (![n.val, 0, 0] : Fin 3 → ℕ) a + S1x8x256.size a ≤ S32x8x256.size a := by
  have hn := n.isLt
  intro a
  match a with
  | ⟨0, _⟩ => show n.val + 1 ≤ 32; omega
  | ⟨1, _⟩ => show 0 + 8 ≤ 8; omega
  | ⟨2, _⟩ => show 0 + 256 ≤ 256; omega

/-- The row of tap `n`. -/
abbrev row (n : Fin 31) : Rect S32x8x256 := Rect.unit (s := S32x8x256) ![n.val, 0, 0] S1x8x256.size (row_in n)

/-- What one block of 64 positions adds to a row. -/
def term (d e : FVec Ideal S64x256 .f32) (s : Fin 8) (c : Fin 256) : EReal :=
  ∑ g : Fin 8, d (ix2 ⟨g.val * 8 + s.val, by omega⟩ c) * e (ix2 ⟨g.val * 8 + s.val, by omega⟩ c)

theorem pay (d e : FVec Ideal S64x256 .f32) (o : FVec Ideal S1x8x256 .f32) (x : S1x8x256.Idx) :
    k0_pay21 (F := Ideal) d e o x = o x + term d e (x 1) (x 2) := by
  have h0 : (x 0).val = 0 := by have h : (x 0).val < 1 := (x 0).isLt; omega
  pointwise [k0_pay21, term]

variable {sg : RefSig} {κ : Kind} {sp : Space} (v : View sg κ sp S32x8x256 .f32)

section
variable {F : FTy → Type} [FloatOps F]

/-- The stores of one block, each adding to what the stores before it left in its row. -/
def later (d : FVec F S64x256 .f32) (h : Fin 31 → FVec F S64x256 .f32) (L : Pieces F) : (n : ℕ) → n ≤ 31 → Pieces F
  | 0, _ => L
  | n + 1, hn => ⟨row ⟨n, hn⟩, k0_pay21 (F := F) d (h ⟨n, hn⟩) (v.readCov (later d h L n (Nat.le_of_succ_le hn)) (row ⟨n, hn⟩).toLoadRect)⟩
      :: later d h L n (Nat.le_of_succ_le hn)

/-- The stores of a point's first block, each adding to what the row held when the point began. -/
def first (d : FVec F S64x256 .f32) (h : Fin 31 → FVec F S64x256 .f32) (o : Fin 31 → FVec F S1x8x256 .f32) : (n : ℕ) → n ≤ 31 → Pieces F
  | 0, _ => []
  | n + 1, hn => ⟨row ⟨n, hn⟩, k0_pay21 (F := F) d (h ⟨n, hn⟩) (o ⟨n, hn⟩)⟩ :: first d h o n (Nat.le_of_succ_le hn)

end

variable (f : v.ty.Contents (Elt Ideal))

theorem hit (n : Fin 31) (w : FVec Ideal S1x8x256 .f32) (L : Pieces Ideal) (y : S32x8x256.Idx) (hy : (y 0).val = n.val) :
    v.read (Elt Ideal) (v.writes (Elt Ideal) f (⟨row n, w⟩ :: L)) y = w (ix3 0 (y 1) (y 2)) := by
  refine View.read_writes_cons_unit_of_mem v f (row_in n) w L y (ix3 0 (y 1) (y 2)) rfl fun a => ?_
  match a with
  | ⟨0, _⟩ => exact hy
  | ⟨1, _⟩ => exact (Nat.zero_add _).symm
  | ⟨2, _⟩ => exact (Nat.zero_add _).symm

theorem miss (n : Fin 31) (w : FVec Ideal S1x8x256 .f32) (L : Pieces Ideal) (y : S32x8x256.Idx) (hy : (y 0).val ≠ n.val) :
    v.read (Elt Ideal) (v.writes (Elt Ideal) f (⟨row n, w⟩ :: L)) y = v.read (Elt Ideal) (v.writes (Elt Ideal) f L) y := by
  refine View.read_writes_cons_unit_of_not_mem v f (row_in n) w L y rfl (0 : Fin 3) ?_
  show (y 0).val < n.val ∨ n.val + 1 ≤ (y 0).val
  omega

theorem later_at (d : FVec Ideal S64x256 .f32) (h : Fin 31 → FVec Ideal S64x256 .f32) (L : Pieces Ideal) (y : S32x8x256.Idx) :
    ∀ (n : ℕ) (hn : n ≤ 31) (f : v.ty.Contents (Elt Ideal)), v.read (Elt Ideal) (v.writes (Elt Ideal) f (later v d h L n hn)) y
      = if hy : (y 0).val < n then v.read (Elt Ideal) (v.writes (Elt Ideal) v.junk L) y + term d (h ⟨(y 0).val, by omega⟩) (y 1) (y 2)
        else v.read (Elt Ideal) (v.writes (Elt Ideal) f L) y
  | 0, _, f => by rw [dif_neg (Nat.not_lt_zero _)]; rfl
  | n + 1, hn, f => by
    by_cases e : (y 0).val = n
    · rw [dif_pos (by omega)]
      refine (hit v f ⟨n, hn⟩ _ _ y e).trans ((pay _ _ _ _).trans ?_)
      have hi : (row ⟨n, hn⟩).toLoadRect.idx (ix3 0 (y 1) (y 2)) = y := by
        funext a
        apply Fin.ext
        match a with
        | ⟨0, _⟩ => show n + 1 * 0 = (y 0).val; omega
        | ⟨1, _⟩ => show 0 + 1 * (y 1).val = (y 1).val; omega
        | ⟨2, _⟩ => show 0 + 1 * (y 2).val = (y 2).val; omega
      refine congrArg₂ (· + ·) ?_ ?_
      · show v.read (Elt Ideal) (v.writes (Elt Ideal) v.junk (later v d h L n _)) ((row ⟨n, hn⟩).toLoadRect.idx (ix3 0 (y 1) (y 2))) = _
        rw [hi, later_at d h L y n _ v.junk, dif_neg (by omega)]
      · have hq : (⟨n, hn⟩ : Fin 31) = ⟨(y 0).val, by omega⟩ := Fin.ext e.symm
        rw [hq]
        rfl
    · refine (miss v f ⟨n, hn⟩ _ _ y e).trans ((later_at d h L y n _ f).trans ?_)
      by_cases hy : (y 0).val < n
      · rw [dif_pos hy, dif_pos (by omega)]
      · rw [dif_neg hy, dif_neg (by omega)]

theorem first_at (d : FVec Ideal S64x256 .f32) (h : Fin 31 → FVec Ideal S64x256 .f32) (o : Fin 31 → FVec Ideal S1x8x256 .f32) (y : S32x8x256.Idx) :
    ∀ (n : ℕ) (hn : n ≤ 31), v.read (Elt Ideal) (v.writes (Elt Ideal) f (first d h o n hn)) y
      = if hy : (y 0).val < n then o ⟨(y 0).val, by omega⟩ (ix3 0 (y 1) (y 2)) + term d (h ⟨(y 0).val, by omega⟩) (y 1) (y 2)
        else v.read (Elt Ideal) f y
  | 0, _ => by rw [dif_neg (Nat.not_lt_zero _)]; rfl
  | n + 1, hn => by
    by_cases e : (y 0).val = n
    · rw [dif_pos (by omega)]
      refine (hit v f ⟨n, hn⟩ _ _ y e).trans ((pay _ _ _ _).trans ?_)
      have hq : (⟨n, hn⟩ : Fin 31) = ⟨(y 0).val, by omega⟩ := Fin.ext e.symm
      rw [hq]
      rfl
    · refine (miss v f ⟨n, hn⟩ _ _ y e).trans ((first_at d h o y n _).trans ?_)
      by_cases hy : (y 0).val < n
      · rw [dif_pos hy, dif_pos (by omega)]
      · rw [dif_neg hy, dif_neg (by omega)]

end Cert.DcIdeal.Dw
end
-- ==== Proof.DcStores.lean ====
/- The stores of one point of the kernel's grid: eight blocks of 64 rows. -/
module

public import proofs.«01_k».proof.Proof.DcRow
public import proofs.«01_k».proof.Proof.Dw

@[expose] public section

set_option maxRecDepth 16384

noncomputable section

namespace Cert.DcIdeal.Lists

open Cert.DcIdeal Cert.DcIdeal.Gen Cert.DcIdeal.Row
open Idealize.ShloMosaic Idealize.ShloMosaic.TcCoe

variable {F : FTy → Type} [FloatOps F]

theorem blk_in (r : Fin 8) : ∀ a, (![r.val * 64, 0] : Fin 2 → ℕ) a + S64x256.size a ≤ S512x256.size a := by
  have hr := r.isLt
  intro a
  match a with
  | ⟨0, _⟩ => show r.val * 64 + 64 ≤ 512; omega
  | ⟨1, _⟩ => show 0 + 256 ≤ 256; omega

/-- The rows of block `r`. -/
abbrev blk (r : Fin 8) : Rect S512x256 := Rect.unit (s := S512x256) ![r.val * 64, 0] S64x256.size (blk_in r)

theorem win_in (r : Fin 8) (n : Fin 31) : ∀ a, (![r.val * 64 + 2 + n.val, 0] : Fin 2 → ℕ) a + S64x256.size a ≤ S544x256.size a := by
  have hr := r.isLt
  have hn := n.isLt
  intro a
  match a with
  | ⟨0, _⟩ => show r.val * 64 + 2 + n.val + 64 ≤ 544; omega
  | ⟨1, _⟩ => show 0 + 256 ≤ 256; omega

/-- The gated rows tap `n` meets block `r` with. -/
abbrev win (r : Fin 8) (n : Fin 31) : Rect S544x256 := Rect.unit (s := S544x256) ![r.val * 64 + 2 + n.val, 0] S64x256.size (win_in r n)

abbrev one : Rect S1x256 := Rect.unit (s := S1x256) ![0, 0] S1x256.size inb_S1x256_S1x256_0_0

/-- One store of all columns per block of rows. -/
def tiles (D : Fin 8 → FVec F S64x256 .f32) : (n : ℕ) → n ≤ 8 → List (View.Piece (Elt F) S512x256 EltTy.f32)
  | 0, _ => []
  | n + 1, hn => ⟨blk ⟨n, hn⟩, shapeCast S64x256 (D ⟨n, hn⟩) shapeCasts_S64x256_S64x256⟩ :: tiles D n (Nat.le_of_succ_le hn)

section
variable {sg : RefSig} {κ : Kind} {sp : Space} (v : View sg κ sp S1x256 .f32)

/-- One store of the whole row per block, each from what the one before left, the first from `o`. -/
def chain (p : Fin 8 → FVec F S1x256 .f32 → FVec F S1x256 .f32) (o : FVec F S1x256 .f32)
    (L : List (View.Piece (Elt F) S1x256 EltTy.f32)) : (n : ℕ) → n ≤ 8 → List (View.Piece (Elt F) S1x256 EltTy.f32)
  | 0, _ => L
  | 1, hn => ⟨one, p ⟨0, hn⟩ o⟩ :: L
  | n + 2, hn => ⟨one, p ⟨n + 1, hn⟩ (v.readCov (chain p o L (n + 1) (Nat.le_of_succ_le hn)) one.toLoadRect)⟩ :: chain p o L (n + 1) (Nat.le_of_succ_le hn)
end

section
variable {sg : RefSig} {κ : Kind} {sp : Space} (v : View sg κ sp S32x8x256 .f32)

/-- The stores into the taps' rows: what the first block left, then the seven blocks after it. -/
abbrev rest (D : Fin 8 → FVec F S64x256 .f32) (H : Fin 8 → Fin 31 → FVec F S64x256 .f32) (L : Dw.Pieces F) : Dw.Pieces F :=
  Dw.later v (D 7) (H 7) (Dw.later v (D 6) (H 6) (Dw.later v (D 5) (H 5) (Dw.later v (D 4) (H 4) (Dw.later v (D 3) (H 3)
    (Dw.later v (D 2) (H 2) (Dw.later v (D 1) (H 1) L 31 le_rfl) 31 le_rfl) 31 le_rfl) 31 le_rfl) 31 le_rfl) 31 le_rfl) 31 le_rfl
end

variable (c : Dev nD) (i : grid0.Coords)
  (arg1 : Memref sig .tc .vmem S512x512 .f32) (harg1 : arg1.IsWhole) (arg2 : Memref sig .tc .vmem S32x512 .f32) (harg2 : arg2.IsWhole)
  (arg3 : Memref sig .tc .vmem S512x256 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S512x256 .f32) (harg8 : arg8.IsWhole)
  (arg9 : Memref sig .tc .vmem S32x256 .f32) (harg9 : arg9.IsWhole) (arg10 : Memref sig .tc .vmem S1x256 .f32) (harg10 : arg10.IsWhole)
  (arg11 : Memref sig .tc .vmem S1x256 .f32) (harg11 : arg11.IsWhole) (arg12 : Memref sig .tc .vmem S1x256 .f32) (harg12 : arg12.IsWhole)
  (arg13 : Memref sig .tc .vmem S544x256 .f32) (harg13 : arg13.IsWhole) (arg14 : Memref sig .tc .vmem S32x8x256 .f32) (harg14 : arg14.IsWhole)
  (x0 : Vec F S512x512 .f32) (x1 : Vec F S32x512 .f32) (x2 : Vec F S512x256 .f32) (x3 : Vec F S512x256 .f32)
  (x4 : Vec F S1x256 .f32) (x5 : Vec F S1x256 .f32) (x6 : Vec F S1x256 .f32) (xo9 : Vec F S1x256 .f32)
  (xo10 : Vec F S1x256 .f32) (xo11 : Vec F S1x256 .f32) (xs1 : Vec F S32x8x256 .f32)

abbrev lc (r : Fin 8) : FVec F S64x256 .f32 := View.readAt (Elt F) arg3.view (blk r).toLoadRect (harg3.unread x2)
abbrev lo (r : Fin 8) : FVec F S64x256 .f32 := View.readAt (Elt F) arg4.view (blk r).toLoadRect (harg4.unread x3)
abbrev lv (arg : Memref sig .tc .vmem S1x256 .f32) (harg : arg.IsWhole) (x : Vec F S1x256 .f32) : FVec F S1x256 .f32 :=
  View.readAt (Elt F) arg.view one.toLoadRect (harg.unread x)

/-- The gated rows the point works on. -/
abbrev hb : List (View.Piece (Elt F) S544x256 EltTy.f32) :=
  [⟨Rect.unit (s := S544x256) ![32, 0] S512x256.size inb_S544x256_S512x256_32_0, k0_pay9 (F := F) (View.readAt (Elt F) arg1.view
      (Rect.unit (s := S512x512) ![0, 0] S512x512.size inb_S512x512_S512x512_0_0).toLoadRect (harg1.unread x0))⟩,
    ⟨Rect.unit (s := S544x256) ![0, 0] S32x256.size inb_S544x256_S32x256_0_0, k0_pay8 (F := F) i (View.readAt (Elt F) arg2.view
      (Rect.unit (s := S32x512) ![0, 0] S32x512.size inb_S32x512_S32x512_0_0).toLoadRect (harg2.unread x1))⟩]

abbrev bl (r : Fin 8) : FVec F S64x256 .f32 := bdx (F := F) (lc arg3 harg3 x2 r) (lo arg4 harg4 x3 r) (lv arg5 harg5 x4) (lv arg6 harg6 x5) (lv arg7 harg7 x6)

/-- The gated rows tap `n` meets block `r` with, as loaded. -/
abbrev lh (r : Fin 8) (n : Fin 31) : FVec F S64x256 .f32 := arg13.view.readCov (hb i arg1 harg1 arg2 harg2 x0 x1) (win r n).toLoadRect

abbrev lbb (r : Fin 8) : FVec F S1x256 .f32 → FVec F S1x256 .f32 := bdb (F := F) (lc arg3 harg3 x2 r) (lo arg4 harg4 x3 r) (lv arg5 harg5 x4) (lv arg6 harg6 x5) (lv arg7 harg7 x6)
abbrev lbg (r : Fin 8) : FVec F S1x256 .f32 → FVec F S1x256 .f32 := bdg (F := F) (lc arg3 harg3 x2 r) (lo arg4 harg4 x3 r) (lv arg5 harg5 x4) (lv arg6 harg6 x5) (lv arg7 harg7 x6)
abbrev lbl (r : Fin 8) : FVec F S1x256 .f32 → FVec F S1x256 .f32 := bdl (F := F) (lc arg3 harg3 x2 r) (lo arg4 harg4 x3 r) (lv arg5 harg5 x4) (lv arg6 harg6 x5) (lv arg7 harg7 x6)

/-- What tap `n` found in its row. -/
abbrev la (n : Fin 31) : FVec F S1x8x256 .f32 := View.readAt (Elt F) arg14.view (Dw.row n).toLoadRect (harg14.unread xs1)

/-- A store of a whole row, and the row read back. -/
abbrev ones (w : FVec F S1x256 .f32) : List (View.Piece (Elt F) S1x256 EltTy.f32) := [⟨one, w⟩]
abbrev back {sg : RefSig} {κ : Kind} {sp : Space} (v : View sg κ sp S1x256 .f32) (w : FVec F S1x256 .f32) : FVec F S1x256 .f32 :=
  v.readCov (ones w) one.toLoadRect

/-- The zeros the first point stores. -/
abbrev zeros : Dw.Pieces F := [⟨Rect.unit (s := S32x8x256) ![0, 0, 0] S32x8x256.size inb_S32x8x256_S32x8x256_0_0_0, k0_pay4 (F := F)⟩]

end Cert.DcIdeal.Lists
end
-- ==== Proof.DcLists.lean ====
/- The stores of one point of the kernel's grid, read off its run, the same lists of stores for each of the grid's cases. -/
module

public import proofs.«01_k».proof.Proof.Gen.DcIdeal.Frame.RunC
public import proofs.«01_k».proof.Proof.DcStores

@[expose] public section

set_option maxRecDepth 16384

noncomputable section

namespace Cert.DcIdeal.Lists

open Cert.DcIdeal Cert.DcIdeal.Gen Cert.DcIdeal.Row
open Idealize.ShloMosaic Idealize.ShloMosaic.TcCoe

variable {F : FTy → Type} [FloatOps F]

section
variable {sg : RefSig} {κ : Kind} {sp : Space} (v : View sg κ sp S32x8x256 .f32) (d : FVec F S64x256 .f32) (h : Fin 31 → FVec F S64x256 .f32)
  (L L' : Dw.Pieces F)

theorem later_succ (n : ℕ) (hn : n + 1 ≤ 31) (w : FVec F S1x8x256 .f32) (hL : L' = Dw.later v d h L n (Nat.le_of_succ_le hn))
    (hw : w = k0_pay21 (F := F) d (h ⟨n, hn⟩) (v.readCov L' (Dw.row ⟨n, hn⟩).toLoadRect)) :
    (⟨Dw.row ⟨n, hn⟩, w⟩ :: L' : Dw.Pieces F) = Dw.later v d h L (n + 1) hn := by
  subst hL hw
  rfl

theorem later_zero (hn : 0 ≤ 31) (hL : L' = L) : L' = Dw.later v d h L 0 hn := hL
end

variable (c : Dev nD) (i : grid0.Coords)
  (arg1 : Memref sig .tc .vmem S512x512 .f32) (harg1 : arg1.IsWhole) (arg2 : Memref sig .tc .vmem S32x512 .f32) (harg2 : arg2.IsWhole)
  (arg3 : Memref sig .tc .vmem S512x256 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S512x256 .f32) (harg8 : arg8.IsWhole)
  (arg9 : Memref sig .tc .vmem S32x256 .f32) (harg9 : arg9.IsWhole) (arg10 : Memref sig .tc .vmem S1x256 .f32) (harg10 : arg10.IsWhole)
  (arg11 : Memref sig .tc .vmem S1x256 .f32) (harg11 : arg11.IsWhole) (arg12 : Memref sig .tc .vmem S1x256 .f32) (harg12 : arg12.IsWhole)
  (arg13 : Memref sig .tc .vmem S544x256 .f32) (harg13 : arg13.IsWhole) (arg14 : Memref sig .tc .vmem S32x8x256 .f32) (harg14 : arg14.IsWhole)
  (x0 : Vec F S512x512 .f32) (x1 : Vec F S32x512 .f32) (x2 : Vec F S512x256 .f32) (x3 : Vec F S512x256 .f32)
  (x4 : Vec F S1x256 .f32) (x5 : Vec F S1x256 .f32) (x6 : Vec F S1x256 .f32) (xo9 : Vec F S1x256 .f32)
  (xo10 : Vec F S1x256 .f32) (xo11 : Vec F S1x256 .f32) (xs1 : Vec F S32x8x256 .f32)

theorem dc_A (hc0 : cond0_0 i) (hc1 : ¬cond0_1 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1
    = tiles (bl arg3 harg3 arg4 harg4 arg5 harg5 arg6 harg6 arg7 harg7 x2 x3 x4 x5 x6) 8 le_rfl := rfl

theorem db_A (hc0 : cond0_0 i) (hc1 : ¬cond0_1 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1
    = chain arg10.view (lbb arg3 harg3 arg4 harg4 arg5 harg5 arg6 harg6 arg7 harg7 x2 x3 x4 x5 x6) (back arg10.view (k0_pay5 (F := F))) (ones (k0_pay5 (F := F))) 8 le_rfl := rfl

theorem dg_A (hc0 : cond0_0 i) (hc1 : ¬cond0_1 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1
    = chain arg11.view (lbg arg3 harg3 arg4 harg4 arg5 harg5 arg6 harg6 arg7 harg7 x2 x3 x4 x5 x6) (back arg11.view (k0_pay6 (F := F))) (ones (k0_pay6 (F := F))) 8 le_rfl := rfl

theorem dl_A (hc0 : cond0_0 i) (hc1 : ¬cond0_1 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1
    = chain arg12.view (lbl arg3 harg3 arg4 harg4 arg5 harg5 arg6 harg6 arg7 harg7 x2 x3 x4 x5 x6) (back arg12.view (k0_pay7 (F := F))) (ones (k0_pay7 (F := F))) 8 le_rfl := rfl

set_option maxHeartbeats 16000000 in
theorem dw_A (hc0 : cond0_0 i) (hc1 : ¬cond0_1 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.2.1
    = rest arg14.view (bl arg3 harg3 arg4 harg4 arg5 harg5 arg6 harg6 arg7 harg7 x2 x3 x4 x5 x6) (lh i arg1 harg1 arg2 harg2 arg13 x0 x1)
        (Dw.later arg14.view (bl arg3 harg3 arg4 harg4 arg5 harg5 arg6 harg6 arg7 harg7 x2 x3 x4 x5 x6 0) (lh i arg1 harg1 arg2 harg2 arg13 x0 x1 0) zeros 31 le_rfl) := by
  iterate 8
    iterate 31 refine later_succ _ _ _ _ _ _ _ _ ?_ rfl
    refine later_zero _ _ _ _ _ _ ?_
  rfl

theorem dc_B (hc0 : ¬cond0_0 i) (hc1 : ¬cond0_1 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).1
    = tiles (bl arg3 harg3 arg4 harg4 arg5 harg5 arg6 harg6 arg7 harg7 x2 x3 x4 x5 x6) 8 le_rfl := rfl

theorem db_B (hc0 : ¬cond0_0 i) (hc1 : ¬cond0_1 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.1
    = chain arg10.view (lbb arg3 harg3 arg4 harg4 arg5 harg5 arg6 harg6 arg7 harg7 x2 x3 x4 x5 x6) (lv arg10 harg10 xo9) [] 8 le_rfl := rfl

theorem dg_B (hc0 : ¬cond0_0 i) (hc1 : ¬cond0_1 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.2.1
    = chain arg11.view (lbg arg3 harg3 arg4 harg4 arg5 harg5 arg6 harg6 arg7 harg7 x2 x3 x4 x5 x6) (lv arg11 harg11 xo10) [] 8 le_rfl := rfl

theorem dl_B (hc0 : ¬cond0_0 i) (hc1 : ¬cond0_1 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.2.2.1
    = chain arg12.view (lbl arg3 harg3 arg4 harg4 arg5 harg5 arg6 harg6 arg7 harg7 x2 x3 x4 x5 x6) (lv arg12 harg12 xo11) [] 8 le_rfl := rfl

set_option maxHeartbeats 16000000 in
theorem dw_B (hc0 : ¬cond0_0 i) (hc1 : ¬cond0_1 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.2.2.2.1
    = rest arg14.view (bl arg3 harg3 arg4 harg4 arg5 harg5 arg6 harg6 arg7 harg7 x2 x3 x4 x5 x6) (lh i arg1 harg1 arg2 harg2 arg13 x0 x1)
        (Dw.first (bl arg3 harg3 arg4 harg4 arg5 harg5 arg6 harg6 arg7 harg7 x2 x3 x4 x5 x6 0) (lh i arg1 harg1 arg2 harg2 arg13 x0 x1 0) (la arg14 harg14 xs1) 31 le_rfl) := by
  iterate 7
    iterate 31 refine later_succ _ _ _ _ _ _ _ _ ?_ rfl
    refine later_zero _ _ _ _ _ _ ?_
  rfl

theorem dc_C (hc0 : ¬cond0_0 i) (hc1 : cond0_1 i) : (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).1
    = tiles (bl arg3 harg3 arg4 harg4 arg5 harg5 arg6 harg6 arg7 harg7 x2 x3 x4 x5 x6) 8 le_rfl := rfl

theorem db_C (hc0 : ¬cond0_0 i) (hc1 : cond0_1 i) : (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.1
    = chain arg10.view (lbb arg3 harg3 arg4 harg4 arg5 harg5 arg6 harg6 arg7 harg7 x2 x3 x4 x5 x6) (lv arg10 harg10 xo9) [] 8 le_rfl := rfl

theorem dg_C (hc0 : ¬cond0_0 i) (hc1 : cond0_1 i) : (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.2.1
    = chain arg11.view (lbg arg3 harg3 arg4 harg4 arg5 harg5 arg6 harg6 arg7 harg7 x2 x3 x4 x5 x6) (lv arg11 harg11 xo10) [] 8 le_rfl := rfl

theorem dl_C (hc0 : ¬cond0_0 i) (hc1 : cond0_1 i) : (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.2.2.1
    = chain arg12.view (lbl arg3 harg3 arg4 harg4 arg5 harg5 arg6 harg6 arg7 harg7 x2 x3 x4 x5 x6) (lv arg12 harg12 xo11) [] 8 le_rfl := rfl

set_option maxHeartbeats 16000000 in
theorem dw_C (hc0 : ¬cond0_0 i) (hc1 : cond0_1 i) : (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1).2.2.2.2.2.1
    = rest arg14.view (bl arg3 harg3 arg4 harg4 arg5 harg5 arg6 harg6 arg7 harg7 x2 x3 x4 x5 x6) (lh i arg1 harg1 arg2 harg2 arg13 x0 x1)
        (Dw.first (bl arg3 harg3 arg4 harg4 arg5 harg5 arg6 harg6 arg7 harg7 x2 x3 x4 x5 x6 0) (lh i arg1 harg1 arg2 harg2 arg13 x0 x1 0) (la arg14 harg14 xs1) 31 le_rfl) := by
  iterate 7
    iterate 31 refine later_succ _ _ _ _ _ _ _ _ ?_ rfl
    refine later_zero _ _ _ _ _ _ ?_
  rfl

end Cert.DcIdeal.Lists
end
-- ==== Proof.DcPoint.lean ====
/- What one point of the kernel's grid leaves in its buffers, from the lists of its stores. -/
module

public import proofs.«01_k».proof.Proof.DcStores

@[expose] public section

set_option maxRecDepth 16384

noncomputable section

namespace Cert.DcIdeal.Point

open Cert.DcIdeal Cert.DcIdeal.Gen Cert.DcIdeal.Row Cert.DcIdeal.Lists
open Idealize.ShloMosaic Idealize.ShloMosaic.TcCoe

section
variable {sg : RefSig} {κ : Kind} {sp : Space} (v : View sg κ sp S512x256 .f32) (f : v.ty.Contents (Elt Ideal))

theorem tiles_at (D : Fin 8 → FVec Ideal S64x256 .f32) (y : S512x256.Idx) : ∀ (n : ℕ) (hn : n ≤ 8) (hy : (y 0).val < n * 64),
    v.read (Elt Ideal) (v.writes (Elt Ideal) f (tiles D n hn)) y
      = D ⟨(y 0).val / 64, by omega⟩ (ix2 ⟨(y 0).val % 64, Nat.mod_lt _ (by decide)⟩ (y 1))
  | 0, _, hy => absurd hy (by omega)
  | n + 1, hn, hy => by
    by_cases h : (y 0).val < n * 64
    · refine (View.read_writes_cons_unit_of_not_mem v f (blk_in ⟨n, hn⟩) _ _ y rfl (0 : Fin 2) ?_).trans (tiles_at D y n _ h)
      show (y 0).val < n * 64 ∨ n * 64 + 64 ≤ (y 0).val
      omega
    · refine (View.read_writes_cons_unit_of_mem v f (blk_in ⟨n, hn⟩) _ _ y (ix2 ⟨(y 0).val % 64, Nat.mod_lt _ (by decide)⟩ (y 1)) rfl fun a => ?_).trans ?_
      · match a with
        | ⟨0, _⟩ => show (y 0).val = n * 64 + (y 0).val % 64; omega
        | ⟨1, _⟩ => exact (Nat.zero_add _).symm
      · have e : (⟨n, hn⟩ : Fin 8) = ⟨(y 0).val / 64, by omega⟩ := Fin.ext (by show n = (y 0).val / 64; omega)
        rw [e]
        pointwise []
end

theorem one_idx (y : S1x256.Idx) : one.toLoadRect.idx y = y := by
  funext a
  apply Fin.ext
  match a with
  | ⟨0, _⟩ => show 0 + 1 * (y 0).val = (y 0).val; omega
  | ⟨1, _⟩ => show 0 + 1 * (y 1).val = (y 1).val; omega

section
variable {sg : RefSig} {κ : Kind} {sp : Space} (v : View sg κ sp S1x256 .f32)

theorem one_hit (f : v.ty.Contents (Elt Ideal)) (w : FVec Ideal S1x256 .f32) (L : List (View.Piece (Elt Ideal) S1x256 EltTy.f32)) (y : S1x256.Idx) :
    v.read (Elt Ideal) (v.writes (Elt Ideal) f (⟨one, w⟩ :: L)) y = w y := by
  refine View.read_writes_cons_unit_of_mem v f inb_S1x256_S1x256_0_0 w L y y rfl fun a => ?_
  match a with
  | ⟨0, _⟩ => exact (Nat.zero_add _).symm
  | ⟨1, _⟩ => exact (Nat.zero_add _).symm

theorem chain_at (p : Fin 8 → FVec Ideal S1x256 .f32 → FVec Ideal S1x256 .f32) (s : Fin 8 → S1x256.Idx → EReal)
    (hp : ∀ r x y, p r x y = x y + s r y) (o : FVec Ideal S1x256 .f32) (L : List (View.Piece (Elt Ideal) S1x256 EltTy.f32)) (y : S1x256.Idx) :
    ∀ (n : ℕ) (hn : n + 1 ≤ 8) {sp' : Space} (u : View sg κ sp' S1x256 .f32) (f : u.ty.Contents (Elt Ideal)),
      u.read (Elt Ideal) (u.writes (Elt Ideal) f (chain v p o L (n + 1) hn)) y = o y + ∑ r : Fin (n + 1), s ⟨r.val, by omega⟩ y
  | 0, hn, _, u, f => by
    refine (one_hit u f _ _ y).trans ((hp _ _ _).trans ?_)
    rw [Fin.sum_univ_one]
    rfl
  | n + 1, hn, _, u, f => by
    refine (one_hit u f _ _ y).trans ((hp _ _ _).trans ?_)
    rw [Fin.sum_univ_castSucc, ← add_assoc]
    refine congrArg₂ (· + ·) ?_ rfl
    show v.read (Elt Ideal) (v.writes (Elt Ideal) v.junk (chain v p o L (n + 1) _)) (one.toLoadRect.idx y) = _
    rw [one_idx]
    exact chain_at p s hp o L y n _ v v.junk
end

section
variable {sg : RefSig} {κ : Kind} {sp : Space} (v : View sg κ sp S32x8x256 .f32) (f : v.ty.Contents (Elt Ideal))

theorem rest_at (D : Fin 8 → FVec Ideal S64x256 .f32) (H : Fin 8 → Fin 31 → FVec Ideal S64x256 .f32) (L : Dw.Pieces Ideal) (y : S32x8x256.Idx) :
    v.read (Elt Ideal) (v.writes (Elt Ideal) f (rest v D H L))  y
      = if hy : (y 0).val < 31 then v.read (Elt Ideal) (v.writes (Elt Ideal) v.junk L) y
          + ∑ r : Fin 7, Dw.term (D r.succ) (H r.succ ⟨(y 0).val, hy⟩) (y 1) (y 2)
        else v.read (Elt Ideal) (v.writes (Elt Ideal) f L) y := by
  by_cases hy : (y 0).val < 31
  · rw [dif_pos hy]
    iterate 7 rw [Dw.later_at, dif_pos hy]
    rw [Fin.sum_univ_seven]
    simp only [add_assoc]
    rfl
  · rw [dif_neg hy]
    iterate 7 rw [Dw.later_at, dif_neg hy]

theorem first_rest_at (D : Fin 8 → FVec Ideal S64x256 .f32) (H : Fin 8 → Fin 31 → FVec Ideal S64x256 .f32) (o : Fin 31 → FVec Ideal S1x8x256 .f32)
    (g : S32x8x256.Idx → EReal) (ho : ∀ n y1 y2, o n (ix3 0 y1 y2) = g (ix3 ⟨n.val, by omega⟩ y1 y2)) (hg : ∀ y, v.read (Elt Ideal) f y = g y) (y : S32x8x256.Idx) :
    v.read (Elt Ideal) (v.writes (Elt Ideal) f (rest v D H (Dw.first (D 0) (H 0) o 31 le_rfl))) y
      = g y + if hy : (y 0).val < 31 then ∑ r : Fin 8, Dw.term (D r) (H r ⟨(y 0).val, hy⟩) (y 1) (y 2) else 0 := by
  rw [rest_at]
  by_cases hy : (y 0).val < 31
  · rw [dif_pos hy, dif_pos hy, Dw.first_at, dif_pos hy, Fin.sum_univ_succ (n := 7), ← add_assoc]
    refine congrArg₂ (· + ·) (congrArg₂ (· + ·) ((ho ⟨(y 0).val, hy⟩ (y 1) (y 2)).trans (congrArg g ?_)) rfl) rfl
    funext a
    match a with
    | ⟨0, _⟩ => rfl
    | ⟨1, _⟩ => rfl
    | ⟨2, _⟩ => rfl
  · rw [dif_neg hy, dif_neg hy, Dw.first_at, dif_neg hy, hg, add_zero]

theorem later_rest_at (D : Fin 8 → FVec Ideal S64x256 .f32) (H : Fin 8 → Fin 31 → FVec Ideal S64x256 .f32) (L : Dw.Pieces Ideal)
    (g : S32x8x256.Idx → EReal) (hg : ∀ f y, v.read (Elt Ideal) (v.writes (Elt Ideal) f L) y = g y) (y : S32x8x256.Idx) :
    v.read (Elt Ideal) (v.writes (Elt Ideal) f (rest v D H (Dw.later v (D 0) (H 0) L 31 le_rfl))) y
      = g y + if hy : (y 0).val < 31 then ∑ r : Fin 8, Dw.term (D r) (H r ⟨(y 0).val, hy⟩) (y 1) (y 2) else 0 := by
  rw [rest_at]
  by_cases hy : (y 0).val < 31
  · rw [dif_pos hy, dif_pos hy, Dw.later_at, dif_pos hy, hg, Fin.sum_univ_succ (n := 7), ← add_assoc]
  · rw [dif_neg hy, dif_neg hy, Dw.later_at, dif_neg hy, hg, add_zero]
end

variable (i : grid0.Coords)
  (arg1 : Memref sig .tc .vmem S512x512 .f32) (harg1 : arg1.IsWhole) (arg2 : Memref sig .tc .vmem S32x512 .f32) (harg2 : arg2.IsWhole)
  (arg3 : Memref sig .tc .vmem S512x256 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole)
  (arg13 : Memref sig .tc .vmem S544x256 .f32)
  (x0 : FVec Ideal S512x512 .f32) (x1 : FVec Ideal S32x512 .f32) (x2 : FVec Ideal S512x256 .f32) (x3 : FVec Ideal S512x256 .f32)
  (x4 : FVec Ideal S1x256 .f32) (x5 : FVec Ideal S1x256 .f32) (x6 : FVec Ideal S1x256 .f32)

/-- A row as it enters the norm, its gradient, and the gradients at the gate. -/
def X (n : Fin 512) (k : Fin 256) : EReal := x2 (ix2 n k) + x4 (ix2 0 k)
def Dx (n : Fin 512) (k : Fin 256) : EReal := dx (X x2 x4 n) (v1 x5) (v1 x6) (fun k => x3 (ix2 n k)) k
def Dz (n : Fin 512) (k : Fin 256) : EReal := dz (X x2 x4 n) (v1 x5) (v1 x6) (fun k => x3 (ix2 n k)) k
def Nx (n : Fin 512) (k : Fin 256) : EReal := nrm (X x2 x4 n) k

/-- The row of the tile that row `a` of block `r` is. -/
abbrev at64 (r : Fin 8) (a : Fin 64) : Fin 512 := ⟨r.val * 64 + a.val, by omega⟩

theorem lc_at (r : Fin 8) (a : Fin 64) (k : Fin 256) : lc (F := Ideal) arg3 harg3 x2 r (ix2 a k) = x2 (ix2 (at64 r a) k) := by
  show arg3.view.read (Elt Ideal) (harg3.unread x2) ((blk r).toLoadRect.idx (ix2 a k)) = _
  rw [harg3.read_unread]
  refine congrArg x2 ?_
  funext q
  apply Fin.ext
  match q with
  | ⟨0, _⟩ => show r.val * 64 + 1 * a.val = r.val * 64 + a.val; omega
  | ⟨1, _⟩ => show 0 + 1 * k.val = k.val; omega

theorem lv_eq : lv (F := Ideal) arg5 harg5 x4 = x4 := by
  funext y
  show arg5.view.read (Elt Ideal) (harg5.unread x4) (one.toLoadRect.idx y) = _
  rw [harg5.read_unread, one_idx]

theorem xr_eq (r : Fin 8) (a : Fin 64) : xr (lc (F := Ideal) arg3 harg3 x2 r) (lv (F := Ideal) arg5 harg5 x4) a = X x2 x4 (at64 r a) := by
  funext k
  show lc (F := Ideal) arg3 harg3 x2 r (ix2 a k) + lv (F := Ideal) arg5 harg5 x4 (ix2 0 k) = _
  rw [lc_at, lv_eq]
  rfl

theorem lo_eq (r : Fin 8) (a : Fin 64) : v64 (lo (F := Ideal) arg4 harg4 x3 r) a = fun k => x3 (ix2 (at64 r a) k) :=
  funext fun k => lc_at arg4 harg4 x3 r a k

theorem bl_at (r : Fin 8) (a : Fin 64) (k : Fin 256) : bl (F := Ideal) arg3 harg3 arg4 harg4 arg5 harg5 arg6 harg6 arg7 harg7 x2 x3 x4 x5 x6 r (ix2 a k) = Dx x2 x3 x4 x5 x6 (at64 r a) k := by
  refine (at_dx (lc (F := Ideal) arg3 harg3 x2 r) (lo (F := Ideal) arg4 harg4 x3 r) (lv (F := Ideal) arg5 harg5 x4) (lv (F := Ideal) arg6 harg6 x5) (lv (F := Ideal) arg7 harg7 x6) (ix2 a k)).trans ?_
  show dx (xr (lc (F := Ideal) arg3 harg3 x2 r) (lv (F := Ideal) arg5 harg5 x4) a) (v1 (lv (F := Ideal) arg6 harg6 x5)) (v1 (lv (F := Ideal) arg7 harg7 x6)) (v64 (lo (F := Ideal) arg4 harg4 x3 r) a) k = _
  rw [xr_eq, lo_eq, lv_eq, lv_eq]
  rfl

theorem lbb_at (r : Fin 8) (x : FVec Ideal S1x256 .f32) (y : S1x256.Idx) :
    lbb (F := Ideal) arg3 harg3 arg4 harg4 arg5 harg5 arg6 harg6 arg7 harg7 x2 x3 x4 x5 x6 r x y = x y + ∑ a : Fin 64, Dx x2 x3 x4 x5 x6 (at64 r a) (y 1) := by
  refine (at_db (lc (F := Ideal) arg3 harg3 x2 r) (lo (F := Ideal) arg4 harg4 x3 r) (lv (F := Ideal) arg5 harg5 x4) (lv (F := Ideal) arg6 harg6 x5) (lv (F := Ideal) arg7 harg7 x6) x y).trans (congrArg (x y + ·) (Finset.sum_congr rfl fun a _ => ?_))
  show dx (xr (lc (F := Ideal) arg3 harg3 x2 r) (lv (F := Ideal) arg5 harg5 x4) a) (v1 (lv (F := Ideal) arg6 harg6 x5)) (v1 (lv (F := Ideal) arg7 harg7 x6)) (v64 (lo (F := Ideal) arg4 harg4 x3 r) a) (y 1) = _
  rw [xr_eq, lo_eq, lv_eq, lv_eq]
  rfl

theorem lbl_at (r : Fin 8) (x : FVec Ideal S1x256 .f32) (y : S1x256.Idx) :
    lbl (F := Ideal) arg3 harg3 arg4 harg4 arg5 harg5 arg6 harg6 arg7 harg7 x2 x3 x4 x5 x6 r x y = x y + ∑ a : Fin 64, Dz x2 x3 x4 x5 x6 (at64 r a) (y 1) := by
  refine (at_dl (lc (F := Ideal) arg3 harg3 x2 r) (lo (F := Ideal) arg4 harg4 x3 r) (lv (F := Ideal) arg5 harg5 x4) (lv (F := Ideal) arg6 harg6 x5) (lv (F := Ideal) arg7 harg7 x6) x y).trans (congrArg (x y + ·) (Finset.sum_congr rfl fun a _ => ?_))
  show dz (xr (lc (F := Ideal) arg3 harg3 x2 r) (lv (F := Ideal) arg5 harg5 x4) a) (v1 (lv (F := Ideal) arg6 harg6 x5)) (v1 (lv (F := Ideal) arg7 harg7 x6)) (v64 (lo (F := Ideal) arg4 harg4 x3 r) a) (y 1) = _
  rw [xr_eq, lo_eq, lv_eq, lv_eq]
  rfl

theorem lbg_at (r : Fin 8) (x : FVec Ideal S1x256 .f32) (y : S1x256.Idx) :
    lbg (F := Ideal) arg3 harg3 arg4 harg4 arg5 harg5 arg6 harg6 arg7 harg7 x2 x3 x4 x5 x6 r x y
      = x y + ∑ a : Fin 64, Dz x2 x3 x4 x5 x6 (at64 r a) (y 1) * Nx x2 x4 (at64 r a) (y 1) := by
  refine (at_dg (lc (F := Ideal) arg3 harg3 x2 r) (lo (F := Ideal) arg4 harg4 x3 r) (lv (F := Ideal) arg5 harg5 x4) (lv (F := Ideal) arg6 harg6 x5) (lv (F := Ideal) arg7 harg7 x6) x y).trans (congrArg (x y + ·) (Finset.sum_congr rfl fun a _ => ?_))
  show dz (xr (lc (F := Ideal) arg3 harg3 x2 r) (lv (F := Ideal) arg5 harg5 x4) a) (v1 (lv (F := Ideal) arg6 harg6 x5)) (v1 (lv (F := Ideal) arg7 harg7 x6)) (v64 (lo (F := Ideal) arg4 harg4 x3 r) a) (y 1) * nrm (xr (lc (F := Ideal) arg3 harg3 x2 r) (lv (F := Ideal) arg5 harg5 x4) a) (y 1) = _
  rw [xr_eq, lo_eq, lv_eq, lv_eq]
  rfl

/-- The gate as the kernel computes it. -/
def gt (x z : EReal) : EReal := x * Ideal.div 1 (1 + Ideal.exp (0 - z))

/-- The gated rows: 32 rows before the tile, zero at the first tile, then the tile's own. -/
def Hb (q : Fin 544) (k : Fin 256) : EReal :=
  if h : q.val < 32 then (if 0 < (i 0).val then gt (x1 (ix2 ⟨q.val, h⟩ ⟨k.val, by omega⟩)) (x1 (ix2 ⟨q.val, h⟩ ⟨256 + k.val, by omega⟩)) else 0)
  else gt (x0 (ix2 ⟨q.val - 32, by omega⟩ ⟨k.val, by omega⟩)) (x0 (ix2 ⟨q.val - 32, by omega⟩ ⟨256 + k.val, by omega⟩))

theorem hb_at (f : arg13.view.ty.Contents (Elt Ideal)) (q : Fin 544) (k : Fin 256) :
    arg13.view.read (Elt Ideal) (arg13.view.writes (Elt Ideal) f (hb (F := Ideal) i arg1 harg1 arg2 harg2 x0 x1)) (ix2 q k) = Hb i x0 x1 q k := by
  have hi : (i 0).val < 8 := (i 0).isLt
  have e0 : View.readAt (Elt Ideal) arg1.view (Rect.unit (s := S512x512) ![0, 0] S512x512.size inb_S512x512_S512x512_0_0).toLoadRect (harg1.unread x0) = x0 := by
    funext y
    show arg1.view.read (Elt Ideal) (harg1.unread x0) _ = _
    rw [harg1.read_unread]
    refine congrArg x0 (funext fun a => Fin.ext ?_)
    match a with
    | ⟨0, _⟩ => show 0 + 1 * (y 0).val = (y 0).val; omega
    | ⟨1, _⟩ => show 0 + 1 * (y 1).val = (y 1).val; omega
  have e1 : View.readAt (Elt Ideal) arg2.view (Rect.unit (s := S32x512) ![0, 0] S32x512.size inb_S32x512_S32x512_0_0).toLoadRect (harg2.unread x1) = x1 := by
    funext y
    show arg2.view.read (Elt Ideal) (harg2.unread x1) _ = _
    rw [harg2.read_unread]
    refine congrArg x1 (funext fun a => Fin.ext ?_)
    match a with
    | ⟨0, _⟩ => show 0 + 1 * (y 0).val = (y 0).val; omega
    | ⟨1, _⟩ => show 0 + 1 * (y 1).val = (y 1).val; omega
  unfold hb
  rw [e0, e1]
  unfold Hb
  by_cases h : q.val < 32
  · rw [dif_pos h]
    refine (View.read_writes_cons_unit_of_not_mem _ f inb_S544x256_S512x256_32_0 _ _ (ix2 q k) rfl (0 : Fin 2) (.inl h)).trans ?_
    refine (View.read_writes_cons_unit_of_mem _ f inb_S544x256_S32x256_0_0 _ _ (ix2 q k) (ix2 ⟨q.val, h⟩ k) rfl fun a => ?_).trans ?_
    · match a with
      | ⟨0, _⟩ => exact (Nat.zero_add _).symm
      | ⟨1, _⟩ => exact (Nat.zero_add _).symm
    · have hb : BitVec.slt 0#32 (BitVec.ofNat 32 (i 0).val) = decide (0 < (i 0).val) := by
        generalize (i 0).val = n at hi
        interval_cases n <;> rfl
      pointwise [k0_pay8]
      simp only [Scalar.select, Scalar.cmpi, IntOp.cmpi, hb]
      by_cases h7 : 0 < (i 0).val
      · rw [if_pos (by simp [h7]), if_pos h7]
        rfl
      · rw [if_neg (by simp [h7]), if_neg h7]
  · rw [dif_neg h]
    refine (View.read_writes_cons_unit_of_mem _ f inb_S544x256_S512x256_32_0 _ _ (ix2 q k) (ix2 ⟨q.val - 32, by omega⟩ k) rfl fun a => ?_).trans ?_
    · match a with
      | ⟨0, _⟩ => show q.val = 32 + (q.val - 32); omega
      | ⟨1, _⟩ => exact (Nat.zero_add _).symm
    · pointwise [k0_pay9]
      rfl

theorem lh_at (r : Fin 8) (n : Fin 31) (a : Fin 64) (k : Fin 256) :
    lh (F := Ideal) i arg1 harg1 arg2 harg2 arg13 x0 x1 r n (ix2 a k) = Hb i x0 x1 ⟨r.val * 64 + a.val + (2 + n.val), by omega⟩ k := by
  refine Eq.trans ?_ (hb_at i arg1 harg1 arg2 harg2 arg13 x0 x1 arg13.view.junk ⟨r.val * 64 + a.val + (2 + n.val), by omega⟩ k)
  show arg13.view.read (Elt Ideal) _ ((win r n).toLoadRect.idx (ix2 a k)) = _
  refine congrArg _ ?_
  funext q
  apply Fin.ext
  match q with
  | ⟨0, _⟩ => show r.val * 64 + 2 + n.val + 1 * a.val = r.val * 64 + a.val + (2 + n.val); omega
  | ⟨1, _⟩ => show 0 + 1 * k.val = k.val; omega

/-- What a point adds to tap `n`'s row. -/
theorem term_eq (r : Fin 8) (n : Fin 31) (s : Fin 8) (k : Fin 256) :
    Dw.term (bl (F := Ideal) arg3 harg3 arg4 harg4 arg5 harg5 arg6 harg6 arg7 harg7 x2 x3 x4 x5 x6 r) (lh (F := Ideal) i arg1 harg1 arg2 harg2 arg13 x0 x1 r n) s k
      = ∑ g : Fin 8, Dx x2 x3 x4 x5 x6 (at64 r ⟨g.val * 8 + s.val, by omega⟩) k
          * Hb i x0 x1 ⟨r.val * 64 + (g.val * 8 + s.val) + (2 + n.val), by omega⟩ k := by
  unfold Dw.term
  simp only [bl_at, lh_at]

end Cert.DcIdeal.Point
end
-- ==== Proof.DcGrid.lean ====
/- The kernel's five results in closed form: the gradient at the convolution's output row by row, and its sums over all
   rows. -/
module

public import proofs.«01_k».proof.Proof.Gen.DcIdeal.Value
public import proofs.«01_k».proof.Proof.DcHost
public import proofs.«01_k».proof.Proof.DcLists
public import proofs.«01_k».proof.Proof.DcPoint

@[expose] public section

set_option maxRecDepth 16384

noncomputable section

namespace Cert.DcIdeal.Grid

open Cert.DcIdeal Cert.DcIdeal.Gen Cert.DcIdeal.Row Cert.DcIdeal.Lists Cert.DcIdeal.Point Cert.DcIdeal.Host
open Idealize.ShloMosaic Idealize.ShloMosaic.TcCoe Idealize.SL.Sem
open Idealize.ShloMosaic.Pipeline (Dat)

theorem places : ∀ t : Fin cfg0.N, win0_0.index t = ![t.val, 0] ∧ win0_1.index t = ![t.val * 16 - 1, 0]
    ∧ win0_2.index t = ![t.val, 0] ∧ win0_3.index t = ![t.val, 0] ∧ win0_4.index t = ![0, 0] ∧ win0_5.index t = ![0, 0]
    ∧ win0_6.index t = ![0, 0] ∧ win0_7.index t = ![t.val, 0] ∧ (grid0.coords t 0).val = t.val ∧ t.val < 8 :=
  (by decide +kernel : ∀ t : Fin grid0.N, _)

section
variable (u : FVec Ideal S4096x512 .f32) (w : FVec Ideal S31x256 .f32) (b g l : FVec Ideal S256 .f32) (o : FVec Ideal S4096x256 .f32)

/-- A row as it enters the norm, its gradient, and the gradients at the gate. -/
def xrow (n : Fin 4096) (k : Fin 256) : EReal := cv u w n.val k + b (ix1 k)
def gdx (n : Fin 4096) (k : Fin 256) : EReal := dx (xrow u w b n) (fun k => g (ix1 k)) (fun k => l (ix1 k)) (fun k => o (ix2 n k)) k
def gdz (n : Fin 4096) (k : Fin 256) : EReal := dz (xrow u w b n) (fun k => g (ix1 k)) (fun k => l (ix1 k)) (fun k => o (ix2 n k)) k
def gnx (n : Fin 4096) (k : Fin 256) : EReal := nrm (xrow u w b n) k
end

variable (m : (ℓ : Loc nD τ sig) → Buf (Elt Ideal) ℓ)

theorem bias_at (c : Dev nD) (k : Fin 256) : (V m c main_v80 (ix2 0 k) : EReal) = (m ((c : Thread nD τ).loc main_arg2) : FVec Ideal S256 .f32) (ix1 k) := by
  unfold V
  repeat after_reads_at

theorem scale_at (c : Dev nD) (k : Fin 256) : (V m c main_v81 (ix2 0 k) : EReal) = (m ((c : Thread nD τ).loc main_arg3) : FVec Ideal S256 .f32) (ix1 k) := by
  unfold V
  repeat after_reads_at

theorem offset_at (c : Dev nD) (k : Fin 256) : (V m c main_v82 (ix2 0 k) : EReal) = (m ((c : Thread nD τ).loc main_arg4) : FVec Ideal S256 .f32) (ix1 k) := by
  unfold V
  repeat after_reads_at

/-- The row of the array that row `n` of tile `t` is. -/
abbrev at512 (t : Fin cfg0.N) (n : Fin 512) : Fin 4096 := ⟨t.val * 512 + n.val, by have h := (places t).2.2.2.2.2.2.2.2.2; omega⟩

theorem blk_c (c : Dev nD) (t : Fin cfg0.N) (n : Fin 512) (k : Fin 256) : (iblk m c 2 t (ix2 n k) : EReal)
    = cv (m ((c : Thread nD τ).loc main_arg0)) (m ((c : Thread nD τ).loc main_arg1)) (t.val * 512 + n.val) k := by
  refine Eq.trans (b := V m c main_v79 (ix2 (at512 t n) k)) ?_ (conv_at m c _)
  blk_point [iblk, places t]

theorem blk_o (c : Dev nD) (t : Fin cfg0.N) (n : Fin 512) (k : Fin 256) : (iblk m c 3 t (ix2 n k) : EReal)
    = (m ((c : Thread nD τ).loc main_arg5) : FVec Ideal S4096x256 .f32) (ix2 (at512 t n) k) := by
  blk_point [iblk, V, places t]

theorem blk_b (c : Dev nD) (t : Fin cfg0.N) (k : Fin 256) : (iblk m c 4 t (ix2 0 k) : EReal) = (m ((c : Thread nD τ).loc main_arg2) : FVec Ideal S256 .f32) (ix1 k) := by
  refine Eq.trans (b := V m c main_v80 (ix2 0 k)) ?_ (bias_at m c k)
  blk_point [iblk, places t]

theorem blk_g (c : Dev nD) (t : Fin cfg0.N) (k : Fin 256) : (iblk m c 5 t (ix2 0 k) : EReal) = (m ((c : Thread nD τ).loc main_arg3) : FVec Ideal S256 .f32) (ix1 k) := by
  refine Eq.trans (b := V m c main_v81 (ix2 0 k)) ?_ (scale_at m c k)
  blk_point [iblk, places t]

theorem blk_l (c : Dev nD) (t : Fin cfg0.N) (k : Fin 256) : (iblk m c 6 t (ix2 0 k) : EReal) = (m ((c : Thread nD τ).loc main_arg4) : FVec Ideal S256 .f32) (ix1 k) := by
  refine Eq.trans (b := V m c main_v82 (ix2 0 k)) ?_ (offset_at m c k)
  blk_point [iblk, places t]

/-- The arguments by their places. -/
abbrev U (c : Dev nD) : FVec Ideal S4096x512 .f32 := m ((c : Thread nD τ).loc main_arg0)
abbrev W (c : Dev nD) : FVec Ideal S31x256 .f32 := m ((c : Thread nD τ).loc main_arg1)
abbrev B (c : Dev nD) : FVec Ideal S256 .f32 := m ((c : Thread nD τ).loc main_arg2)
abbrev G (c : Dev nD) : FVec Ideal S256 .f32 := m ((c : Thread nD τ).loc main_arg3)
abbrev L (c : Dev nD) : FVec Ideal S256 .f32 := m ((c : Thread nD τ).loc main_arg4)
abbrev O (c : Dev nD) : FVec Ideal S4096x256 .f32 := m ((c : Thread nD τ).loc main_arg5)

theorem X_eq (c : Dev nD) (t : Fin cfg0.N) (n : Fin 512) :
    X (iblk m c 2 t) (iblk m c 4 t) n = xrow (U m c) (W m c) (B m c) (at512 t n) :=
  funext fun k => congrArg₂ (· + ·) (blk_c m c t n k) (blk_b m c t k)

theorem Dx_eq (c : Dev nD) (t : Fin cfg0.N) (n : Fin 512) (k : Fin 256) :
    Dx (iblk m c 2 t) (iblk m c 3 t) (iblk m c 4 t) (iblk m c 5 t) (iblk m c 6 t) n k = gdx (U m c) (W m c) (B m c) (G m c) (L m c) (O m c) (at512 t n) k := by
  unfold Dx gdx
  rw [X_eq, show v1 (iblk m c 5 t) = fun k => G m c (ix1 k) from funext (blk_g m c t), show v1 (iblk m c 6 t) = fun k => L m c (ix1 k) from funext (blk_l m c t),
    show (fun k => iblk m c 3 t (ix2 n k)) = fun k => O m c (ix2 (at512 t n) k) from funext (blk_o m c t n)]

theorem Dz_eq (c : Dev nD) (t : Fin cfg0.N) (n : Fin 512) (k : Fin 256) :
    Dz (iblk m c 2 t) (iblk m c 3 t) (iblk m c 4 t) (iblk m c 5 t) (iblk m c 6 t) n k = gdz (U m c) (W m c) (B m c) (G m c) (L m c) (O m c) (at512 t n) k := by
  unfold Dz gdz
  rw [X_eq, show v1 (iblk m c 5 t) = fun k => G m c (ix1 k) from funext (blk_g m c t), show v1 (iblk m c 6 t) = fun k => L m c (ix1 k) from funext (blk_l m c t),
    show (fun k => iblk m c 3 t (ix2 n k)) = fun k => O m c (ix2 (at512 t n) k) from funext (blk_o m c t n)]

theorem Nx_eq (c : Dev nD) (t : Fin cfg0.N) (n : Fin 512) (k : Fin 256) :
    Nx (iblk m c 2 t) (iblk m c 4 t) n k = gnx (U m c) (W m c) (B m c) (at512 t n) k := by
  unfold Nx gnx
  rw [X_eq]

theorem blk_u (c : Dev nD) (t : Fin cfg0.N) (n : Fin 512) (k : Fin 512) : (iblk m c 0 t (ix2 n k) : EReal) = U m c (ix2 (at512 t n) k) := by
  blk_point [iblk, V, places t]

theorem blk_h (c : Dev nD) (t : Fin cfg0.N) (ht : 0 < t.val) (n : Fin 32) (k : Fin 512) : (iblk m c 1 t (ix2 n k) : EReal)
    = U m c (ix2 ⟨t.val * 512 + n.val - 32, by have h := (places t).2.2.2.2.2.2.2.2.2; omega⟩ k) := by
  blk_point [iblk, V, places t]

theorem Hb_eq (c : Dev nD) (t : Fin cfg0.N) (q : ℕ) (hq : q + 2 < 544) (k : Fin 256) :
    Hb (grid0.coords t) (iblk m c 0 t) (iblk m c 1 t) ⟨q + 2, hq⟩ k = hp (U m c) (t.val * 512 + q) k := by
  have hp8 := (places t).2.2.2.2.2.2.2.2
  have h8 := hp8.2
  unfold Hb hp
  by_cases h : q + 2 < 32
  · refine (dif_pos h).trans ?_
    rw [hp8.1]
    by_cases ht : 0 < t.val
    · rw [if_pos ht, dif_pos (by omega)]
      unfold gt glu
      rw [zero_sub]
      refine congrArg₂ (· * ·) ?_ (congrArg (fun x => Ideal.div 1 (1 + Ideal.exp (-x))) ?_)
      · refine (blk_h m c t ht _ _).trans (congrArg (fun n => U m c (ix2 n _)) (Fin.ext ?_))
        show t.val * 512 + (q + 2) - 32 = t.val * 512 + q - 30
        omega
      · refine (blk_h m c t ht _ _).trans (congrArg (fun n => U m c (ix2 n _)) (Fin.ext ?_))
        show t.val * 512 + (q + 2) - 32 = t.val * 512 + q - 30
        omega
    · rw [if_neg ht, dif_neg (by omega)]
  · refine (dif_neg h).trans ?_
    rw [dif_pos (by omega)]
    unfold gt glu
    rw [zero_sub]
    refine congrArg₂ (· * ·) ?_ (congrArg (fun x => Ideal.div 1 (1 + Ideal.exp (-x))) ?_)
    · refine (blk_u m c t _ _).trans (congrArg (fun n => U m c (ix2 n _)) (Fin.ext ?_))
      show t.val * 512 + (q + 2 - 32) = t.val * 512 + q - 30
      omega
    · refine (blk_u m c t _ _).trans (congrArg (fun n => U m c (ix2 n _)) (Fin.ext ?_))
      show t.val * 512 + (q + 2 - 32) = t.val * 512 + q - 30
      omega

theorem tile_lt (y : S512x256.Idx) : (y 0).val < 8 * 64 := (y 0).isLt

theorem tile_dx (c : Dev nD) (t : Fin cfg0.N) (y : S512x256.Idx)
    (arg3 : Memref sig .tc .vmem S512x256 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x256 .f32) (harg7 : arg7.IsWhole) {sp : Space} (v : View sig .tc sp S512x256 .f32) (f : v.ty.Contents (Elt Ideal)) :
    v.read (Elt Ideal) (v.writes (Elt Ideal) f (tiles (bl (F := Ideal) arg3 harg3 arg4 harg4 arg5 harg5 arg6 harg6 arg7 harg7 (iblk m c 2 t) (iblk m c 3 t) (iblk m c 4 t) (iblk m c 5 t) (iblk m c 6 t)) 8 le_rfl)) y
      = gdx (U m c) (W m c) (B m c) (G m c) (L m c) (O m c) (at512 t (y 0)) (y 1) := by
  refine (tiles_at v f _ y 8 le_rfl (tile_lt y)).trans ((bl_at arg3 harg3 arg4 harg4 arg5 harg5 arg6 harg6 arg7 harg7 _ _ _ _ _ _ _ _).trans ?_)
  refine (congrArg (fun n => Dx _ _ _ _ _ n _) (Fin.ext ?_)).trans (Dx_eq m c t (y 0) (y 1))
  show (y 0).val / 64 * 64 + (y 0).val % 64 = (y 0).val
  omega

theorem out_dx (c : Dev nD) (t : Fin cfg0.N) (y : S512x256.Idx) :
    (outsAt0 m c t.val t.isLt).1 y = gdx (U m c) (W m c) (B m c) (G m c) (L m c) (O m c) (at512 t (y 0)) (y 1) := by
  by_cases h0 : t.val % 8 = 0
  · rw [outsAt0_A m c t h0 (by omega)]
    dsimp only
    unfold out0_A_7
    rw [dc_A]
    exact tile_dx m c t y _ _ _ _ _ _ _ _ _ _ _ _
  · by_cases h1 : t.val % 8 = 7
    · rw [outsAt0_C m c t h0 h1]
      dsimp only
      unfold out0_C_7
      rw [dc_C]
      exact tile_dx m c t y _ _ _ _ _ _ _ _ _ _ _ _
    · rw [outsAt0_B m c t h0 h1]
      dsimp only
      unfold out0_B_7
      rw [dc_B]
      exact tile_dx m c t y _ _ _ _ _ _ _ _ _ _ _ _

theorem result_dx (c : Dev nD) : (Gen.dats m 0 c).arrAt 7 (cfgs 0).N
    = fun i => gdx (U m c) (W m c) (B m c) (G m c) (L m c) (O m c) (i 0) (i 1) := by
  refine (Gen.dats m 0 c).arrAt_eq_of_covers 7 _ (by decide +kernel) fun t hf y => ?_
  blk_simp
  rw [after0_7, out_dx]
  have e : ∀ i : S4096x256.Idx, i = ix2 (at512 t (y 0)) (y 1) → gdx (U m c) (W m c) (B m c) (G m c) (L m c) (O m c) (at512 t (y 0)) (y 1)
    = gdx (U m c) (W m c) (B m c) (G m c) (L m c) (O m c) (i 0) (i 1) := by
    rintro _ rfl
    rfl
  refine e _ ?_
  blk_point [places t]

end Cert.DcIdeal.Grid
end
-- ==== Proof.DcSums.lean ====
/- The kernel's four sums over all rows, from what each tile adds to them. -/
module

public import proofs.«01_k».proof.Proof.DcGrid

@[expose] public section

set_option maxRecDepth 16384

noncomputable section

namespace Cert.DcIdeal.Sums

open Cert.DcIdeal Cert.DcIdeal.Gen Cert.DcIdeal.Row Cert.DcIdeal.Lists Cert.DcIdeal.Point Cert.DcIdeal.Host Cert.DcIdeal.Grid
open Idealize.ShloMosaic Idealize.ShloMosaic.TcCoe Idealize.SL.Sem
open Idealize.ShloMosaic.Pipeline (Dat)

section
variable {sg : RefSig} {κ : Kind} {sp : Space} (v : View sg κ sp S1x256 .f32)

/-- The stores of a point into a row of sums leave what the row held before and the point's 512 rows on top. -/
theorem chain512 (p : Fin 8 → FVec Ideal S1x256 .f32 → FVec Ideal S1x256 .f32) (q : Fin 512 → S1x256.Idx → EReal)
    (hp : ∀ r x y, p r x y = x y + ∑ a : Fin 64, q (at64 r a) y) (o : FVec Ideal S1x256 .f32) (L : List (View.Piece (Elt Ideal) S1x256 EltTy.f32))
    (y : S1x256.Idx) {sp' : Space} (u : View sg κ sp' S1x256 .f32) (f : u.ty.Contents (Elt Ideal)) :
    u.read (Elt Ideal) (u.writes (Elt Ideal) f (chain v p o L 8 le_rfl)) y = o y + ∑ n : Fin 512, q n y :=
  (chain_at v p (fun r y => ∑ a : Fin 64, q (at64 r a) y) hp o L y 7 le_rfl u f).trans
    (congrArg (o y + ·) (Fin.sum_mul_add_congr (S := 8) (n := 64) (f := fun n : Fin 512 => q n y) fun r a hl => rfl))

theorem back_at (w : FVec Ideal S1x256 .f32) (y : S1x256.Idx) : back v w y = w y := by
  show v.read (Elt Ideal) (v.writes (Elt Ideal) v.junk (ones w)) (one.toLoadRect.idx y) = w y
  rw [one_idx]
  exact one_hit v _ w [] y
end

theorem zero5 (y : S1x256.Idx) : k0_pay5 (F := Ideal) y = 0 := by pointwise [k0_pay5]
theorem zero6 (y : S1x256.Idx) : k0_pay6 (F := Ideal) y = 0 := by pointwise [k0_pay6]
theorem zero7 (y : S1x256.Idx) : k0_pay7 (F := Ideal) y = 0 := by pointwise [k0_pay7]
theorem zero4 (y : S32x8x256.Idx) : k0_pay4 (F := Ideal) y = 0 := by pointwise [k0_pay4]

variable (m : (ℓ : Loc nD τ sig) → Buf (Elt Ideal) ℓ)

/-- What one tile adds to the sums. -/
def tb (c : Dev nD) (t : Fin cfg0.N) (k : Fin 256) : EReal := ∑ n : Fin 512, gdx (U m c) (W m c) (B m c) (G m c) (L m c) (O m c) (at512 t n) k
def tg (c : Dev nD) (t : Fin cfg0.N) (k : Fin 256) : EReal :=
  ∑ n : Fin 512, gdz (U m c) (W m c) (B m c) (G m c) (L m c) (O m c) (at512 t n) k * gnx (U m c) (W m c) (B m c) (at512 t n) k
def tl (c : Dev nD) (t : Fin cfg0.N) (k : Fin 256) : EReal := ∑ n : Fin 512, gdz (U m c) (W m c) (B m c) (G m c) (L m c) (O m c) (at512 t n) k

section
variable (c : Dev nD) (t : Fin cfg0.N) (y : S1x256.Idx)
    (arg3 : Memref sig .tc .vmem S512x256 .f32) (harg3 : arg3.IsWhole) (arg4 : Memref sig .tc .vmem S512x256 .f32) (harg4 : arg4.IsWhole)
    (arg5 : Memref sig .tc .vmem S1x256 .f32) (harg5 : arg5.IsWhole) (arg6 : Memref sig .tc .vmem S1x256 .f32) (harg6 : arg6.IsWhole)
    (arg7 : Memref sig .tc .vmem S1x256 .f32) (harg7 : arg7.IsWhole) {sp : Space} (v : View sig .tc .vmem S1x256 .f32) (u : View sig .tc sp S1x256 .f32)
    (f : u.ty.Contents (Elt Ideal)) (o : FVec Ideal S1x256 .f32) (Q : List (View.Piece (Elt Ideal) S1x256 EltTy.f32))

theorem tile_b : u.read (Elt Ideal) (u.writes (Elt Ideal) f (chain v (lbb (F := Ideal) arg3 harg3 arg4 harg4 arg5 harg5 arg6 harg6 arg7 harg7
    (iblk m c 2 t) (iblk m c 3 t) (iblk m c 4 t) (iblk m c 5 t) (iblk m c 6 t)) o Q 8 le_rfl)) y = o y + tb m c t (y 1) :=
  (chain512 v _ (fun n y => Dx (iblk m c 2 t) (iblk m c 3 t) (iblk m c 4 t) (iblk m c 5 t) (iblk m c 6 t) n (y 1))
    (fun r x y => lbb_at arg3 harg3 arg4 harg4 arg5 harg5 arg6 harg6 arg7 harg7 _ _ _ _ _ r x y) o Q y u f).trans
    (congrArg (o y + ·) (Finset.sum_congr rfl fun n _ => Dx_eq m c t n (y 1)))

theorem tile_g : u.read (Elt Ideal) (u.writes (Elt Ideal) f (chain v (lbg (F := Ideal) arg3 harg3 arg4 harg4 arg5 harg5 arg6 harg6 arg7 harg7
    (iblk m c 2 t) (iblk m c 3 t) (iblk m c 4 t) (iblk m c 5 t) (iblk m c 6 t)) o Q 8 le_rfl)) y = o y + tg m c t (y 1) :=
  (chain512 v _ (fun n y => Dz (iblk m c 2 t) (iblk m c 3 t) (iblk m c 4 t) (iblk m c 5 t) (iblk m c 6 t) n (y 1) * Nx (iblk m c 2 t) (iblk m c 4 t) n (y 1))
    (fun r x y => lbg_at arg3 harg3 arg4 harg4 arg5 harg5 arg6 harg6 arg7 harg7 _ _ _ _ _ r x y) o Q y u f).trans
    (congrArg (o y + ·) (Finset.sum_congr rfl fun n _ => congrArg₂ (· * ·) (Dz_eq m c t n (y 1)) (Nx_eq m c t n (y 1))))

theorem tile_l : u.read (Elt Ideal) (u.writes (Elt Ideal) f (chain v (lbl (F := Ideal) arg3 harg3 arg4 harg4 arg5 harg5 arg6 harg6 arg7 harg7
    (iblk m c 2 t) (iblk m c 3 t) (iblk m c 4 t) (iblk m c 5 t) (iblk m c 6 t)) o Q 8 le_rfl)) y = o y + tl m c t (y 1) :=
  (chain512 v _ (fun n y => Dz (iblk m c 2 t) (iblk m c 3 t) (iblk m c 4 t) (iblk m c 5 t) (iblk m c 6 t) n (y 1))
    (fun r x y => lbl_at arg3 harg3 arg4 harg4 arg5 harg5 arg6 harg6 arg7 harg7 _ _ _ _ _ r x y) o Q y u f).trans
    (congrArg (o y + ·) (Finset.sum_congr rfl fun n _ => Dz_eq m c t n (y 1)))
end

theorem last_of (t : Fin cfg0.N) (h : t.val % 8 = 0) : ¬t.val % 8 = 7 := by omega

theorem step_b (c : Dev nD) : ∀ (t : Fin cfg0.N) (h : ¬t.val % 8 = 0) (j : S1x256.Idx), (outsAt0 m c t.val t.isLt).2.2.1 j
    = (outsAt0 m c (t.val - 1) (Nat.lt_of_le_of_lt (Nat.sub_le _ _) t.isLt)).2.2.1 j + tb m c t (j 1) := fun t h j => by
  by_cases h1 : t.val % 8 = 7
  · rw [outsAt0_C m c t h h1]
    dsimp only
    unfold out0_C_9
    rw [db_C]
    refine (tile_b m c t j _ _ _ _ _ _ _ _ _ _ _ _ _ _ _).trans ?_
    rw [lv_eq]
  · rw [outsAt0_B m c t h h1]
    dsimp only
    unfold out0_B_9
    rw [db_B]
    refine (tile_b m c t j _ _ _ _ _ _ _ _ _ _ _ _ _ _ _).trans ?_
    rw [lv_eq]

theorem step_g (c : Dev nD) : ∀ (t : Fin cfg0.N) (h : ¬t.val % 8 = 0) (j : S1x256.Idx), (outsAt0 m c t.val t.isLt).2.2.2.1 j
    = (outsAt0 m c (t.val - 1) (Nat.lt_of_le_of_lt (Nat.sub_le _ _) t.isLt)).2.2.2.1 j + tg m c t (j 1) := fun t h j => by
  by_cases h1 : t.val % 8 = 7
  · rw [outsAt0_C m c t h h1]
    dsimp only
    unfold out0_C_10
    rw [dg_C]
    refine (tile_g m c t j _ _ _ _ _ _ _ _ _ _ _ _ _ _ _).trans ?_
    rw [lv_eq]
  · rw [outsAt0_B m c t h h1]
    dsimp only
    unfold out0_B_10
    rw [dg_B]
    refine (tile_g m c t j _ _ _ _ _ _ _ _ _ _ _ _ _ _ _).trans ?_
    rw [lv_eq]

theorem step_l (c : Dev nD) : ∀ (t : Fin cfg0.N) (h : ¬t.val % 8 = 0) (j : S1x256.Idx), (outsAt0 m c t.val t.isLt).2.2.2.2.1 j
    = (outsAt0 m c (t.val - 1) (Nat.lt_of_le_of_lt (Nat.sub_le _ _) t.isLt)).2.2.2.2.1 j + tl m c t (j 1) := fun t h j => by
  by_cases h1 : t.val % 8 = 7
  · rw [outsAt0_C m c t h h1]
    dsimp only
    unfold out0_C_11
    rw [dl_C]
    refine (tile_l m c t j _ _ _ _ _ _ _ _ _ _ _ _ _ _ _).trans ?_
    rw [lv_eq]
  · rw [outsAt0_B m c t h h1]
    dsimp only
    unfold out0_B_11
    rw [dl_B]
    refine (tile_l m c t j _ _ _ _ _ _ _ _ _ _ _ _ _ _ _).trans ?_
    rw [lv_eq]

theorem base_b (c : Dev nD) : ∀ (t : Fin cfg0.N) (h : t.val % 8 = 0) (j : S1x256.Idx), (outsAt0 m c t.val t.isLt).2.2.1 j = 0 + tb m c t (j 1) := fun t h j => by
  rw [outsAt0_A m c t h (last_of t h)]
  dsimp only
  unfold out0_A_9
  rw [db_A]
  refine (tile_b m c t j _ _ _ _ _ _ _ _ _ _ _ _ _ _ _).trans ?_
  rw [back_at, zero5]

theorem base_g (c : Dev nD) : ∀ (t : Fin cfg0.N) (h : t.val % 8 = 0) (j : S1x256.Idx), (outsAt0 m c t.val t.isLt).2.2.2.1 j = 0 + tg m c t (j 1) := fun t h j => by
  rw [outsAt0_A m c t h (last_of t h)]
  dsimp only
  unfold out0_A_10
  rw [dg_A]
  refine (tile_g m c t j _ _ _ _ _ _ _ _ _ _ _ _ _ _ _).trans ?_
  rw [back_at, zero6]

theorem base_l (c : Dev nD) : ∀ (t : Fin cfg0.N) (h : t.val % 8 = 0) (j : S1x256.Idx), (outsAt0 m c t.val t.isLt).2.2.2.2.1 j = 0 + tl m c t (j 1) := fun t h j => by
  rw [outsAt0_A m c t h (last_of t h)]
  dsimp only
  unfold out0_A_11
  rw [dl_A]
  refine (tile_l m c t j _ _ _ _ _ _ _ _ _ _ _ _ _ _ _).trans ?_
  rw [back_at, zero7]

/-- The tiles together are all rows. -/
theorem all_tiles (q : Fin 4096 → EReal) : ∑ t : Fin cfg0.N, ∑ n : Fin 512, q (at512 t n) = ∑ n : Fin 4096, q n :=
  Fin.sum_mul_add_congr (S := 8) (n := 512) fun t n hl => rfl

theorem result_b (c : Dev nD) : (Gen.dats m 0 c).arrAt 9 (cfgs 0).N
    = fun i => ∑ n : Fin 4096, gdx (U m c) (W m c) (B m c) (G m c) (L m c) (O m c) n (i 1) := by
  refine (Gen.dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0) (fun t j => tb m c t (j 1))
    (base_b m c) (step_b m c) (le_of_eq N_0) t0_7 rfl j, zero_add]
  exact all_tiles fun n => gdx (U m c) (W m c) (B m c) (G m c) (L m c) (O m c) n (j 1)

theorem result_g (c : Dev nD) : (Gen.dats m 0 c).arrAt 10 (cfgs 0).N
    = fun i => ∑ n : Fin 4096, gdz (U m c) (W m c) (B m c) (G m c) (L m c) (O m c) n (i 1) * gnx (U m c) (W m c) (B m c) n (i 1) := by
  refine (Gen.dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0) (fun t j => tg m c t (j 1))
    (base_g m c) (step_g m c) (le_of_eq N_0) t0_7 rfl j, zero_add]
  exact all_tiles fun n => gdz (U m c) (W m c) (B m c) (G m c) (L m c) (O m c) n (j 1) * gnx (U m c) (W m c) (B m c) n (j 1)

theorem result_l (c : Dev nD) : (Gen.dats m 0 c).arrAt 11 (cfgs 0).N
    = fun i => ∑ n : Fin 4096, gdz (U m c) (W m c) (B m c) (G m c) (L m c) (O m c) n (i 1) := by
  refine (Gen.dats m 0 c).arrAt_eq_of_after_last 11 t0_7 (by decide +kernel) _ fun j => ?_
  blk_simp
  rw [after0_11, Pipeline.eq_sum_fin_of_reset_step_apply_last (fun n h => (outsAt0 m c n h).2.2.2.2.1) 8 (fun _ => 0) (fun t j => tl m c t (j 1))
    (base_l m c) (step_l m c) (le_of_eq N_0) t0_7 rfl j, zero_add]
  exact all_tiles fun n => gdz (U m c) (W m c) (B m c) (G m c) (L m c) (O m c) n (j 1)

end Cert.DcIdeal.Sums
end
-- ==== Proof.DcTaps.lean ====
/- The kernel's gradient of the taps: eight partial sums per tap, added to by every block of every tile, and their total,
   which the last tile stores. -/
module

public import proofs.«01_k».proof.Proof.DcSums

@[expose] public section

set_option maxRecDepth 16384

noncomputable section

namespace Cert.DcIdeal.Taps

open Cert.DcIdeal Cert.DcIdeal.Gen Cert.DcIdeal.Row Cert.DcIdeal.Lists Cert.DcIdeal.Point Cert.DcIdeal.Host Cert.DcIdeal.Grid Cert.DcIdeal.Sums
open Idealize.ShloMosaic Idealize.ShloMosaic.TcCoe Idealize.SL.Sem
open Idealize.ShloMosaic.Pipeline (Dat)

/-- The whole of the taps' rows, and of the output. -/
abbrev allTaps : Rect S32x8x256 := Rect.unit (s := S32x8x256) ![0, 0, 0] S32x8x256.size inb_S32x8x256_S32x8x256_0_0_0
abbrev allOut : Rect S32x256 := Rect.unit (s := S32x256) ![0, 0] S32x256.size inb_S32x256_S32x256_0_0

section
variable {F : FTy → Type} [FloatOps F]
variable (c : Dev nD) (i : grid0.Coords)
  (arg1 : Memref sig .tc .vmem S512x512 .f32) (harg1 : arg1.IsWhole) (arg2 : Memref sig .tc .vmem S32x512 .f32) (harg2 : arg2.IsWhole)
  (arg3 : Memref sig .tc .vmem S512x256 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S512x256 .f32) (harg8 : arg8.IsWhole)
  (arg9 : Memref sig .tc .vmem S32x256 .f32) (harg9 : arg9.IsWhole) (arg10 : Memref sig .tc .vmem S1x256 .f32) (harg10 : arg10.IsWhole)
  (arg11 : Memref sig .tc .vmem S1x256 .f32) (harg11 : arg11.IsWhole) (arg12 : Memref sig .tc .vmem S1x256 .f32) (harg12 : arg12.IsWhole)
  (arg13 : Memref sig .tc .vmem S544x256 .f32) (harg13 : arg13.IsWhole) (arg14 : Memref sig .tc .vmem S32x8x256 .f32) (harg14 : arg14.IsWhole)
  (x0 : Vec F S512x512 .f32) (x1 : Vec F S32x512 .f32) (x2 : Vec F S512x256 .f32) (x3 : Vec F S512x256 .f32)
  (x4 : Vec F S1x256 .f32) (x5 : Vec F S1x256 .f32) (x6 : Vec F S1x256 .f32) (xo9 : Vec F S1x256 .f32)
  (xo10 : Vec F S1x256 .f32) (xo11 : Vec F S1x256 .f32) (xs1 : Vec F S32x8x256 .f32)

theorem whole_C (hc0 : ¬cond0_0 i) (hc1 : cond0_1 i) : out0_C_8 (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1
    = VO0_8.read (Elt F) (VO0_8.writes (Elt F) VO0_8.junk [⟨allOut, k0_pay3 (F := F) fun y => sout0_C_1 (F := F) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1 (allTaps.toLoadRect.idx y)⟩]) := rfl
end

theorem allTaps_idx (y : S32x8x256.Idx) : allTaps.toLoadRect.idx y = y := by
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem whole_hit {sg : RefSig} {κ : Kind} {sp : Space} (v : View sg κ sp S32x256 .f32) (f : v.ty.Contents (Elt Ideal)) (w : FVec Ideal S32x256 .f32) (y : S32x256.Idx) :
    v.read (Elt Ideal) (v.writes (Elt Ideal) f [⟨allOut, w⟩]) y = w y := by
  refine View.read_writes_cons_unit_of_mem v f inb_S32x256_S32x256_0_0 w [] y y rfl fun a => ?_
  match a with
  | ⟨0, _⟩ => exact (Nat.zero_add _).symm
  | ⟨1, _⟩ => exact (Nat.zero_add _).symm

theorem zeros_hit {sg : RefSig} {κ : Kind} {sp : Space} (v : View sg κ sp S32x8x256 .f32) (f : v.ty.Contents (Elt Ideal)) (y : S32x8x256.Idx) :
    v.read (Elt Ideal) (v.writes (Elt Ideal) f (zeros (F := Ideal))) y = 0 := by
  refine (View.read_writes_cons_unit_of_mem v f inb_S32x8x256_S32x8x256_0_0_0 (k0_pay4 (F := Ideal)) [] y y rfl fun a => ?_).trans (zero4 y)
  match a with
  | ⟨0, _⟩ => exact (Nat.zero_add _).symm
  | ⟨1, _⟩ => exact (Nat.zero_add _).symm
  | ⟨2, _⟩ => exact (Nat.zero_add _).symm

theorem total (v : FVec Ideal S32x8x256 .f32) (y : S32x256.Idx) : k0_pay3 (F := Ideal) v y = ∑ s : Fin 8, v (ix3 (y 0) s (y 1)) := by
  pointwise [k0_pay3]

variable (m : (ℓ : Loc nD τ sig) → Buf (Elt Ideal) ℓ)

/-- What a tile adds to partial sum `s` of tap `n`. -/
def tw (c : Dev nD) (t : Fin cfg0.N) (n : ℕ) (s : Fin 8) (k : Fin 256) : EReal :=
  ∑ r : Fin 8, ∑ g : Fin 8, gdx (U m c) (W m c) (B m c) (G m c) (L m c) (O m c) (at512 t (at64 r ⟨g.val * 8 + s.val, by omega⟩)) k
    * hp (U m c) ((at512 t (at64 r ⟨g.val * 8 + s.val, by omega⟩)).val + n) k

def tt (c : Dev nD) (t : Fin cfg0.N) (y : S32x8x256.Idx) : EReal := if (y 0).val < 31 then tw m c t (y 0).val (y 1) (y 2) else 0

section
variable (c : Dev nD) (t : Fin cfg0.N) (y : S32x8x256.Idx)
  (arg1 : Memref sig .tc .vmem S512x512 .f32) (harg1 : arg1.IsWhole) (arg2 : Memref sig .tc .vmem S32x512 .f32) (harg2 : arg2.IsWhole)
  (arg3 : Memref sig .tc .vmem S512x256 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg13 : Memref sig .tc .vmem S544x256 .f32)

theorem tile_w : (if hy : (y 0).val < 31 then ∑ r : Fin 8, Dw.term
      (bl (F := Ideal) arg3 harg3 arg4 harg4 arg5 harg5 arg6 harg6 arg7 harg7 (iblk m c 2 t) (iblk m c 3 t) (iblk m c 4 t) (iblk m c 5 t) (iblk m c 6 t) r)
      (lh (F := Ideal) (grid0.coords t) arg1 harg1 arg2 harg2 arg13 (iblk m c 0 t) (iblk m c 1 t) r ⟨(y 0).val, hy⟩) (y 1) (y 2) else 0) = tt m c t y := by
  unfold tt tw
  by_cases hy : (y 0).val < 31
  · rw [dif_pos hy, if_pos hy]
    refine Finset.sum_congr rfl fun r _ => (term_eq (grid0.coords t) arg1 harg1 arg2 harg2 arg3 harg3 arg4 harg4 arg5 harg5 arg6 harg6 arg7 harg7 arg13 _ _ _ _ _ _ _ r ⟨(y 0).val, hy⟩ (y 1) (y 2)).trans
      (Finset.sum_congr rfl fun g _ => congrArg₂ (· * ·) (Dx_eq m c t _ _) ?_)
    refine Eq.trans (congrArg (fun q => Hb _ _ _ q (y 2)) (Fin.ext ?_)) ((Hb_eq m c t (r.val * 64 + (g.val * 8 + (y 1).val) + (y 0).val) (by have := (y 1).isLt; have : (y 1).val < 8 := (y 1).isLt; omega) (y 2)).trans
      (congrArg (fun q => hp _ q (y 2)) ?_))
    · show r.val * 64 + (g.val * 8 + (y 1).val) + (2 + (y 0).val) = r.val * 64 + (g.val * 8 + (y 1).val) + (y 0).val + 2
      omega
    · show t.val * 512 + (r.val * 64 + (g.val * 8 + (y 1).val) + (y 0).val) = t.val * 512 + (r.val * 64 + (g.val * 8 + (y 1).val)) + (y 0).val
      omega
  · rw [dif_neg hy, if_neg hy]

theorem found (arg14 : Memref sig .tc .vmem S32x8x256 .f32) (harg14 : arg14.IsWhole) (x : FVec Ideal S32x8x256 .f32) (n : Fin 31) (y1 : Fin 8) (y2 : Fin 256) :
    la (F := Ideal) arg14 harg14 x n (ix3 0 y1 y2) = x (ix3 ⟨n.val, by omega⟩ y1 y2) := by
  show arg14.view.read (Elt Ideal) (harg14.unread x) ((Dw.row n).toLoadRect.idx (ix3 0 y1 y2)) = _
  rw [harg14.read_unread]
  refine congrArg x ?_
  funext a
  apply Fin.ext
  match a with
  | ⟨0, _⟩ => show n.val + 1 * 0 = n.val; omega
  | ⟨1, _⟩ => show 0 + 1 * y1.val = y1.val; omega
  | ⟨2, _⟩ => show 0 + 1 * y2.val = y2.val; omega
end

theorem base_w (c : Dev nD) : ∀ (t : Fin cfg0.N) (h : t.val % 8 = 0) (j : S32x8x256.Idx), (outsAt0 m c t.val t.isLt).2.2.2.2.2 j = 0 + tt m c t j := fun t h j => by
  rw [outsAt0_A m c t h (last_of t h)]
  dsimp only
  unfold sout0_A_1
  rw [dw_A]
  exact (later_rest_at _ _ _ _ _ (fun _ => 0) (fun f y => zeros_hit _ f y) j).trans (congrArg (0 + ·) (tile_w m c t j _ _ _ _ _ _ _ _ _ _ _ _ _ _ _))

theorem step_w (c : Dev nD) : ∀ (t : Fin cfg0.N) (h : ¬t.val % 8 = 0) (j : S32x8x256.Idx), (outsAt0 m c t.val t.isLt).2.2.2.2.2 j
    = (outsAt0 m c (t.val - 1) (Nat.lt_of_le_of_lt (Nat.sub_le _ _) t.isLt)).2.2.2.2.2 j + tt m c t j := fun t h j => by
  by_cases h1 : t.val % 8 = 7
  · rw [outsAt0_C m c t h h1]
    dsimp only
    unfold sout0_C_1
    rw [dw_C]
    exact (first_rest_at _ _ _ _ _ _ (fun n y1 y2 => found _ _ _ n y1 y2) (fun y => congrFun (Memref.IsWhole.read_unread _ _) y) j).trans
      (congrArg (_ + ·) (tile_w m c t j _ _ _ _ _ _ _ _ _ _ _ _ _ _ _))
  · rw [outsAt0_B m c t h h1]
    dsimp only
    unfold sout0_B_1
    rw [dw_B]
    exact (first_rest_at _ _ _ _ _ _ (fun n y1 y2 => found _ _ _ n y1 y2) (fun y => congrFun (Memref.IsWhole.read_unread _ _) y) j).trans
      (congrArg (_ + ·) (tile_w m c t j _ _ _ _ _ _ _ _ _ _ _ _ _ _ _))

section
variable (c : Dev nD) (i : grid0.Coords)
  (arg1 : Memref sig .tc .vmem S512x512 .f32) (harg1 : arg1.IsWhole) (arg2 : Memref sig .tc .vmem S32x512 .f32) (harg2 : arg2.IsWhole)
  (arg3 : Memref sig .tc .vmem S512x256 .f32) (harg3 : arg3.IsWhole) (arg4 : Memref sig .tc .vmem S512x256 .f32) (harg4 : arg4.IsWhole)
  (arg5 : Memref sig .tc .vmem S1x256 .f32) (harg5 : arg5.IsWhole) (arg6 : Memref sig .tc .vmem S1x256 .f32) (harg6 : arg6.IsWhole)
  (arg7 : Memref sig .tc .vmem S1x256 .f32) (harg7 : arg7.IsWhole) (arg8 : Memref sig .tc .vmem S512x256 .f32) (harg8 : arg8.IsWhole)
  (arg9 : Memref sig .tc .vmem S32x256 .f32) (harg9 : arg9.IsWhole) (arg10 : Memref sig .tc .vmem S1x256 .f32) (harg10 : arg10.IsWhole)
  (arg11 : Memref sig .tc .vmem S1x256 .f32) (harg11 : arg11.IsWhole) (arg12 : Memref sig .tc .vmem S1x256 .f32) (harg12 : arg12.IsWhole)
  (arg13 : Memref sig .tc .vmem S544x256 .f32) (harg13 : arg13.IsWhole) (arg14 : Memref sig .tc .vmem S32x8x256 .f32) (harg14 : arg14.IsWhole)
  (x0 : Vec Ideal S512x512 .f32) (x1 : Vec Ideal S32x512 .f32) (x2 : Vec Ideal S512x256 .f32) (x3 : Vec Ideal S512x256 .f32)
  (x4 : Vec Ideal S1x256 .f32) (x5 : Vec Ideal S1x256 .f32) (x6 : Vec Ideal S1x256 .f32) (xo9 : Vec Ideal S1x256 .f32)
  (xo10 : Vec Ideal S1x256 .f32) (xo11 : Vec Ideal S1x256 .f32) (xs1 : Vec Ideal S32x8x256 .f32)

/-- The last tile's output is the total of what it leaves in the partial sums. -/
theorem out8_C (hc0 : ¬cond0_0 i) (hc1 : cond0_1 i) (j : S32x256.Idx) : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1 j
    = ∑ s : Fin 8, sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1 (ix3 (j 0) s (j 1)) := by
  refine (congrFun (whole_C c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 xo9 xo10 xo11 xs1 hc0 hc1) j).trans ((whole_hit _ _ _ j).trans ((total _ j).trans (Finset.sum_congr rfl fun s _ => ?_)))
  exact congrArg (sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xo10 xo11 xs1) (allTaps_idx _)
end

theorem out_w (c : Dev nD) (t : Fin cfg0.N) (h1 : t.val % 8 = 7) (j : S32x256.Idx) : (outsAt0 m c t.val t.isLt).2.1 j
    = ∑ s : Fin 8, (outsAt0 m c t.val t.isLt).2.2.2.2.2 (ix3 (j 0) s (j 1)) := by
  have e := outsAt0_C m c t (by omega) h1
  generalize outsAt0 m c t.val t.isLt = z at e ⊢
  subst e
  dsimp only
  exact out8_C _ _ _ _ _ _ _ _ _ _ _ _ _ _ _ _ _ _ _ _ _ _ _ _ _ _ _ _ _ _ _ _ _ _ _ _ _ _ _ _ _ _ _ _

theorem regroup (q : Fin 4096 → EReal) : ∑ s : Fin 8, ∑ t : Fin cfg0.N, ∑ r : Fin 8, ∑ g : Fin 8, q (at512 t (at64 r ⟨g.val * 8 + s.val, by omega⟩)) = ∑ n : Fin 4096, q n := by
  rw [← all_tiles q, Finset.sum_comm]
  refine Finset.sum_congr rfl fun t _ => ?_
  rw [Finset.sum_comm]
  refine Eq.trans (b := ∑ r : Fin 8, ∑ a : Fin 64, q (at512 t (at64 r a))) (Finset.sum_congr rfl fun r _ => ?_)
    (Fin.sum_mul_add_congr (S := 8) (n := 64) (f := fun n => q (at512 t n)) fun r a hl => rfl)
  rw [Finset.sum_comm]
  exact Fin.sum_mul_add_congr (S := 8) (n := 8) (f := fun a : Fin 64 => q (at512 t (at64 r a))) fun g s hl => rfl

theorem sum_tt (c : Dev nD) (j : S32x256.Idx) : ∑ s : Fin 8, ∑ t : Fin cfg0.N, tt m c t (ix3 (j 0) s (j 1))
    = if (j 0).val < 31 then ∑ n : Fin 4096, gdx (U m c) (W m c) (B m c) (G m c) (L m c) (O m c) n (j 1) * hp (U m c) (n.val + (j 0).val) (j 1) else 0 := by
  by_cases h : (j 0).val < 31
  · rw [if_pos h]
    refine (Finset.sum_congr rfl fun s _ => Finset.sum_congr rfl fun t _ => if_pos h).trans ?_
    exact regroup fun n => gdx (U m c) (W m c) (B m c) (G m c) (L m c) (O m c) n (j 1) * hp (U m c) (n.val + (j 0).val) (j 1)
  · rw [if_neg h]
    exact Finset.sum_eq_zero fun s _ => Finset.sum_eq_zero fun t _ => if_neg h

theorem result_w (c : Dev nD) : (Gen.dats m 0 c).arrAt 8 (cfgs 0).N
    = fun i => if (i 0).val < 31 then ∑ n : Fin 4096, gdx (U m c) (W m c) (B m c) (G m c) (L m c) (O m c) n (i 1) * hp (U m c) (n.val + (i 0).val) (i 1) else 0 := by
  refine (Gen.dats m 0 c).arrAt_eq_of_after_last 8 t0_7 (by decide +kernel) _ fun j => ?_
  blk_simp
  rw [after0_8]
  refine (out_w m c t0_7 rfl j).trans ?_
  have e : ∀ s : Fin 8, (outsAt0 m c t0_7.val t0_7.isLt).2.2.2.2.2 (ix3 (j 0) s (j 1)) = ∑ t : Fin cfg0.N, tt m c t (ix3 (j 0) s (j 1)) := fun s => by
    rw [Pipeline.eq_sum_fin_of_reset_step_apply_last (fun n h => (outsAt0 m c n h).2.2.2.2.2) 8 (fun _ => 0) (fun t j => tt m c t j)
      (base_w m c) (step_w m c) (le_of_eq N_0) t0_7 rfl (ix3 (j 0) s (j 1)), zero_add]
  exact (Finset.sum_congr rfl fun s _ => e s).trans (sum_tt m c j)

end Cert.DcIdeal.Taps
end
-- ==== Proof.LN.lean ====
/- Facts over the reals that the gradient of the layer norm behind the convolution takes. -/
module

public import proofs.«01_k».proof.Proof.Lits
public import Idealize.ShloMosaic.PureOps.Ideal.Laws

@[expose] public section

noncomputable section

namespace Cert.LN

open Idealize.ShloMosaic

/-- The sum of real numbers as an extended real. -/
theorem coe_sum {ι : Type} [Fintype ι] (f : ι → ℝ) : ((∑ k, f k : ℝ) : EReal) = ∑ k, (f k : EReal) := by
  classical
  refine Finset.induction_on (motive := fun s => ((∑ k ∈ s, f k : ℝ) : EReal) = ∑ k ∈ s, (f k : EReal)) Finset.univ (by simp) ?_
  intro a s h ih
  rw [Finset.sum_insert h, Finset.sum_insert h, EReal.coe_add, ih]

/-- The gradient of the centred and scaled row, as the kernel groups it and as the derivative of the formula gives it. -/
theorem grad (x dn : Fin 256 → ℝ) (e : ℝ) (he : 0 < e) (j : Fin 256) (mu v s : ℝ) (q : Fin 256 → ℝ) (hmu : mu = (∑ k, x k) / 256)
    (hq : ∀ k, q k = x k - mu) (hv : v = (∑ k, q k * q k) / 256 + e) (hs : s = (Real.sqrt v)⁻¹) :
    s * (dn j - (∑ k, dn k) / 256 - q j * s * ((∑ k, dn k * (q k * s)) / 256))
      = (dn j * s + (∑ k, q k * dn k) * (-(1 / 2) * (s / v)) / 256 * (2 * q j))
        + ((∑ k, -(dn k * s)) + (∑ k, -((∑ k, q k * dn k) * (-(1 / 2) * (s / v)) / 256 * (2 * q k)))) / 256 := by
  have hv0 : 0 < v := by
    rw [hv]
    have : 0 ≤ ∑ k, q k * q k := Finset.sum_nonneg fun k _ => mul_self_nonneg _
    positivity
  have hss : s / v = s * s * s := by
    have h2 : s * s = 1 / v := by
      rw [hs, ← mul_inv, Real.mul_self_sqrt hv0.le, one_div]
    rw [h2]
    ring
  have hz : ∑ k, q k = 0 := by
    simp only [hq, Finset.sum_sub_distrib, Finset.sum_const, Finset.card_univ, Fintype.card_fin, hmu, nsmul_eq_mul]
    push_cast
    ring
  have h1 : ∑ k, dn k * (q k * s) = (∑ k, q k * dn k) * s := by
    rw [Finset.sum_mul]
    exact Finset.sum_congr rfl fun k _ => by ring
  have h2 : ∑ k, -(dn k * s) = -((∑ k, dn k) * s) := by
    rw [Finset.sum_neg_distrib, Finset.sum_mul]
  have h3 : ∀ a : ℝ, ∑ k, -(a * (2 * q k)) = 0 := by
    intro a
    rw [Finset.sum_neg_distrib, ← Finset.mul_sum, ← Finset.mul_sum, hz]
    ring
  rw [h1, h2, h3, hss]
  ring

end Cert.LN
end
-- ==== Proof.DcReal.lean ====
/- The gradient of a row as the derivative of the formula gives it, and that over real numbers it is the kernel's. -/
module

public import proofs.«01_k».proof.Proof.DcRow
public import proofs.«01_k».proof.Proof.LN
public import proofs.«01_k».proof.Proof.Lits

@[expose] public section

noncomputable section

namespace Cert.DcIdeal.Deriv

open Idealize.ShloMosaic Cert.DcIdeal.Row

section
variable (x g l o : Fin 256 → EReal) (k : Fin 256)

def rvr : EReal := mean (fun k => cen x k * cen x k) + Ideal.ofBits .f32 0x358637BD#32
def rz : EReal := nrm x k * g k + l k
def rs : EReal := Ideal.div 1 (1 + Ideal.exp (-(rz x g l k)))
def rbd : EReal := o k * rs x g l k + (rz x g l k * o k) * (rs x g l k * (1 - rs x g l k))
def rbn : EReal := rbd x g l o k * g k
def rbs : EReal := rbn x g l o k * inv x
def rq : EReal := Ideal.div ((∑ k, cen x k * rbn x g l o k) * (Ideal.ofBits .f32 0xBF000000#32 * Ideal.div (inv x) (rvr x))) (Ideal.ofBits .f32 0x43800000#32)
  * (Ideal.ofBits .f32 0x40000000#32 * cen x k)
def rdx : EReal := (rbs x g l o k + rq x g l o k)
  + Ideal.div ((∑ k, -(rbs x g l o k)) + (∑ k, -(rq x g l o k))) (Ideal.ofBits .f32 0x43800000#32)
end

theorem lit256 : Ideal.ofBits .f32 0x43800000#32 = ((256 : ℝ) : EReal) := by
  simp [Ideal.ofBits, Ideal.ieee, -EReal.coe_mul]; norm_num

theorem div256 (a : ℝ) : Ideal.div (a : EReal) (Ideal.ofBits .f32 0x43800000#32) = ((a / 256 : ℝ) : EReal) := by
  rw [lit256, Ideal.div_coe (by norm_num), ← EReal.coe_mul]
  congr 1
  ring

theorem mean_coe (f : Fin 256 → ℝ) : mean (fun k => (f k : EReal)) = (((∑ k, f k) / 256 : ℝ) : EReal) := by
  unfold mean
  rw [← LN.coe_sum, div256]

theorem sig_coe (z : ℝ) : Ideal.div 1 (1 + Ideal.exp (-(z : EReal))) = ((1 / (1 + Real.exp (-z)) : ℝ) : EReal) := by
  have h : (1 + Real.exp (-z)) ≠ 0 := by positivity
  rw [← EReal.coe_neg, Ideal.exp_coe, ← EReal.coe_one, ← EReal.coe_add, Ideal.div_coe h, ← EReal.coe_mul, one_mul]

/-- Over real numbers the derivative's gradients at the gate and at the row are the kernel's. -/
theorem row_eq (x g l o : Fin 256 → ℝ) (k : Fin 256) :
    rbd (fun k => x k) (fun k => g k) (fun k => l k) (fun k => o k) k = dz (fun k => x k) (fun k => g k) (fun k => l k) (fun k => o k) k
    ∧ rdx (fun k => x k) (fun k => g k) (fun k => l k) (fun k => o k) k = dx (fun k => x k) (fun k => g k) (fun k => l k) (fun k => o k) k := by
  obtain ⟨e, he, hE⟩ := Lits.eps_f32
  obtain ⟨mu, hmu⟩ : ∃ mu : ℝ, mu = (∑ k, x k) / 256 := ⟨_, rfl⟩
  obtain ⟨q, hq⟩ : ∃ q : Fin 256 → ℝ, ∀ k, q k = x k - mu := ⟨fun k => x k - mu, fun k => rfl⟩
  obtain ⟨v, hv⟩ : ∃ v : ℝ, v = (∑ k, q k * q k) / 256 + e := ⟨_, rfl⟩
  obtain ⟨s, hs⟩ : ∃ s : ℝ, s = (Real.sqrt v)⁻¹ := ⟨_, rfl⟩
  have hv0 : 0 < v := by
    rw [hv]
    have : 0 ≤ ∑ k, q k * q k := Finset.sum_nonneg fun k _ => mul_self_nonneg _
    positivity
  have ccen : ∀ k, cen (fun k => (x k : EReal)) k = (q k : EReal) := fun k => by
    unfold cen
    rw [mean_coe, hq, hmu, ← EReal.coe_sub]
  have cvr : rvr (fun k => (x k : EReal)) = (v : EReal) := by
    unfold rvr
    simp only [ccen, ← EReal.coe_mul]
    rw [mean_coe, hE, ← EReal.coe_add, hv]
  have cinv : inv (fun k => (x k : EReal)) = (s : EReal) := by
    show Ideal.rsqrt (rvr (fun k => (x k : EReal))) = _
    rw [cvr, Ideal.rsqrt_coe, if_neg (not_lt.mpr hv0.le), if_neg hv0.ne', hs]
  have cnrm : ∀ k, nrm (fun k => (x k : EReal)) k = ((q k * s : ℝ) : EReal) := fun k => by
    unfold nrm
    rw [ccen, cinv, ← EReal.coe_mul]
  obtain ⟨z, hz⟩ : ∃ z : Fin 256 → ℝ, ∀ k, z k = q k * s * g k + l k := ⟨_, fun k => rfl⟩
  obtain ⟨w, hw⟩ : ∃ w : Fin 256 → ℝ, ∀ k, w k = 1 / (1 + Real.exp (-(z k))) := ⟨_, fun k => rfl⟩
  have cz : ∀ k, rz (fun k => (x k : EReal)) (fun k => (g k : EReal)) (fun k => (l k : EReal)) k = (z k : EReal) := fun k => by
    unfold rz
    rw [cnrm, ← EReal.coe_mul, ← EReal.coe_add, hz]
  have cs : ∀ k, rs (fun k => (x k : EReal)) (fun k => (g k : EReal)) (fun k => (l k : EReal)) k = (w k : EReal) := fun k => by
    unfold rs
    rw [cz, sig_coe, hw]
  obtain ⟨d, hd⟩ : ∃ d : Fin 256 → ℝ, ∀ k, d k = o k * (w k * (1 + z k * (1 - w k))) := ⟨_, fun k => rfl⟩
  have cdz : ∀ k, dz (fun k => (x k : EReal)) (fun k => (g k : EReal)) (fun k => (l k : EReal)) (fun k => (o k : EReal)) k = (d k : EReal) := fun k => by
    show (o k : EReal) * (Ideal.div 1 (1 + Ideal.exp (0 - rz (fun k => (x k : EReal)) (fun k => (g k : EReal)) (fun k => (l k : EReal)) k))
      * (1 + rz (fun k => (x k : EReal)) (fun k => (g k : EReal)) (fun k => (l k : EReal)) k
        * (1 - Ideal.div 1 (1 + Ideal.exp (0 - rz (fun k => (x k : EReal)) (fun k => (g k : EReal)) (fun k => (l k : EReal)) k))))) = _
    rw [zero_sub]
    rw [show Ideal.div 1 (1 + Ideal.exp (-(rz (fun k => (x k : EReal)) (fun k => (g k : EReal)) (fun k => (l k : EReal)) k))) = (w k : EReal) from cs k, cz, hd]
    push_cast
    rfl
  have cbd : ∀ k, rbd (fun k => (x k : EReal)) (fun k => (g k : EReal)) (fun k => (l k : EReal)) (fun k => (o k : EReal)) k = (d k : EReal) := fun k => by
    unfold rbd
    rw [cs, cz, ← EReal.coe_one]
    simp only [← EReal.coe_mul, ← EReal.coe_add, ← EReal.coe_sub]
    rw [hd]
    congr 1
    ring
  refine ⟨(cbd k).trans (cdz k).symm, ?_⟩
  obtain ⟨b, hb⟩ : ∃ b : Fin 256 → ℝ, ∀ k, b k = d k * g k := ⟨_, fun k => rfl⟩
  have cdn : ∀ k, dn (fun k => (x k : EReal)) (fun k => (g k : EReal)) (fun k => (l k : EReal)) (fun k => (o k : EReal)) k = (b k : EReal) := fun k => by
    unfold dn
    rw [cdz, ← EReal.coe_mul, hb]
  have cbn : ∀ k, rbn (fun k => (x k : EReal)) (fun k => (g k : EReal)) (fun k => (l k : EReal)) (fun k => (o k : EReal)) k = (b k : EReal) := fun k => by
    unfold rbn
    rw [cbd, ← EReal.coe_mul, hb]
  have cbs : ∀ k, rbs (fun k => (x k : EReal)) (fun k => (g k : EReal)) (fun k => (l k : EReal)) (fun k => (o k : EReal)) k = ((b k * s : ℝ) : EReal) := fun k => by
    unfold rbs
    rw [cbn, cinv, ← EReal.coe_mul]
  have cq : ∀ k, rq (fun k => (x k : EReal)) (fun k => (g k : EReal)) (fun k => (l k : EReal)) (fun k => (o k : EReal)) k
      = (((∑ k, q k * b k) * (-(1 / 2) * (s / v)) / 256 * (2 * q k) : ℝ) : EReal) := fun k => by
    unfold rq
    simp only [ccen, cbn, cinv, cvr, Lits.neg_half_f32, Lits.two_f32]
    rw [Ideal.div_coe hv0.ne']
    simp only [← EReal.coe_mul, ← LN.coe_sum]
    rw [div256, ← EReal.coe_mul]
    congr 1
    ring
  have hK : dx (fun k => (x k : EReal)) (fun k => (g k : EReal)) (fun k => (l k : EReal)) (fun k => (o k : EReal)) k
      = ((s * (b k - (∑ k, b k) / 256 - q k * s * ((∑ k, b k * (q k * s)) / 256)) : ℝ) : EReal) := by
    unfold dx
    simp only [cdn, cnrm, cinv, ← EReal.coe_mul]
    rw [show dn (fun k => (x k : EReal)) (fun k => (g k : EReal)) (fun k => (l k : EReal)) (fun k => (o k : EReal)) = fun k => (b k : EReal) from funext cdn, mean_coe, mean_coe]
    push_cast
    rfl
  rw [hK, LN.grad x b e he k mu v s q hmu hq hv hs]
  unfold rdx
  simp only [cbs, cq, ← EReal.coe_neg, ← LN.coe_sum, ← EReal.coe_add]
  rw [div256, ← EReal.coe_add]

end Cert.DcIdeal.Deriv
end
-- ==== Proof.DcRef.lean ====
/- The reference's values row by row: the gated input's windows, the convolution, and the derivative of the norm and the
   gate. -/
module

public import proofs.«01_k».proof.Proof.Gen.DcRefIdeal.Run
public import proofs.«01_k».proof.Proof.DcHost
public import proofs.«01_k».proof.Proof.DcReal
public import Idealize.ShloMosaic.Lib.Pipeline.ValueKit
public import Idealize.ShloMosaic.Lib.Pointwise

@[expose] public section

set_option maxRecDepth 16384

noncomputable section

namespace Cert.DcRefIdeal.Rows

open Cert.DcRefIdeal Cert.DcRefIdeal.Gen Cert.DcRefIdeal.Value
open Cert.DcIdeal.Row Cert.DcIdeal.Host Cert.DcIdeal.Deriv
open Idealize.ShloMosaic Idealize.ShloMosaic.TcCoe Idealize.SL.Sem Idealize.ShloMosaic.StableHlo

/-- A sum against the indicator of `n + j = 30 + s` picks one row, or none. -/
theorem pick (f : Fin 4096 → EReal) (n : Fin 4096) (j : Fin 31) :
    (∑ s : Fin 4096, FloatOps.uitofp (F := Ideal) FTy.f32 (IntOp.cmpi CmpIPredicate.eq (IntOp.addi (BitVec.ofNat 32 n.val) (BitVec.ofNat 32 j.val))
        (BitVec.ofNat 32 (30 + s.val))) * f s) = if h : 30 ≤ n.val + j.val ∧ n.val + j.val < 4126 then f ⟨n.val + j.val - 30, by omega⟩ else 0 := by
  have hn := n.isLt
  have hj := j.isLt
  have key : ∀ s : Fin 4096, FloatOps.uitofp (F := Ideal) FTy.f32 (IntOp.cmpi CmpIPredicate.eq (IntOp.addi (BitVec.ofNat 32 n.val) (BitVec.ofNat 32 j.val))
        (BitVec.ofNat 32 (30 + s.val))) * f s = if 30 + s.val = n.val + j.val then f s else 0 := by
    intro s
    have hs := s.isLt
    have he : (BitVec.ofNat 32 n.val + BitVec.ofNat 32 j.val = BitVec.ofNat 32 (30 + s.val)) ↔ 30 + s.val = n.val + j.val := by
      rw [← BitVec.toNat_inj]
      simp only [BitVec.toNat_add, BitVec.toNat_ofNat]
      omega
    by_cases h : 30 + s.val = n.val + j.val
    · rw [if_pos h]
      simp [IntOp.cmpi, IntOp.addi, he.2 h, FloatOps.uitofp]
    · rw [if_neg h]
      simp [IntOp.cmpi, IntOp.addi, mt he.1 h, FloatOps.uitofp]
  rw [Finset.sum_congr rfl fun s _ => key s]
  by_cases h : 30 ≤ n.val + j.val ∧ n.val + j.val < 4126
  · rw [dif_pos h, Finset.sum_eq_single ⟨n.val + j.val - 30, by omega⟩, if_pos (by show 30 + (n.val + j.val - 30) = _; omega)]
    · intro s _ hs
      rw [if_neg fun e => hs (Fin.ext (by show s.val = n.val + j.val - 30; omega))]
    · intro h
      exact absurd (Finset.mem_univ _) h
  · rw [dif_neg h]
    refine Finset.sum_eq_zero fun s _ => ?_
    have hs := s.isLt
    rw [if_neg (by omega)]

variable (V0 : Valuation τ sig (Elt Ideal))

abbrev U : FVec Ideal S4096x512 .f32 := V0 (Proc.devRef .tc main_arg0)
abbrev W : FVec Ideal S31x256 .f32 := V0 (Proc.devRef .tc main_arg1)
abbrev B : FVec Ideal S256 .f32 := V0 (Proc.devRef .tc main_arg2)
abbrev G : FVec Ideal S256 .f32 := V0 (Proc.devRef .tc main_arg3)
abbrev L : FVec Ideal S256 .f32 := V0 (Proc.devRef .tc main_arg4)
abbrev O : FVec Ideal S4096x256 .f32 := V0 (Proc.devRef .tc main_arg5)

theorem v17 (n : Fin 4096) (j : Fin 31) (k : Fin 256) : (res_main_v17 (F := Ideal) V0 (ix3 n j k) : EReal) = hp (U V0) (n.val + j.val) k := by
  unfold res_main_v17
  pointwise []
  rw [Finset.sum_eq_zero fun x _ => mul_zero _, zero_add]
  exact pick (fun n => glu (U V0) n k) n j

/-- The convolution's row, as it enters the norm. -/
abbrev X (n : Fin 4096) : Fin 256 → EReal := fun k => cv (U V0) (W V0) n.val k + B V0 (ix1 k)
abbrev G' : Fin 256 → EReal := fun k => G V0 (ix1 k)
abbrev L' : Fin 256 → EReal := fun k => L V0 (ix1 k)
abbrev O' (n : Fin 4096) : Fin 256 → EReal := fun k => O V0 (ix2 n k)

theorem v24 (n : Fin 4096) (k : Fin 256) : (res_main_v24 (F := Ideal) V0 (ix2 n k) : EReal) = X V0 n k := by
  unfold res_main_v24
  pointwise [v17]
  rfl

theorem v28 (n : Fin 4096) : (res_main_v28 (F := Ideal) V0 (ix2 n 0) : EReal) = mean (X V0 n) := by
  unfold res_main_v28
  pointwise [v24]
  rfl

theorem v30 (n : Fin 4096) (k : Fin 256) : (res_main_v30 (F := Ideal) V0 (ix2 n k) : EReal) = cen (X V0 n) k := by
  unfold res_main_v30
  pointwise [v24, v28]
  rfl

theorem v39 (n : Fin 4096) (k : Fin 256) : (res_main_v39 (F := Ideal) V0 (ix2 n k) : EReal) = cen (X V0 n) k := by
  unfold res_main_v39
  pointwise [v24, v28]
  rfl

theorem v41 (n : Fin 4096) : (res_main_v41 (F := Ideal) V0 (ix2 n 0) : EReal) = rvr (X V0 n) := by
  unfold res_main_v41
  pointwise [v30]
  rfl

theorem v42 (n : Fin 4096) : (res_main_v42 (F := Ideal) V0 (ix2 n 0) : EReal) = inv (X V0 n) := by
  unfold res_main_v42
  pointwise [v41]
  rfl

theorem v47 (n : Fin 4096) (k : Fin 256) : (res_main_v47 (F := Ideal) V0 (ix2 n k) : EReal) = nrm (X V0 n) k := by
  unfold res_main_v47
  pointwise [v39, v42]
  rfl

theorem v48 (k : Fin 256) : (res_main_v48 (F := Ideal) V0 (ix2 0 k) : EReal) = G' V0 k := by
  unfold res_main_v48
  pointwise []

theorem v53 (n : Fin 4096) (k : Fin 256) : (res_main_v53 (F := Ideal) V0 (ix2 n k) : EReal) = rz (X V0 n) (G' V0) (L' V0) k := by
  unfold res_main_v53
  pointwise [v47, v48]
  rfl

theorem v54 (n : Fin 4096) (k : Fin 256) : (res_main_v54_2 (F := Ideal) V0 (ix2 n k) : EReal) = rs (X V0 n) (G' V0) (L' V0) k := by
  unfold res_main_v54_2
  pointwise [v53]
  rfl

theorem v55 (n : Fin 4096) (k : Fin 256) : (res_main_v55 (F := Ideal) V0 (ix2 n k) : EReal) = rbd (X V0 n) (G' V0) (L' V0) (O' V0 n) k := by
  unfold res_main_v55
  pointwise [v53, v54]
  rfl

theorem v63 (n : Fin 4096) (k : Fin 256) : (res_main_v63 (F := Ideal) V0 (ix2 n k) : EReal) = rbn (X V0 n) (G' V0) (L' V0) (O' V0 n) k := by
  unfold res_main_v63
  pointwise [v55, v48]
  rfl

theorem v69 (n : Fin 4096) (k : Fin 256) : (res_main_v69 (F := Ideal) V0 (ix2 n k) : EReal) = rbs (X V0 n) (G' V0) (L' V0) (O' V0 n) k := by
  unfold res_main_v69
  pointwise [v63, v42]
  rfl

theorem v78 (n : Fin 4096) (k : Fin 256) : (res_main_v78 (F := Ideal) V0 (ix2 n k) : EReal) = rq (X V0 n) (G' V0) (L' V0) (O' V0 n) k := by
  unfold res_main_v78
  pointwise [v39, v63, v42, v41, v30]
  simp only [Finset.univ_unique, Finset.sum_singleton]
  rw [show (default : Fin 1) = 0 from rfl, v42, v41]
  rfl

theorem v88 (n : Fin 4096) (k : Fin 256) : (res_main_v88 (F := Ideal) V0 (ix2 n k) : EReal) = rdx (X V0 n) (G' V0) (L' V0) (O' V0 n) k := by
  unfold res_main_v88
  pointwise [v69, v78]
  simp only [Finset.univ_unique, Finset.sum_singleton]
  rfl

theorem taps_at (i : S32x256.Idx) : (pad S32x256 ![0, 0] ![1, 0] ![0, 0] (Host.reduceAdd (F := Ideal) (shapeCast S1x31x256 (Host.reduceAdd (F := Ideal) (mulf (F := Ideal) (res_main_v17 (F := Ideal) V0)
      (broadcastInDim S4096x31x256 ![0, 2] bcast_S4096x256_S4096x31x256_0_2 (res_main_v88 (F := Ideal) V0))) (constant (F := Ideal) S_ .f32 0x00000000#32) reducesTo_S4096x31x256_S31x256_d0 h_S_)
      shapeCasts_S31x256_S1x31x256) (constant (F := Ideal) S_ .f32 0x00000000#32) reducesTo_S1x31x256_S31x256_d0 h_S_) (sitofp (F := Ideal) .f32 (constantI S_ 32 0#32)) pads_S31x256_S32x256_010_000 h_S_ i : EReal)
    = if (i 0).val < 31 then ∑ n : Fin 4096, hp (U V0) (n.val + (i 0).val) (i 1) * rdx (X V0 n) (G' V0) (L' V0) (O' V0 n) (i 1) else 0 := by
  by_cases h : (i 0).val < 31
  · rw [if_pos h]
    pointwise [v17, v88]
    simp only [Finset.univ_unique, Finset.sum_singleton]
    exact dif_pos h
  · rw [if_neg h]
    pointwise []
    refine (dif_neg h).trans ?_
    simp [FloatOps.sitofp]

theorem sum_at (f : FVec Ideal S4096x256 .f32) (i : S1x256.Idx) : (broadcastInDim S1x256 ![1] bcast_S256_S1x256_1 (Host.reduceAdd (F := Ideal) (shapeCast S1x256 (Host.reduceAdd (F := Ideal) f
      (constant (F := Ideal) S_ .f32 0x00000000#32) reducesTo_S4096x256_S256_d0 h_S_) shapeCasts_S256_S1x256) (constant (F := Ideal) S_ .f32 0x00000000#32) reducesTo_S1x256_S256_d0 h_S_) i : EReal)
    = ∑ n : Fin 4096, f (ix2 n (i 1)) := by
  pointwise []
  simp only [Finset.univ_unique, Finset.sum_singleton]

end Cert.DcRefIdeal.Rows
end
-- ==== Proof.Dc.lean ====
/- The gradients of the gated convolution's norm, bias and taps: the kernel's five results are the derivative's. -/
module

public import proofs.«01_k».proof.Proof.DcTaps
public import proofs.«01_k».proof.Proof.DcRef
public import proofs.«01_k».proof.Defs
public import Idealize.ShloMosaic.Lib.Claim

@[expose] public section

set_option maxRecDepth 16384

noncomputable section

namespace Cert.DcIdeal.Dc

open Cert.DcIdeal Cert.DcIdeal.Gen Cert.DcIdeal.Row Cert.DcIdeal.Host Cert.DcIdeal.Grid Cert.DcIdeal.Deriv
open Idealize.ShloMosaic Idealize.ShloMosaic.TcCoe Idealize.SL.Sem

/-- A number whose absolute value is below infinity is real. -/
theorem finite (x : EReal) (h : Ideal.cmp .olt (max x (-x)) (Ideal.ofBits .f32 0x7F800000#32) = 1#1) : ∃ r : ℝ, x = (r : EReal) := by
  have hi : Ideal.ofBits .f32 0x7F800000#32 = (⊤ : EReal) := by simp [Ideal.ofBits, Ideal.ieee]
  rw [hi] at h
  induction x using EReal.rec with
  | bot => simp [Ideal.cmp] at h
  | coe r => exact ⟨r, rfl⟩
  | top => simp [Ideal.cmp] at h

theorem glu_real (u : FVec Ideal S4096x512 .f32) (hu : ∀ i, ∃ r : ℝ, u i = (r : EReal)) (n : Fin 4096) (k : Fin 256) : ∃ r : ℝ, glu u n k = (r : EReal) := by
  obtain ⟨a, ha⟩ := hu (ix2 n ⟨k.val, by omega⟩)
  obtain ⟨b, hb⟩ := hu (ix2 n ⟨256 + k.val, by omega⟩)
  refine ⟨a * (1 / (1 + Real.exp (-b))), ?_⟩
  unfold glu
  rw [ha, hb, sig_coe, ← EReal.coe_mul]

theorem hp_real (u : FVec Ideal S4096x512 .f32) (hu : ∀ i, ∃ r : ℝ, u i = (r : EReal)) (n : ℕ) (k : Fin 256) : ∃ r : ℝ, hp u n k = (r : EReal) := by
  unfold hp
  by_cases h : 30 ≤ n ∧ n < 4126
  · rw [dif_pos h]
    exact glu_real u hu _ k
  · rw [dif_neg h]
    exact ⟨0, rfl⟩

theorem cv_real (u : FVec Ideal S4096x512 .f32) (w : FVec Ideal S31x256 .f32) (hu : ∀ i, ∃ r : ℝ, u i = (r : EReal)) (hw : ∀ i, ∃ r : ℝ, w i = (r : EReal))
    (n : ℕ) (k : Fin 256) : ∃ r : ℝ, cv u w n k = (r : EReal) := by
  choose p hp' using fun j : Fin 31 => hp_real u hu (n + j.val) k
  choose q hq using fun j : Fin 31 => hw (ix2 j k)
  refine ⟨∑ j, p j * q j, ?_⟩
  unfold cv
  simp only [hp', hq, ← EReal.coe_mul, LN.coe_sum]

section
variable (u : FVec Ideal S4096x512 .f32) (w : FVec Ideal S31x256 .f32) (b g l : FVec Ideal S256 .f32) (o : FVec Ideal S4096x256 .f32)
  (hu : ∀ i, ∃ r : ℝ, u i = (r : EReal)) (hw : ∀ i, ∃ r : ℝ, w i = (r : EReal)) (hb : ∀ i, ∃ r : ℝ, b i = (r : EReal))
  (hg : ∀ i, ∃ r : ℝ, g i = (r : EReal)) (hl : ∀ i, ∃ r : ℝ, l i = (r : EReal)) (ho : ∀ i, ∃ r : ℝ, o i = (r : EReal))
include hu hw hb hg hl ho

theorem rows (n : Fin 4096) (k : Fin 256) :
    rbd (xrow u w b n) (fun k => g (ix1 k)) (fun k => l (ix1 k)) (fun k => o (ix2 n k)) k = gdz u w b g l o n k
    ∧ rdx (xrow u w b n) (fun k => g (ix1 k)) (fun k => l (ix1 k)) (fun k => o (ix2 n k)) k = gdx u w b g l o n k := by
  unfold gdz gdx
  choose x hx using fun k => cv_real u w hu hw n.val k
  choose b' hb' using hb
  choose g' hg' using hg
  choose l' hl' using hl
  choose o' ho' using ho
  have e : xrow u w b n = fun k => ((x k + b' (ix1 k) : ℝ) : EReal) := funext fun k => by
    unfold xrow
    rw [hx, hb', ← EReal.coe_add]
  rw [e]
  simp only [hg', hl', ho']
  exact row_eq (fun k => x k + b' (ix1 k)) (fun k => g' (ix1 k)) (fun k => l' (ix1 k)) (fun k => o' (ix2 n k)) k
end

variable (m : (ℓ : Loc nD τ sig) → Buf (Elt Ideal) ℓ)

/-- The shapes the precondition's broadcasts take. -/
instance finiteFacts : Cert.Pre_finite_dc.Facts where
  bcast_S_S4096x512 := by decide
  bcast_S_S31x256 := by decide
  bcast_S_S256 := by decide
  bcast_S_S4096x256 := by decide

theorem ix2_eta {a b : ℕ} (i : (⟨2, ![a, b]⟩ : Shape).Idx) : i = ix2 (i 0) (i 1) :=
  funext fun x => match x with | ⟨0, _⟩ => rfl | ⟨1, _⟩ => rfl

section
variable (m' : (ℓ : Loc Cert.DcRefIdeal.nD Cert.DcRefIdeal.τ Cert.DcRefIdeal.sig) → Buf (Elt Ideal) ℓ) (c : Dev nD)

/-- From finite arguments on which the programs agree, the reference's rows are the kernel's. -/
theorem row_at
    (hpre : (Cert.Pre_finite_dc.fn (F := Ideal) (U m c) (W m c) (B m c) (G m c) (L m c) (O m c)).1 = (fun _ => 1#1)
      ∧ (Cert.Pre_finite_dc.fn (F := Ideal) (U m c) (W m c) (B m c) (G m c) (L m c) (O m c)).2.1 = (fun _ => 1#1)
      ∧ (Cert.Pre_finite_dc.fn (F := Ideal) (U m c) (W m c) (B m c) (G m c) (L m c) (O m c)).2.2.1 = (fun _ => 1#1)
      ∧ (Cert.Pre_finite_dc.fn (F := Ideal) (U m c) (W m c) (B m c) (G m c) (L m c) (O m c)).2.2.2.1 = (fun _ => 1#1)
      ∧ (Cert.Pre_finite_dc.fn (F := Ideal) (U m c) (W m c) (B m c) (G m c) (L m c) (O m c)).2.2.2.2.1 = (fun _ => 1#1)
      ∧ (Cert.Pre_finite_dc.fn (F := Ideal) (U m c) (W m c) (B m c) (G m c) (L m c) (O m c)).2.2.2.2.2 = (fun _ => 1#1))
    (ha : m' ((c.tc : Thread Cert.DcRefIdeal.nD Cert.DcRefIdeal.τ).loc Cert.DcRefIdeal.main_arg0) = U m c
      ∧ m' ((c.tc : Thread Cert.DcRefIdeal.nD Cert.DcRefIdeal.τ).loc Cert.DcRefIdeal.main_arg1) = W m c
      ∧ m' ((c.tc : Thread Cert.DcRefIdeal.nD Cert.DcRefIdeal.τ).loc Cert.DcRefIdeal.main_arg2) = B m c
      ∧ m' ((c.tc : Thread Cert.DcRefIdeal.nD Cert.DcRefIdeal.τ).loc Cert.DcRefIdeal.main_arg3) = G m c
      ∧ m' ((c.tc : Thread Cert.DcRefIdeal.nD Cert.DcRefIdeal.τ).loc Cert.DcRefIdeal.main_arg4) = L m c
      ∧ m' ((c.tc : Thread Cert.DcRefIdeal.nD Cert.DcRefIdeal.τ).loc Cert.DcRefIdeal.main_arg5) = O m c)
    (n : Fin 4096) (k : Fin 256) :
    nrm (DcRefIdeal.Rows.X (StableHlo.launchContents m' c) n) k = gnx (U m c) (W m c) (B m c) n k
    ∧ rbd (DcRefIdeal.Rows.X (StableHlo.launchContents m' c) n) (DcRefIdeal.Rows.G' (StableHlo.launchContents m' c)) (DcRefIdeal.Rows.L' (StableHlo.launchContents m' c))
        (DcRefIdeal.Rows.O' (StableHlo.launchContents m' c) n) k = gdz (U m c) (W m c) (B m c) (G m c) (L m c) (O m c) n k
    ∧ rdx (DcRefIdeal.Rows.X (StableHlo.launchContents m' c) n) (DcRefIdeal.Rows.G' (StableHlo.launchContents m' c)) (DcRefIdeal.Rows.L' (StableHlo.launchContents m' c))
        (DcRefIdeal.Rows.O' (StableHlo.launchContents m' c) n) k = gdx (U m c) (W m c) (B m c) (G m c) (L m c) (O m c) n k := by
  obtain ⟨p0, p1, p2, p3, p4, p5⟩ := hpre
  obtain ⟨h0, h1, h2, h3, h4, h5⟩ := ha
  have e0 : DcRefIdeal.Rows.U (StableHlo.launchContents m' c) = U m c := h0
  have e1 : DcRefIdeal.Rows.W (StableHlo.launchContents m' c) = W m c := h1
  have e2 : DcRefIdeal.Rows.B (StableHlo.launchContents m' c) = B m c := h2
  have e3 : DcRefIdeal.Rows.G (StableHlo.launchContents m' c) = G m c := h3
  have e4 : DcRefIdeal.Rows.L (StableHlo.launchContents m' c) = L m c := h4
  have e5 : DcRefIdeal.Rows.O (StableHlo.launchContents m' c) = O m c := h5
  unfold DcRefIdeal.Rows.X DcRefIdeal.Rows.G' DcRefIdeal.Rows.L' DcRefIdeal.Rows.O'
  rw [e0, e1, e2, e3, e4, e5]
  exact ⟨rfl, rows (U m c) (W m c) (B m c) (G m c) (L m c) (O m c) (fun i => finite _ (congrFun p0 i)) (fun i => finite _ (congrFun p1 i))
    (fun i => finite _ (congrFun p2 i)) (fun i => finite _ (congrFun p3 i)) (fun i => finite _ (congrFun p4 i)) (fun i => finite _ (congrFun p5 i)) n k⟩
end

set_option maxHeartbeats 1600000 in
theorem same : Cert.algebraic_DcIdeal_DcRefIdeal_pre_finite_dc := by
  pair_intro
  · run_from Cert.DcIdeal.Gen.run_main m g
  · run_from Cert.DcRefIdeal.Value.run m' g'
    all_goals
      have h := row_at m m' c (hpre c) (hagree c)
      have e0 : DcRefIdeal.Rows.U (StableHlo.launchContents m' c) = U m c := (hagree c).1
      funext i
    · rw [result_dx]
      exact (congrArg _ (ix2_eta i)).trans ((DcRefIdeal.Rows.v88 _ (i 0) (i 1)).trans (h (i 0) (i 1)).2.2)
    · rw [Taps.result_w]
      refine (DcRefIdeal.Rows.taps_at _ i).trans ?_
      by_cases h1 : (i 0).val < 31
      · refine ((if_pos h1).trans (Finset.sum_congr rfl fun n _ => ?_)).trans (if_pos h1).symm
        refine (congrArg₂ (· * ·) (congrFun (congrFun (congrArg hp e0) _) _) (h n (i 1)).2.2).trans ?_
        exact mul_comm _ _
      · exact (if_neg h1).trans (if_neg h1).symm
    · rw [Sums.result_b]
      exact (DcRefIdeal.Rows.sum_at _ i).trans (Finset.sum_congr rfl fun n _ => (DcRefIdeal.Rows.v88 _ n (i 1)).trans (h n (i 1)).2.2)
    · rw [Sums.result_g]
      refine (DcRefIdeal.Rows.sum_at _ i).trans (Finset.sum_congr rfl fun n _ => ?_)
      refine (congrArg₂ (fun x y : EReal => x * y) ((DcRefIdeal.Rows.v47 _ n (i 1)).trans (h n (i 1)).1) ((DcRefIdeal.Rows.v55 _ n (i 1)).trans (h n (i 1)).2.1)).trans ?_
      exact mul_comm _ _
    · rw [Sums.result_l]
      exact (DcRefIdeal.Rows.sum_at _ i).trans (Finset.sum_congr rfl fun n _ => (DcRefIdeal.Rows.v55 _ n (i 1)).trans (h n (i 1)).2.1)

end Cert.DcIdeal.Dc
end
-- ==== Proof.Fan.lean ====
/- The norm and the input projection, forward: three products with the packed weights. -/
module

public import proofs.«01_k».proof.Proof.Gen.FanIdeal.Value
public import proofs.«01_k».proof.Proof.Gen.FanRefIdeal.Run
public import proofs.«01_k».proof.Proof.Gen.Fan.Frame
public import proofs.«01_k».proof.Proof.Norm
public import proofs.«01_k».proof.Proof.Cols
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.FanIdeal.Fan

open Cert.FanIdeal Cert.FanIdeal.Gen
open Idealize.ShloMosaic Idealize.ShloMosaic.TcCoe Idealize.SL.Sem
open Idealize.ShloMosaic.Pipeline (Dat)
open Cert.Cols

/-- A normed row at a column. -/
def nrm (x g : Fin 1024 → EReal) (k : Fin 1024) : EReal := x k * Norm.scl x * g k

theorem tile_nrm (x : FVec Ideal S512x1024 .f32) (g : FVec Ideal S1x1024 .f32) (j : S512x1024.Idx) :
    k0_pay3 (F := Ideal) x g j = nrm (fun k => x (ix2 (j 0) k)) (fun k => g (ix2 0 k)) (j 1) := by
  pointwise [k0_pay3, k0_pay2, nrm, Norm.scl]

theorem tile_gla (x : FVec Ideal S512x1024 .f32) (g : FVec Ideal S1x1024 .f32) (w : FVec Ideal S1408x1024 .bf16) (j : S512x1408.Idx) :
    k0_pay4 (F := Ideal) x g w j = ∑ k : Fin 1024, nrm (fun k => x (ix2 (j 0) k)) (fun k => g (ix2 0 k)) k * w (ix2 (j 1) k) := by
  pointwise [k0_pay4, k0_pay2, nrm, Norm.scl]

theorem tile_conv (x : FVec Ideal S512x1024 .f32) (g : FVec Ideal S1x1024 .f32) (w : FVec Ideal S512x1024 .bf16) (j : S512x512.Idx) :
    k0_pay5 (F := Ideal) x g w j = ∑ k : Fin 1024, nrm (fun k => x (ix2 (j 0) k)) (fun k => g (ix2 0 k)) k * w (ix2 (j 1) k) := by
  pointwise [k0_pay5, k0_pay2, nrm, Norm.scl]

theorem tile_att (x : FVec Ideal S512x1024 .f32) (g : FVec Ideal S1x1024 .f32) (w : FVec Ideal S1152x1024 .bf16) (j : S512x1152.Idx) :
    k0_pay1 (F := Ideal) (k0_pay6 x g w) j = ∑ k : Fin 1024, nrm (fun k => x (ix2 (j 0) k)) (fun k => g (ix2 0 k)) k * w (ix2 (j 1) k) := by
  pointwise [k0_pay1, k0_pay6, k0_pay2, nrm, Norm.scl]

theorem places : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![t.val, 0]
    ∧ win0_6.index t = ![t.val, 0] ∧ win0_7.index t = ![t.val, 0] ∧ win0_8.index t = ![t.val, 0] ∧ t.val < 8 :=
  (by decide +kernel : ∀ t : Fin grid0.N, _)

variable (m : (ℓ : Loc nD τ sig) → Buf (Elt Ideal) ℓ)

abbrev row (c : Dev nD) (a : Fin 4096) : Fin 1024 → EReal := fun k => (m ((c : Thread nD τ).loc main_arg0) : FVec Ideal S4096x1024 .f32) (ix2 a k)

/-- The launch's weights, one row of them. -/
abbrev wrow (c : Dev nD) (b : Fin 1024) : Fin 2832 → EReal :=
  fun k => (m ((c : Thread nD τ).loc main_arg1) : FVec Ideal S1024x2832 .f32) (ix2 b k)

abbrev gain (c : Dev nD) : Fin 1024 → EReal := fun k => (m ((c : Thread nD τ).loc main_arg2) : FVec Ideal S1024 .f32) (ix1 k)

theorem at_col (c : Dev nD) (b : Fin 1024) {n k : ℕ} {h : n < 2832} {h' : k < 2832} (e : n = k) : wrow m c b ⟨n, h⟩ = wrow m c b ⟨k, h'⟩ := by
  subst e; rfl

theorem rd_w0 (c : Dev nD) (b : Fin 1024) (k : Fin 1408) : (V m c main_v15 (ix2 k b) : EReal) = pack (wrow m c b) k := by
  have hk := k.isLt
  unfold V
  simp only [List.flatten_cons, List.flatten_nil, List.append_nil]
  repeat after_reads_at
  have z : (FloatOps.sitofp (F := Ideal) FTy.f32 (0#32 : BitVec 32) : EReal) = 0 := by
    simp [FloatOps.sitofp]
  simp only [pack]
  repeat' split
  all_goals first | omega | exact z | exact at_col m c b (by omega)

theorem rd_w1 (c : Dev nD) (b : Fin 1024) (k : Fin 512) : (V m c main_v16 (ix2 k b) : EReal) = mid (wrow m c b) k := by
  have hk := k.isLt
  unfold V
  simp only [List.flatten_cons, List.flatten_nil, List.append_nil]
  repeat after_reads_at
  have z : (FloatOps.sitofp (F := Ideal) FTy.f32 (0#32 : BitVec 32) : EReal) = 0 := by
    simp [FloatOps.sitofp]
  simp only [mid]
  repeat' split
  all_goals first | omega | exact z | exact at_col m c b (by omega)

theorem rd_w2 (c : Dev nD) (b : Fin 1024) (k : Fin 1152) : (V m c main_v17 (ix2 k b) : EReal) = last (wrow m c b) k := by
  have hk := k.isLt
  unfold V
  simp only [List.flatten_cons, List.flatten_nil, List.append_nil]
  repeat after_reads_at
  have z : (FloatOps.sitofp (F := Ideal) FTy.f32 (0#32 : BitVec 32) : EReal) = 0 := by
    simp [FloatOps.sitofp]
  simp only [last]
  repeat' split
  all_goals first | omega | exact z | exact at_col m c b (by omega)

theorem blk_x (c : Dev nD) (t : Fin cfg0.N) (a : Fin 512) (k : Fin 1024) :
    (iblk m c 0 t (ix2 a k) : EReal) = row m c ⟨t.val * 512 + a.val, by have h : t.val < 8 := t.isLt; omega⟩ k := by
  have e : V m c main_arg0 = m ((c : Thread nD τ).loc main_arg0) := by
    unfold V
    simp only [List.flatten_cons, List.flatten_nil, List.append_nil]
    after_reads_at
  unfold row
  rw [← e]
  blk_point [iblk, places t]

theorem blk_w0 (c : Dev nD) (t : Fin cfg0.N) (b : Fin 1024) (k : Fin 1408) : (iblk m c 1 t (ix2 k b) : EReal) = pack (wrow m c b) k := by
  refine Eq.trans ?_ (rd_w0 m c b k)
  blk_point [iblk, places t]

theorem blk_w1 (c : Dev nD) (t : Fin cfg0.N) (b : Fin 1024) (k : Fin 512) : (iblk m c 2 t (ix2 k b) : EReal) = mid (wrow m c b) k := by
  refine Eq.trans ?_ (rd_w1 m c b k)
  blk_point [iblk, places t]

theorem blk_w2 (c : Dev nD) (t : Fin cfg0.N) (b : Fin 1024) (k : Fin 1152) : (iblk m c 3 t (ix2 k b) : EReal) = last (wrow m c b) k := by
  refine Eq.trans ?_ (rd_w2 m c b k)
  blk_point [iblk, places t]

theorem blk_g (c : Dev nD) (t : Fin cfg0.N) (k : Fin 1024) : (iblk m c 4 t (ix2 0 k) : EReal) = gain m c k := by
  have e : V m c main_v18 (ix2 0 k) = gain m c k := by
    unfold V
    simp only [List.flatten_cons, List.flatten_nil, List.append_nil]
    repeat after_reads_at
  rw [← e]
  blk_point [iblk, places t]

/-- A normed row times one column of the weights. -/
def dot (c : Dev nD) (a : Fin 4096) (n : Fin 2832) : EReal := ∑ k : Fin 1024, nrm (row m c a) (gain m c) k * wrow m c k n

theorem dot_col (c : Dev nD) (a : Fin 4096) {n k : ℕ} {h : n < 2832} {h' : k < 2832} (e : n = k) : dot m c a ⟨n, h⟩ = dot m c a ⟨k, h'⟩ := by
  subst e; rfl

/-- The three products as the call returns them. -/
def gla (c : Dev nD) : FVec Ideal S4096x1408 .f32 := fun i => pack (dot m c (i 0)) (i 1)
def conv (c : Dev nD) : FVec Ideal S4096x512 .f32 := fun i => mid (dot m c (i 0)) (i 1)
def att (c : Dev nD) : FVec Ideal S4096x1152 .bf16 := fun i => last (dot m c (i 0)) (i 1)

/-- The normed rows. -/
def xn (c : Dev nD) : FVec Ideal S4096x1024 .bf16 := fun i => nrm (row m c (i 0)) (gain m c) (i 1)

theorem at_xn (c : Dev nD) (t : Fin cfg0.N) (a : Fin 512) (b : Fin 1024) : nrm (fun k => iblk m c 0 t (ix2 a k)) (fun k => iblk m c 4 t (ix2 0 k)) b
    = xn m c (ix2 ⟨t.val * 512 + a.val, by have h : t.val < 8 := t.isLt; omega⟩ b) := by
  simp only [blk_x, blk_g]
  rfl

theorem at_gla (c : Dev nD) (t : Fin cfg0.N) (a : Fin 512) (b : Fin 1408) :
    ∑ k : Fin 1024, nrm (fun k => iblk m c 0 t (ix2 a k)) (fun k => iblk m c 4 t (ix2 0 k)) k * iblk m c 1 t (ix2 b k)
      = gla m c (ix2 ⟨t.val * 512 + a.val, by have h : t.val < 8 := t.isLt; omega⟩ b) := by
  simp only [blk_x, blk_g, blk_w0]
  exact sum_pack _ _ _

theorem at_conv (c : Dev nD) (t : Fin cfg0.N) (a : Fin 512) (b : Fin 512) :
    ∑ k : Fin 1024, nrm (fun k => iblk m c 0 t (ix2 a k)) (fun k => iblk m c 4 t (ix2 0 k)) k * iblk m c 2 t (ix2 b k)
      = conv m c (ix2 ⟨t.val * 512 + a.val, by have h : t.val < 8 := t.isLt; omega⟩ b) := by
  simp only [blk_x, blk_g, blk_w1]
  rfl

theorem at_att (c : Dev nD) (t : Fin cfg0.N) (a : Fin 512) (b : Fin 1152) :
    ∑ k : Fin 1024, nrm (fun k => iblk m c 0 t (ix2 a k)) (fun k => iblk m c 4 t (ix2 0 k)) k * iblk m c 3 t (ix2 b k)
      = att m c (ix2 ⟨t.val * 512 + a.val, by have h : t.val < 8 := t.isLt; omega⟩ b) := by
  simp only [blk_x, blk_g, blk_w2]
  rfl

theorem result_gla (c : Dev nD) : (Gen.dats m 0 c).arrAt 5 (cfgs 0).N = gla m c := by
  refine (Gen.dats m 0 c).arrAt_eq_of_covers 5 _ (by decide +kernel) fun t hf y => ?_
  blk_simp
  rw [after0_5]; frame_out
  refine (tile_gla _ _ _ _).trans ((at_gla m c t (y 0) (y 1)).trans (congrArg _ ?_))
  blk_point [places t]

theorem result_conv (c : Dev nD) : (Gen.dats m 0 c).arrAt 6 (cfgs 0).N = conv m c := by
  refine (Gen.dats m 0 c).arrAt_eq_of_covers 6 _ (by decide +kernel) fun t hf y => ?_
  blk_simp
  rw [after0_6]; frame_out
  refine (tile_conv _ _ _ _).trans ((at_conv m c t (y 0) (y 1)).trans (congrArg _ ?_))
  blk_point [places t]

theorem result_att (c : Dev nD) : (Gen.dats m 0 c).arrAt 7 (cfgs 0).N = att m c := by
  refine (Gen.dats m 0 c).arrAt_eq_of_covers 7 _ (by decide +kernel) fun t hf y => ?_
  blk_simp
  rw [after0_7]; frame_out
  refine (tile_att _ _ _ _).trans ((at_att m c t (y 0) (y 1)).trans (congrArg _ ?_))
  blk_point [places t]

theorem result_xn (c : Dev nD) : (Gen.dats m 0 c).arrAt 8 (cfgs 0).N = xn m c := by
  refine (Gen.dats m 0 c).arrAt_eq_of_covers 8 _ (by decide +kernel) fun t hf y => ?_
  blk_simp
  rw [after0_8]; frame_out
  refine (tile_nrm _ _ _).trans ((at_xn m c t (y 0) (y 1)).trans (congrArg _ ?_))
  blk_point [places t]

theorem kept (c : Dev nD) : V m c main_arg1 = m ((c : Thread nD τ).loc main_arg1) ∧ V m c main_arg2 = m ((c : Thread nD τ).loc main_arg2) := by
  constructor <;>
  · unfold V
    simp only [List.flatten_cons, List.flatten_nil, List.append_nil]
    after_reads_at

set_option maxHeartbeats 1600000 in
theorem same : Cert.algebraic_FanIdeal_FanRefIdeal := by
  pair_intro
  · run_from Cert.FanIdeal.Gen.run_main m g
    · exact (kept m c).1
    · exact (kept m c).2
  · run_from Cert.FanRefIdeal.Value.run m' g'
    · rw [result_gla]
      obtain ⟨h0, h1, h2⟩ := hagree c
      unfold Cert.FanRefIdeal.Value.res_main_v26
      rw [h0, h1, h2]
      funext i
      have hk : (i 1).val < 1408 := (i 1).isLt
      have z : (FloatOps.sitofp (F := Ideal) FTy.f32 (0#32 : BitVec 32) : EReal) = 0 := by
        simp [FloatOps.sitofp]
      pointwise [gla, pack]
      repeat' split
      all_goals first | omega | exact z | exact dot_col m c (i 0) (by omega)
    · rw [result_conv]
      funext i
      pointwise [conv, mid]
      exact dot_col m c (i 0) (by omega)
    · rw [result_att]
      funext i
      have hk : (i 1).val < 1152 := (i 1).isLt
      pointwise [att, last]
      rw [show m' (c.tc.loc FanRefIdeal.main_arg2) = m (c.tc.loc main_arg2) from (hagree c).2.2]
      repeat' split
      all_goals first | omega | exact dot_col m c (i 0) (by omega)
    · rw [result_xn]
      funext i
      pointwise [xn, nrm, Norm.scl, row, gain]

end Cert.FanIdeal.Fan
end
-- ==== Proof.MlpDown.lean ====
/- The squared-relu layer's second product, forward: the squares are formed tile by tile, the product is added up over
   two blocks of columns and then the residual is added. -/
module

public import proofs.«01_k».proof.Proof.Gen.MlpDownIdeal.Value
public import proofs.«01_k».proof.Proof.Gen.MlpDownRefIdeal.Run
public import proofs.«01_k».proof.Proof.Gen.MlpDown.Frame
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.MlpDownIdeal.MlpDown

open Cert.MlpDownIdeal Cert.MlpDownIdeal.Gen
open Idealize.ShloMosaic Idealize.ShloMosaic.TcCoe Idealize.SL.Sem
open Idealize.ShloMosaic.Pipeline (Dat)

/-- One block of columns: squared positive parts times the weights. -/
def part (u : FVec Ideal S1024x2048 .bf16) (w : FVec Ideal S2048x1024 .bf16) : S1024x1024.Idx → EReal := fun j =>
  ∑ k : Fin 2048, max (u (ix2 (j 0) k)) 0 * max (u (ix2 (j 0) k)) 0 * w (ix2 k (j 1))

theorem tile_prod (u : FVec Ideal S1024x2048 .bf16) (w : FVec Ideal S2048x1024 .bf16) (j : S1024x1024.Idx) :
    k0_pay2 (F := Ideal) u w j = part u w j := by
  pointwise [k0_pay2, k0_pay1, part]

theorem tile_add (u : FVec Ideal S1024x2048 .bf16) (w : FVec Ideal S2048x1024 .bf16) (A : FVec Ideal S1024x1024 .f32)
    (j : S1024x1024.Idx) : k0_pay3 (F := Ideal) u w A j = A j + part u w j := by
  pointwise [k0_pay3, k0_pay1, part]

theorem tile_out (A r : FVec Ideal S1024x1024 .f32) (j : S1024x1024.Idx) : k0_pay4 (F := Ideal) A r j
    = A (ix2 (j 0) (j 1)) + r (ix2 (j 0) (j 1)) := by
  pointwise [k0_pay4]

theorem places : ∀ t : Fin cfg0.N, win0_0.index t = ![t.val / 2, t.val % 2] ∧ win0_1.index t = ![t.val % 2, 0]
    ∧ win0_2.index t = ![t.val / 2, 0] ∧ win0_3.index t = ![t.val / 2, 0] ∧ t.val < 8 :=
  (by decide +kernel : ∀ t : Fin grid0.N, _)

variable (m : (ℓ : Loc nD τ sig) → Buf (Elt Ideal) ℓ)

/-- The product at one entry. -/
def prod (u : FVec Ideal S4096x4096 .f32) (w : FVec Ideal S4096x1024 .f32) (a : Fin 4096) (b : Fin 1024) : EReal :=
  ∑ k : Fin 4096, max (u (ix2 a k)) 0 * max (u (ix2 a k)) 0 * w (ix2 k b)

/-- The product plus the residual. -/
def out (u : FVec Ideal S4096x4096 .f32) (w r : FVec Ideal S4096x1024 .f32) : FVec Ideal S4096x1024 .f32 := fun i =>
  prod u w (i 0) (i 1) + r (ix2 (i 0) (i 1))

theorem carried (c : Dev nD) (t : Fin cfg0.N) (ht : t.val % 2 = 1) (a b : Fin 1024) :
    (outsAt0 m c t.val t.isLt).2 (ix2 a b) = prod (m ((c : Thread nD τ).loc main_arg0)) (m ((c : Thread nD τ).loc main_arg1))
      ⟨t.val / 2 * 1024 + a.val, by have h : t.val < 8 := t.isLt; omega⟩ b := by
  rw [Pipeline.eq_sum_fin_of_reset_step_apply_of_flush (fun n h => (outsAt0 m c n h).2) 2 (fun _ => 0)
    (fun t j => part (iblk m c 0 t) (iblk m c 1 t) j)
    (fun t h j => by
      rw [outsAt0_A m c t h (by omega) (by omega)]; frame_out; rw [tile_prod, zero_add])
    (fun t h j => by
      have ht : t.val < 8 := t.isLt
      rw [outsAt0_B m c t (by omega) (by omega) (by omega)]; frame_out; rw [tile_add, (Memref.isWhole_whole _).read_unread]) t ht, zero_add]
  unfold prod part
  refine Fin.sum_mul_add_congr fun p k hl => ?_
  have hd : (2 * (t.val / 2) + p.val) / 2 = t.val / 2 := by omega
  have hm : (2 * (t.val / 2) + p.val) % 2 = p.val := by omega
  have h := places ⟨2 * (t.val / 2) + p.val, by have h : t.val < 8 := t.isLt; show _ < 8; omega⟩
  simp only [hd, hm] at h
  congr 1
  · congr 1 <;> refine congrArg (max · 0) ?_ <;> blk_point [iblk, V, h]
  · blk_point [iblk, V, h]

/-- The point that ends a run adds the residual to what it stores in the scratch. -/
theorem carried_B (c : Dev nD) (t : Fin cfg0.N) (h1 : t.val % 2 = 1) (A : FVec Ideal S1024x1024 .f32)
    (hA : A = (outsAt0 m c (t.val - 1) (Nat.lt_of_le_of_lt (Nat.sub_le _ _) t.isLt)).2) (a b : Fin 1024) :
    k0_pay3 (F := Ideal) (iblk m c 0 t) (iblk m c 1 t) A (ix2 a b) + iblk m c 2 t (ix2 a b)
      = out (m ((c : Thread nD τ).loc main_arg0)) (m ((c : Thread nD τ).loc main_arg1)) (m ((c : Thread nD τ).loc main_arg2))
          (ix2 ⟨t.val / 2 * 1024 + a.val, by have h : t.val < 8 := t.isLt; omega⟩ b) := by
  refine congrArg₂ (fun x y : EReal => x + y) (Eq.trans ?_ (carried m c t h1 a b)) ?_
  · rw [outsAt0_B m c t (by omega) h1 h1, hA]
    frame_out
    rw [(Memref.isWhole_whole _).read_unread]
  · blk_point [iblk, V, places t]

theorem result (c : Dev nD) : (Gen.dats m 0 c).arrAt 3 (cfgs 0).N
    = out (m ((c : Thread nD τ).loc main_arg0)) (m ((c : Thread nD τ).loc main_arg1)) (m ((c : Thread nD τ).loc main_arg2)) := by
  refine (Gen.dats m 0 c).arrAt_eq_of_covers 3 _ (by decide +kernel) fun t hf y => ?_
  have h1 : t.val % 2 = 1 := (flush0_3 t).mp hf
  blk_simp
  rw [after0_3, outsAt0_B m c t (by omega) h1 h1]
  frame_out
  rw [(Memref.isWhole_whole _).read_unread]
  refine (tile_out _ _ _).trans ((carried_B m c t h1 _ rfl (y 0) (y 1)).trans (congrArg _ ?_))
  blk_point [places t]

theorem same : Cert.algebraic_MlpDownIdeal_MlpDownRefIdeal := by
  pair_intro
  · run_from Cert.MlpDownIdeal.Gen.run_main m g
  · run_from Cert.MlpDownRefIdeal.Value.run m' g'
    rw [result]
    funext i
    pointwise [out, prod]
    exact add_comm _ _

end Cert.MlpDownIdeal.MlpDown
end
-- ==== Proof.MlpUp.lean ====
/- The norm and the first product of the squared-relu layer, forward. -/
module

public import proofs.«01_k».proof.Proof.Gen.MlpUpIdeal.Value
public import proofs.«01_k».proof.Proof.Gen.MlpUpRefIdeal.Run
public import proofs.«01_k».proof.Proof.Gen.MlpUp.Frame
public import proofs.«01_k».proof.Proof.Norm
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.MlpUpIdeal.MlpUp

open Cert.MlpUpIdeal Cert.MlpUpIdeal.Gen
open Idealize.ShloMosaic Idealize.ShloMosaic.TcCoe Idealize.SL.Sem
open Idealize.ShloMosaic.Pipeline (Dat)

/-- A normed row at a column. -/
def nrm (x g : Fin 1024 → EReal) (k : Fin 1024) : EReal := x k * Norm.scl x * g k

theorem tile_nrm (x : FVec Ideal S1024x1024 .f32) (g : FVec Ideal S1x1024 .f32) (j : S1024x1024.Idx) :
    k0_pay2 (F := Ideal) x g j = nrm (fun k => x (ix2 (j 0) k)) (fun k => g (ix2 0 k)) (j 1) := by
  pointwise [k0_pay2, k0_pay1, nrm, Norm.scl]

theorem tile_prod (x : FVec Ideal S1024x1024 .f32) (g : FVec Ideal S1x1024 .f32) (w : FVec Ideal S1x1024x1024 .bf16) (j : S1024x1024.Idx) :
    k0_pay3 (F := Ideal) x g w j = ∑ k : Fin 1024, nrm (fun k => x (ix2 (j 0) k)) (fun k => g (ix2 0 k)) k * w (ix3 0 k (j 1)) := by
  pointwise [k0_pay3, k0_pay1, nrm, Norm.scl]

theorem places : ∀ t : Fin cfg0.N, win0_0.index t = ![t.val / 4, 0] ∧ win0_1.index t = ![t.val % 4, 0, 0]
    ∧ win0_2.index t = ![0, 0] ∧ win0_3.index t = ![t.val / 4, t.val % 4] ∧ win0_4.index t = ![t.val / 4, 0] ∧ t.val < 16 :=
  (by decide +kernel : ∀ t : Fin grid0.N, _)

variable (m : (ℓ : Loc nD τ sig) → Buf (Elt Ideal) ℓ)

abbrev row (c : Dev nD) (a : Fin 4096) : Fin 1024 → EReal := fun k => (m ((c : Thread nD τ).loc main_arg0) : FVec Ideal S4096x1024 .f32) (ix2 a k)
abbrev gain (c : Dev nD) : Fin 1024 → EReal := fun k => (m ((c : Thread nD τ).loc main_arg2) : FVec Ideal S1024 .f32) (ix1 k)

theorem blk_x (c : Dev nD) (t : Fin cfg0.N) (a k : Fin 1024) :
    (iblk m c 0 t (ix2 a k) : EReal) = row m c ⟨t.val / 4 * 1024 + a.val, by have h : t.val < 16 := t.isLt; omega⟩ k := by
  blk_point [iblk, V, places t]

theorem blk_g (c : Dev nD) (t : Fin cfg0.N) (k : Fin 1024) : (iblk m c 2 t (ix2 0 k) : EReal) = gain m c k := by
  blk_point [iblk, V, places t]

theorem blk_w (c : Dev nD) (t : Fin cfg0.N) (k b : Fin 1024) :
    (iblk m c 1 t (ix3 0 k b) : EReal) = (m ((c : Thread nD τ).loc main_arg1) : FVec Ideal S1024x4096 .f32)
      (ix2 k ⟨t.val % 4 * 1024 + b.val, by omega⟩) := by
  blk_point [iblk, V, places t]

/-- The normed rows. -/
def xn (c : Dev nD) : FVec Ideal S4096x1024 .bf16 := fun i => nrm (row m c (i 0)) (gain m c) (i 1)

/-- The normed rows times the weights. -/
def prod (c : Dev nD) : FVec Ideal S4096x4096 .bf16 := fun i =>
  ∑ k : Fin 1024, nrm (row m c (i 0)) (gain m c) k * (m ((c : Thread nD τ).loc main_arg1) : FVec Ideal S1024x4096 .f32) (ix2 k (i 1))

theorem at_xn (c : Dev nD) (t : Fin cfg0.N) (a b : Fin 1024) : nrm (fun k => iblk m c 0 t (ix2 a k)) (fun k => iblk m c 2 t (ix2 0 k)) b
    = xn m c (ix2 ⟨t.val / 4 * 1024 + a.val, by have h : t.val < 16 := t.isLt; omega⟩ b) := by
  simp only [blk_x, blk_g]
  rfl

theorem at_prod (c : Dev nD) (t : Fin cfg0.N) (a b : Fin 1024) :
    ∑ k : Fin 1024, nrm (fun k => iblk m c 0 t (ix2 a k)) (fun k => iblk m c 2 t (ix2 0 k)) k * iblk m c 1 t (ix3 0 k b)
      = prod m c (ix2 ⟨t.val / 4 * 1024 + a.val, by have h : t.val < 16 := t.isLt; omega⟩ ⟨t.val % 4 * 1024 + b.val, by omega⟩) := by
  simp only [blk_x, blk_g, blk_w]
  rfl

theorem result_nrm (c : Dev nD) : (Gen.dats m 0 c).arrAt 4 (cfgs 0).N = xn m c := by
  refine (Gen.dats m 0 c).arrAt_eq_of_covers 4 _ (by decide +kernel) fun t hf y => ?_
  blk_simp
  rw [after0_4]; frame_out
  refine (tile_nrm _ _ _).trans ((at_xn m c t (y 0) (y 1)).trans (congrArg _ ?_))
  blk_point [places t]

theorem result_u (c : Dev nD) : (Gen.dats m 0 c).arrAt 3 (cfgs 0).N = prod m c := by
  refine (Gen.dats m 0 c).arrAt_eq_of_covers 3 _ (by decide +kernel) fun t hf y => ?_
  blk_simp
  rw [after0_3]; frame_out
  refine (tile_prod _ _ _ _).trans ((at_prod m c t (y 0) (y 1)).trans (congrArg _ ?_))
  blk_point [places t]

set_option maxHeartbeats 1600000 in
theorem same : Cert.algebraic_MlpUpIdeal_MlpUpRefIdeal := by
  pair_intro
  · run_from Cert.MlpUpIdeal.Gen.run_main m g
  · run_from Cert.MlpUpRefIdeal.Value.run m' g'
    · rw [result_u]
      funext i
      pointwise [prod, nrm, Norm.scl, row, gain]
    · rw [result_nrm]
      funext i
      pointwise [xn, nrm, Norm.scl, row, gain]

end Cert.MlpUpIdeal.MlpUp
end
-- ==== Proof.ConvTile.lean ====
/- One tile of the gated convolution, forward: 512 rows gated behind the 32 before them, 31 taps. -/
module

public import proofs.«01_k».proof.Proof.Gen.ConvIdeal.Value
public import proofs.«01_k».proof.Proof.DcRef
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ConvIdeal.Conv

open Cert.ConvIdeal Cert.ConvIdeal.Gen
open Idealize.ShloMosaic Idealize.ShloMosaic.TcCoe Idealize.SL.Sem
open Idealize.ShloMosaic.Pipeline (Dat)

open Cert.DcIdeal.Row (mean cen inv nrm)
open Cert.DcIdeal.Host (glu hp cv)

theorem places : ∀ t : Fin cfg0.N, win0_0.index t = ![t.val, 0] ∧ win0_1.index t = ![t.val * 16 - 1, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0] ∧ (grid0.coords t 0).val = t.val ∧ t.val < 8 :=
  (by decide +kernel : ∀ t : Fin grid0.N, _)

variable (m : (ℓ : Loc nD τ sig) → Buf (Elt Ideal) ℓ)

/-- The gate as the kernel computes it. -/
def gt (x z : EReal) : EReal := x * Ideal.div 1 (1 + Ideal.exp (0 - z))

/-- The gated rows a tile works on: the 32 rows before its own, zero before the first tile, and its own 512. -/
def buf (i : grid0.Coords) (u : FVec Ideal S512x512 .f32) (e : FVec Ideal S32x512 .f32) : FVec Ideal S544x256 .f32 := fun j =>
  let n : Fin 544 := j 0
  let k : Fin 256 := j 1
  if h : n.val < 32 then (if 0 < (i 0).val then gt (e (ix2 ⟨n.val, h⟩ ⟨k.val, by omega⟩)) (e (ix2 ⟨n.val, h⟩ ⟨256 + k.val, by omega⟩)) else 0)
  else gt (u (ix2 ⟨n.val - 32, by omega⟩ ⟨k.val, by omega⟩)) (u (ix2 ⟨n.val - 32, by omega⟩ ⟨256 + k.val, by omega⟩))

theorem scratch (i : grid0.Coords) (u : FVec Ideal S512x512 .f32) (e : FVec Ideal S32x512 .f32) :
    View.canon (Val := Elt Ideal) (e := .f32) [⟨Rect.unit (s := S544x256) ![32, 0] ![512, 256] inb_S544x256_S512x256_32_0, k0_pay3 (F := Ideal) u⟩,
      ⟨Rect.unit (s := S544x256) ![0, 0] ![32, 256] inb_S544x256_S32x256_0_0, k0_pay2 (F := Ideal) i e⟩] = buf i u e := by
  funext j
  have hi : (i 0).val < 8 := (i 0).isLt
  have hcover : ∃ p ∈ ([⟨Rect.unit (s := S544x256) ![32, 0] S512x256.size inb_S544x256_S512x256_32_0, k0_pay3 (F := Ideal) u⟩,
      ⟨Rect.unit (s := S544x256) ![0, 0] S32x256.size inb_S544x256_S32x256_0_0, k0_pay2 (F := Ideal) i e⟩] :
        List (View.Piece (Elt Ideal) S544x256 .f32)), j ∈ p.1.set := by
    have h0 : (j 0).val < 544 := (j 0).isLt
    have h1 : (j 1).val < 256 := (j 1).isLt
    by_cases h : (j 0).val < 32
    · refine ⟨_, List.mem_cons_of_mem _ (List.mem_singleton_self _), ?_⟩
      rw [Rect.mem_set_unit]
      intro a
      match a with
      | ⟨0, _⟩ => exact ⟨Nat.zero_le _, by show (j 0).val < 0 + 32; omega⟩
      | ⟨1, _⟩ => exact ⟨Nat.zero_le _, by show (j 1).val < 0 + 256; omega⟩
    · refine ⟨_, List.mem_cons_self, ?_⟩
      rw [Rect.mem_set_unit]
      intro a
      match a with
      | ⟨0, _⟩ => exact ⟨by show 32 ≤ (j 0).val; omega, by show (j 0).val < 32 + 512; omega⟩
      | ⟨1, _⟩ => exact ⟨Nat.zero_le _, by show (j 1).val < 0 + 256; omega⟩
  canon_tiles x h using hcover
  · simp only [buf]
    rw [dif_neg (by omega)]
    pointwise [k0_pay3, gt]
    blk_point []
  · simp only [buf]
    rw [dif_pos (by omega)]
    pointwise [k0_pay2, gt]
    have hb : BitVec.slt 0#32 (BitVec.ofNat 32 (i 0).val) = decide (0 < (i 0).val) := by
      generalize (i 0).val = n at hi
      interval_cases n <;> rfl
    simp only [Scalar.select, Scalar.cmpi, IntOp.cmpi, hb]
    by_cases h7 : 0 < (i 0).val
    · rw [if_pos (by simp [h7]), if_pos h7]
      blk_point []
    · rw [if_neg (by simp [h7]), if_neg h7]

/-- A sum of 31 terms in the order the taps are added. -/
theorem ladder (f : Fin 31 → EReal) : ∑ j, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  repeat rw [Fin.sum_univ_castSucc]
  rw [Fin.sum_univ_zero, zero_add]
  rfl

/-- The convolution of a tile's rows. -/
def taps (B : FVec Ideal S544x256 .f32) (w : FVec Ideal S32x256 .f32) (n : Fin 512) (b : Fin 256) : EReal :=
  ∑ j : Fin 31, w (ix2 ⟨j, by omega⟩ b) * B (ix2 ⟨n + 2 + j, by omega⟩ b)

set_option maxHeartbeats 3200000 in
theorem conv_eq (c : Dev nD) (t : Fin cfg0.N) (y : S512x256.Idx) : (outsAt0 m c t).2 y
    = taps (buf (grid0.coords t) (iblk m c 0 t) (iblk m c 1 t)) (iblk m c 2 t) (y 0) (y 1) := by
  unfold outsAt0
  frame_out
  simp only [View.readCov_eq_canon', scratch]
  generalize buf (grid0.coords t) (iblk m c 0 t) (iblk m c 1 t) = B
  canon_tiles x h
  all_goals
    open_payloads
    pointwise []
    simp only [taps, ladder]
    blk_point []

end Cert.ConvIdeal.Conv
end
-- ==== Proof.ConvAct.lean ====
/- One tile of the gated convolution through the layer norm and silu. -/
module

public import proofs.«01_k».proof.Proof.ConvTile
public import proofs.«01_k».proof.Proof.DcRef
public import Idealize.ShloMosaic.Lib.Pipeline.ValueKit
public import Idealize.ShloMosaic.Lib.Pointwise
public import Idealize.ShloMosaic.Lib.StableHlo.ReadAt

@[expose] public section

set_option maxRecDepth 16384

noncomputable section

namespace Cert.ConvIdeal.Conv

open Cert.ConvIdeal Cert.ConvIdeal.Gen
open Idealize.ShloMosaic Idealize.ShloMosaic.TcCoe Idealize.SL.Sem
open Idealize.ShloMosaic.Pipeline (Dat)

open Cert.DcIdeal.Row (mean cen inv nrm)
open Cert.DcIdeal.Host (glu hp cv)

variable (m : (ℓ : Loc nD τ sig) → Buf (Elt Ideal) ℓ)

/-- The normed row, scaled, shifted and through silu. -/
def act (x g l : Fin 256 → EReal) (k : Fin 256) : EReal :=
  (nrm x k * g k + l k) * Ideal.div 1 (1 + Ideal.exp (0 - (nrm x k * g k + l k)))

set_option maxHeartbeats 3200000 in
theorem act_eq (c : Dev nD) (t : Fin cfg0.N) (y : S512x256.Idx) : (outsAt0 m c t).1 y
    = act (fun k => taps (buf (grid0.coords t) (iblk m c 0 t) (iblk m c 1 t)) (iblk m c 2 t) (y 0) k + iblk m c 3 t (ix2 0 k))
      (fun k => iblk m c 4 t (ix2 0 k)) (fun k => iblk m c 5 t (ix2 0 k)) (y 1) := by
  unfold outsAt0
  frame_out
  simp only [View.readCov_eq_canon', scratch]
  generalize buf (grid0.coords t) (iblk m c 0 t) (iblk m c 1 t) = B
  canon_tiles x h
  all_goals
    simp only [k0_pay1, k0_pay18, k0_pay19, k0_pay27, k0_pay28, k0_pay29, k0_pay42, k0_pay43, k0_pay44, k0_pay45, k0_pay53, k0_pay54, k0_pay69,
      k0_pay70, k0_pay78, k0_pay79, k0_pay80, k0_pay93, k0_pay94, k0_pay95, k0_pay96, k0_pay104, k0_pay105, k0_pay106, k0_pay107]
    first
      | (generalize hC : k0_pay16 (F := Ideal) _ _ _ = C; rw [← hC]; rw [hC])
      | (generalize hC : k0_pay67 (F := Ideal) _ _ _ = C; rw [← hC]; rw [hC])
      | (generalize hC : k0_pay25 (F := Ideal) _ _ _ _ _ = C; rw [← hC]; rw [hC])
      | (generalize hC : k0_pay76 (F := Ideal) _ _ _ _ _ = C; rw [← hC]; rw [hC])
      | (generalize hC : k0_pay40 (F := Ideal) _ _ _ _ _ _ _ _ _ = C; rw [← hC]; rw [hC])
      | (generalize hC : k0_pay91 (F := Ideal) _ _ _ _ _ _ _ _ _ = C; rw [← hC]; rw [hC])
      | (generalize hC : k0_pay51 (F := Ideal) _ _ _ _ _ _ _ _ _ _ _ = C; rw [← hC]; rw [hC])
      | (generalize hC : k0_pay102 (F := Ideal) _ _ _ _ _ _ _ _ _ _ _ = C; rw [← hC]; rw [hC])
    have hT : ∀ n k, C (ix2 n k) = taps B (iblk m c 2 t) ⟨(y 0).val - (x 0).val + n.val, by omega⟩ k := by
      intro n k
      subst hC
      open_payloads
      pointwise []
      simp only [taps, ladder]
      blk_point []
    clear hC
    refine Eq.trans (b := act (fun k => C (ix2 (x 0) k) + iblk m c 3 t (ix2 0 k)) (fun k => iblk m c 4 t (ix2 0 k)) (fun k => iblk m c 5 t (ix2 0 k)) (x 1)) ?_ ?_
    · pointwise [act, nrm, Cert.DcIdeal.Row.inv, cen, mean]
    · have e0 : ∀ hh, (⟨(y 0).val - (x 0).val + (x 0).val, hh⟩ : Fin 512) = y 0 := fun _ => Fin.ext (by show (y 0).val - (x 0).val + (x 0).val = (y 0).val; omega)
      have e1 : (y 1 : Fin 256) = x 1 := Fin.ext h1
      rw [e1]
      exact congrArg (fun X => act X _ _ (x 1)) (funext fun k => congrArg (· + iblk m c 3 t (ix2 0 k))
        ((hT (x 0) k).trans (congrArg (fun n => taps B (iblk m c 2 t) n k) (e0 _))))

end Cert.ConvIdeal.Conv
end
-- ==== Proof.Conv.lean ====
/- The gated convolution, forward: the gate, 31 taps, layer norm and silu, in tiles of 512 rows that read 32 rows of the
   tile before. -/
module

public import proofs.«01_k».proof.Proof.ConvAct
public import proofs.«01_k».proof.Proof.Gen.ConvRefIdeal.Run
public import proofs.«01_k».proof.Proof.Gen.Conv.Frame
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.ConvIdeal.Conv

open Cert.ConvIdeal Cert.ConvIdeal.Gen
open Idealize.ShloMosaic Idealize.ShloMosaic.TcCoe Idealize.SL.Sem
open Idealize.ShloMosaic.Pipeline (Dat)

open Cert.DcIdeal.Row (mean cen inv nrm)
open Cert.DcIdeal.Host (glu hp cv)

variable (m : (ℓ : Loc nD τ sig) → Buf (Elt Ideal) ℓ)

section
variable (u : FVec Ideal S4096x512 .f32) (w : FVec Ideal S31x256 .f32) (b g l : FVec Ideal S256 .f32)

/-- The convolution of every row. -/
def convd : FVec Ideal S4096x256 .f32 := fun i =>
  let n : Fin 4096 := i 0
  cv u w n.val (i 1)

/-- The convolution through the norm and silu. -/
def acted : FVec Ideal S4096x256 .bf16 := fun i =>
  let n : Fin 4096 := i 0
  act (fun k => cv u w n.val k + b (ix1 k)) (fun k => g (ix1 k)) (fun k => l (ix1 k)) (i 1)
end

/-- The arguments by their places. -/
abbrev U (c : Dev nD) : FVec Ideal S4096x512 .f32 := m ((c : Thread nD τ).loc main_arg0)
abbrev W (c : Dev nD) : FVec Ideal S31x256 .f32 := m ((c : Thread nD τ).loc main_arg1)
abbrev B (c : Dev nD) : FVec Ideal S256 .f32 := m ((c : Thread nD τ).loc main_arg2)
abbrev G (c : Dev nD) : FVec Ideal S256 .f32 := m ((c : Thread nD τ).loc main_arg3)
abbrev L (c : Dev nD) : FVec Ideal S256 .f32 := m ((c : Thread nD τ).loc main_arg4)

/-- The row of the array that row `n` of tile `t` is. -/
abbrev at512 (t : Fin cfg0.N) (n : Fin 512) : Fin 4096 := ⟨t.val * 512 + n.val, by have h := (places t).2.2.2.2.2.2.2.2.2; omega⟩

/-- The padded weights agree with the weights on their first 31 rows. -/
theorem pad_at (c : Dev nD) (i : S32x256.Idx) (h : (i 0).val < 31) : (V m c main_v0 i : EReal) = W m c (ix2 ⟨(i 0).val, h⟩ (i 1)) := by
  unfold V
  simp only [List.flatten_cons, List.flatten_nil, List.append_nil]
  repeat after_reads_at
  refine (dif_pos h).trans ?_
  blk_point []

theorem blk_w (c : Dev nD) (t : Fin cfg0.N) (j : Fin 31) (b : Fin 256) : (iblk m c 2 t (ix2 ⟨j, by omega⟩ b) : EReal) = W m c (ix2 j b) := by
  refine Eq.trans (b := V m c main_v0 (ix2 ⟨j, by omega⟩ b)) ?_ (pad_at m c _ j.isLt)
  blk_point [iblk, places t]

theorem bias_at (c : Dev nD) (k : Fin 256) : (V m c main_v1 (ix2 0 k) : EReal) = B m c (ix1 k) := by
  unfold V
  simp only [List.flatten_cons, List.flatten_nil, List.append_nil]
  repeat after_reads_at

theorem scale_at (c : Dev nD) (k : Fin 256) : (V m c main_v2 (ix2 0 k) : EReal) = G m c (ix1 k) := by
  unfold V
  simp only [List.flatten_cons, List.flatten_nil, List.append_nil]
  repeat after_reads_at

theorem offset_at (c : Dev nD) (k : Fin 256) : (V m c main_v3 (ix2 0 k) : EReal) = L m c (ix1 k) := by
  unfold V
  simp only [List.flatten_cons, List.flatten_nil, List.append_nil]
  repeat after_reads_at

theorem blk_b (c : Dev nD) (t : Fin cfg0.N) (k : Fin 256) : (iblk m c 3 t (ix2 0 k) : EReal) = B m c (ix1 k) := by
  refine Eq.trans (b := V m c main_v1 (ix2 0 k)) ?_ (bias_at m c k)
  blk_point [iblk, places t]

theorem blk_g (c : Dev nD) (t : Fin cfg0.N) (k : Fin 256) : (iblk m c 4 t (ix2 0 k) : EReal) = G m c (ix1 k) := by
  refine Eq.trans (b := V m c main_v2 (ix2 0 k)) ?_ (scale_at m c k)
  blk_point [iblk, places t]

theorem blk_l (c : Dev nD) (t : Fin cfg0.N) (k : Fin 256) : (iblk m c 5 t (ix2 0 k) : EReal) = L m c (ix1 k) := by
  refine Eq.trans (b := V m c main_v3 (ix2 0 k)) ?_ (offset_at m c k)
  blk_point [iblk, places t]

theorem blk_u (c : Dev nD) (t : Fin cfg0.N) (n : Fin 512) (k : Fin 512) : (iblk m c 0 t (ix2 n k) : EReal) = U m c (ix2 (at512 t n) k) := by
  blk_point [iblk, V, places t]

theorem blk_h (c : Dev nD) (t : Fin cfg0.N) (ht : 0 < t.val) (n : Fin 32) (k : Fin 512) : (iblk m c 1 t (ix2 n k) : EReal)
    = U m c (ix2 ⟨t.val * 512 + n.val - 32, by have h := (places t).2.2.2.2.2.2.2.2.2; omega⟩ k) := by
  blk_point [iblk, V, places t]

theorem gt_glu (u : FVec Ideal S4096x512 .f32) (n : Fin 4096) (k : Fin 256) (x z : EReal)
    (hx : x = u (ix2 n ⟨k.val, by omega⟩)) (hz : z = u (ix2 n ⟨256 + k.val, by omega⟩)) : gt x z = glu u n k := by
  unfold gt glu
  rw [zero_sub, hx, hz]

theorem buf_eq (c : Dev nD) (t : Fin cfg0.N) (q : ℕ) (hq : q + 2 < 544) (k : Fin 256) :
    buf (grid0.coords t) (iblk m c 0 t) (iblk m c 1 t) (ix2 ⟨q + 2, hq⟩ k) = hp (U m c) (t.val * 512 + q) k := by
  have hp8 := (places t).2.2.2.2.2.2.2.2
  have h8 := hp8.2
  unfold buf hp
  by_cases h : q + 2 < 32
  · refine (dif_pos h).trans ?_
    rw [hp8.1]
    by_cases ht : 0 < t.val
    · rw [if_pos ht, dif_pos (by omega)]
      have e : ∀ h1 h2, (⟨t.val * 512 + (q + 2) - 32, h1⟩ : Fin 4096) = ⟨t.val * 512 + q - 30, h2⟩ := fun _ _ => Fin.ext (by show t.val * 512 + (q + 2) - 32 = t.val * 512 + q - 30; omega)
      exact gt_glu _ _ _ _ _ ((blk_h m c t ht _ _).trans (congrArg (fun n => U m c (ix2 n _)) (e _ _)))
        ((blk_h m c t ht _ _).trans (congrArg (fun n => U m c (ix2 n _)) (e _ _)))
    · rw [if_neg ht, dif_neg (by omega)]
  · refine (dif_neg h).trans ?_
    rw [dif_pos (by omega)]
    have e : ∀ h1 h2, (⟨t.val * 512 + (q + 2 - 32), h1⟩ : Fin 4096) = ⟨t.val * 512 + q - 30, h2⟩ := fun _ _ => Fin.ext (by show t.val * 512 + (q + 2 - 32) = t.val * 512 + q - 30; omega)
    exact gt_glu _ _ _ _ _ ((blk_u m c t _ _).trans (congrArg (fun n => U m c (ix2 n _)) (e _ _)))
      ((blk_u m c t _ _).trans (congrArg (fun n => U m c (ix2 n _)) (e _ _)))

theorem taps_eq (c : Dev nD) (t : Fin cfg0.N) (n : Fin 512) (b : Fin 256) :
    taps (buf (grid0.coords t) (iblk m c 0 t) (iblk m c 1 t)) (iblk m c 2 t) n b = cv (U m c) (W m c) (t.val * 512 + n.val) b := by
  unfold taps cv
  refine Finset.sum_congr rfl fun j _ => ?_
  have e : ∀ h1, (⟨n.val + 2 + j.val, h1⟩ : Fin 544) = ⟨(n.val + j.val) + 2, by omega⟩ := fun _ => Fin.ext (by show n.val + 2 + j.val = n.val + j.val + 2; omega)
  rw [blk_w, e, buf_eq, mul_comm, Nat.add_assoc]

theorem tile_conv (c : Dev nD) (t : Fin cfg0.N) (a : Fin 512) (b : Fin 256) :
    taps (buf (grid0.coords t) (iblk m c 0 t) (iblk m c 1 t)) (iblk m c 2 t) a b = convd (U m c) (W m c) (ix2 (at512 t a) b) := taps_eq m c t a b

theorem tile_act (c : Dev nD) (t : Fin cfg0.N) (a : Fin 512) (b : Fin 256) :
    act (fun k => taps (buf (grid0.coords t) (iblk m c 0 t) (iblk m c 1 t)) (iblk m c 2 t) a k + iblk m c 3 t (ix2 0 k))
      (fun k => iblk m c 4 t (ix2 0 k)) (fun k => iblk m c 5 t (ix2 0 k)) b
    = acted (U m c) (W m c) (B m c) (G m c) (L m c) (ix2 (at512 t a) b) := by
  simp only [taps_eq, blk_b, blk_g, blk_l]
  rfl

theorem result_act (c : Dev nD) : (Gen.dats m 0 c).arrAt 6 (cfgs 0).N = acted (U m c) (W m c) (B m c) (G m c) (L m c) := by
  refine (Gen.dats m 0 c).arrAt_eq_of_covers 6 _ (by decide +kernel) fun t hf y => ?_
  blk_simp
  rw [after0_6, act_eq]
  refine (tile_act m c t (y 0) (y 1)).trans (congrArg _ ?_)
  blk_point [places t]

theorem result_conv (c : Dev nD) : (Gen.dats m 0 c).arrAt 7 (cfgs 0).N = convd (U m c) (W m c) := by
  refine (Gen.dats m 0 c).arrAt_eq_of_covers 7 _ (by decide +kernel) fun t hf y => ?_
  blk_simp
  rw [after0_7, conv_eq]
  refine (tile_conv m c t (y 0) (y 1)).trans (congrArg _ ?_)
  blk_point [places t]

/-- A sum against the indicator of `n + j = s` picks one row. -/
theorem pick (f : Fin 4126 → EReal) (n : Fin 4096) (j : Fin 31) :
    (∑ s : Fin 4126, FloatOps.uitofp (F := Ideal) FTy.f32 (IntOp.cmpi CmpIPredicate.eq (IntOp.addi (BitVec.ofNat 32 n.val) (BitVec.ofNat 32 j.val))
        (BitVec.ofNat 32 s.val)) * f s) = f ⟨n.val + j.val, by omega⟩ := by
  have hn := n.isLt
  have hj := j.isLt
  have key : ∀ s : Fin 4126, FloatOps.uitofp (F := Ideal) FTy.f32 (IntOp.cmpi CmpIPredicate.eq (IntOp.addi (BitVec.ofNat 32 n.val) (BitVec.ofNat 32 j.val))
        (BitVec.ofNat 32 s.val)) * f s = if s = ⟨n.val + j.val, by omega⟩ then f s else 0 := by
    intro s
    have hs := s.isLt
    have he : (BitVec.ofNat 32 n.val + BitVec.ofNat 32 j.val = BitVec.ofNat 32 s.val) ↔ s.val = n.val + j.val := by
      rw [← BitVec.toNat_inj]
      simp only [BitVec.toNat_add, BitVec.toNat_ofNat]
      omega
    by_cases h : s.val = n.val + j.val
    · rw [if_pos (Fin.ext h)]
      simp [IntOp.cmpi, IntOp.addi, he.2 h, FloatOps.uitofp]
    · rw [if_neg fun e => h (congrArg Fin.val e)]
      simp [IntOp.cmpi, IntOp.addi, mt he.1 h, FloatOps.uitofp]
  rw [Finset.sum_congr rfl fun s _ => key s, Finset.sum_ite_eq' Finset.univ _ f, if_pos (Finset.mem_univ _)]

/-- The reference's sum of taps, zero before the first row. -/
theorem sum_eq (u : FVec Ideal S4096x512 .f32) (w : FVec Ideal S31x256 .f32) (n : Fin 4096) (k : Fin 256) :
    (∑ x : Fin 31, (if h : n.val + x.val < 30 then 0 else u (ix2 ⟨n.val + x.val - 30, by omega⟩ ⟨k.val, by omega⟩) *
      Ideal.div 1 (1 + Ideal.exp (-(u (ix2 ⟨n.val + x.val - 30, by omega⟩ ⟨256 + k.val, by omega⟩))))) * w (ix2 x k)) = cv u w n.val k :=
  Finset.sum_congr rfl fun x _ => congrArg (· * w (ix2 x k)) (Cert.DcIdeal.Host.pad_if u _ k (by omega))

set_option maxHeartbeats 1600000 in
theorem same : Cert.algebraic_ConvIdeal_ConvRefIdeal := by
  pair_intro
  · run_from Cert.ConvIdeal.Gen.run_main m g
    all_goals
      simp only [List.flatten_cons, List.flatten_nil, List.append_nil]
      repeat after_reads_at
  · run_from Cert.ConvRefIdeal.Value.run m' g'
    · rw [result_act]
      funext i
      unfold Cert.ConvRefIdeal.Value.res_main_v50
      rw [(hagree c).1, (hagree c).2.1, (hagree c).2.2.1, (hagree c).2.2.2.1, (hagree c).2.2.2.2]
      pointwise [pick]
      have hs := fun k => sum_eq (U m c) (W m c) (i 0) k
      dsimp only [U, W] at hs
      simp only [hs]
      refine (congrArg (fun z : EReal =>
        ((z + B m c (ix1 (i 1)) - mean fun k => cv (U m c) (W m c) (i 0).val k + B m c (ix1 k))
            * Cert.DcIdeal.Row.inv (fun k => cv (U m c) (W m c) (i 0).val k + B m c (ix1 k)) * G m c (ix1 (i 1)) + L m c (ix1 (i 1)))
          * Ideal.div 1 (1 + Ideal.exp (-((z + B m c (ix1 (i 1)) - mean fun k => cv (U m c) (W m c) (i 0).val k + B m c (ix1 k))
            * Cert.DcIdeal.Row.inv (fun k => cv (U m c) (W m c) (i 0).val k + B m c (ix1 k)) * G m c (ix1 (i 1)) + L m c (ix1 (i 1))))))
        (sum_eq (U m c) (W m c) (i 0) (i 1))).trans ?_
      unfold acted act
      simp only [zero_sub]
      rfl
    · rw [result_conv]
      funext i
      pointwise [pick]
      exact sum_eq (U m c) (W m c) (i 0) (i 1)

end Cert.ConvIdeal.Conv
end
-- ==== Proof.DownDw.lean ====
/- The gradient of the squared-relu layer's second weights: the squares are formed tile by tile and the product is
   added up over four blocks of rows. -/
module

public import proofs.«01_k».proof.Proof.Gen.DownDwIdeal.Value
public import proofs.«01_k».proof.Proof.Gen.DownDwRefIdeal.Run
public import proofs.«01_k».proof.Proof.Gen.DownDw.Frame
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.DownDwIdeal.DownDw

open Cert.DownDwIdeal Cert.DownDwIdeal.Gen
open Idealize.ShloMosaic Idealize.ShloMosaic.TcCoe Idealize.SL.Sem
open Idealize.ShloMosaic.Pipeline (Dat)

/-- One block of rows: squared positive parts, turned, times the cotangents. -/
def part (u : FVec Ideal S1024x2048 .bf16) (d : FVec Ideal S1024x1024 .f32) : S2048x1024.Idx → EReal := fun j =>
  ∑ k : Fin 1024, max (u (ix2 k (j 0))) 0 * max (u (ix2 k (j 0))) 0 * d (ix2 k (j 1))

theorem tile_prod (u : FVec Ideal S1024x2048 .bf16) (d : FVec Ideal S1024x1024 .f32) (j : S2048x1024.Idx) :
    k0_pay2 (F := Ideal) u d j = part u d j := by
  pointwise [k0_pay2, k0_pay1, part]

theorem tile_add (u : FVec Ideal S1024x2048 .bf16) (d : FVec Ideal S1024x1024 .f32) (A : FVec Ideal S2048x1024 .f32)
    (j : S2048x1024.Idx) : k0_pay3 (F := Ideal) u d A j = A j + part u d j := by
  pointwise [k0_pay3, k0_pay1, part]

theorem tile_out (A : FVec Ideal S2048x1024 .f32) (j : S2048x1024.Idx) : k0_pay4 (F := Ideal) A j = A (ix2 (j 0) (j 1)) := by
  pointwise [k0_pay4]

theorem places : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

variable (m : (ℓ : Loc nD τ sig) → Buf (Elt Ideal) ℓ)

/-- The gradient at one entry. -/
def dw (u : FVec Ideal S4096x4096 .f32) (d : FVec Ideal S4096x1024 .f32) (a : Fin 4096) (b : Fin 1024) : EReal :=
  ∑ k : Fin 4096, max (u (ix2 k a)) 0 * max (u (ix2 k a)) 0 * d (ix2 k b)

def grad (u : FVec Ideal S4096x4096 .f32) (d : FVec Ideal S4096x1024 .f32) : FVec Ideal S4096x1024 .f32 := fun i =>
  dw u d (i 0) (i 1)

theorem carried (c : Dev nD) (t : Fin cfg0.N) (ht : t.val % 4 = 3) (a : Fin 2048) (b : Fin 1024) :
    (outsAt0 m c t.val t.isLt).2 (ix2 a b) = dw (m ((c : Thread nD τ).loc main_arg0)) (m ((c : Thread nD τ).loc main_arg2))
      ⟨t.val / 4 * 2048 + a.val, by have h : t.val < 8 := t.isLt; omega⟩ b := by
  rw [Pipeline.eq_sum_fin_of_reset_step_apply_of_flush (fun n h => (outsAt0 m c n h).2) 4 (fun _ => 0)
    (fun t j => part (iblk m c 0 t) (iblk m c 1 t) j)
    (fun t h j => by
      rw [outsAt0_A m c t h (by omega) (by omega)]; frame_out; rw [tile_prod, zero_add])
    (fun t h j => by
      have ht : t.val < 8 := t.isLt
      by_cases h3 : t.val % 4 = 3
      · rw [outsAt0_C m c t (by omega) (by omega) h3]; frame_out; rw [tile_add, (Memref.isWhole_whole _).read_unread]
      · rw [outsAt0_B m c t (by omega) (by omega) h3]; frame_out; rw [tile_add, (Memref.isWhole_whole _).read_unread]) t ht, zero_add]
  unfold dw part
  refine Fin.sum_mul_add_congr fun p k hl => ?_
  have hd : (4 * (t.val / 4) + p.val) / 4 = t.val / 4 := by omega
  have hm : (4 * (t.val / 4) + p.val) % 4 = p.val := by omega
  have h := places ⟨4 * (t.val / 4) + p.val, by have h : t.val < 8 := t.isLt; show _ < 8; omega⟩
  simp only [hd, hm] at h
  congr 1
  · congr 1 <;> refine congrArg (max · 0) ?_ <;> blk_point [iblk, V, h]
  · blk_point [iblk, V, h]

/-- The point that ends a run leaves in the scratch what it stores there. -/
theorem carried_C (c : Dev nD) (t : Fin cfg0.N) (h3 : t.val % 4 = 3) (A : FVec Ideal S2048x1024 .f32)
    (hA : A = (outsAt0 m c (t.val - 1) (Nat.lt_of_le_of_lt (Nat.sub_le _ _) t.isLt)).2) (a : Fin 2048) (b : Fin 1024) :
    k0_pay3 (F := Ideal) (iblk m c 0 t) (iblk m c 1 t) A (ix2 a b)
      = grad (m ((c : Thread nD τ).loc main_arg0)) (m ((c : Thread nD τ).loc main_arg2))
          (ix2 ⟨t.val / 4 * 2048 + a.val, by have h : t.val < 8 := t.isLt; omega⟩ b) := by
  refine Eq.trans ?_ (carried m c t h3 a b)
  rw [outsAt0_C m c t (by omega) (by omega) h3, hA]
  frame_out
  rw [(Memref.isWhole_whole _).read_unread]

theorem result (c : Dev nD) : (Gen.dats m 0 c).arrAt 2 (cfgs 0).N
    = grad (m ((c : Thread nD τ).loc main_arg0)) (m ((c : Thread nD τ).loc main_arg2)) := by
  refine (Gen.dats m 0 c).arrAt_eq_of_covers 2 _ (by decide +kernel) fun t hf y => ?_
  have h3 : t.val % 4 = 3 := (flush0_2 t).mp hf
  blk_simp
  rw [after0_2, outsAt0_C m c t (by omega) (by omega) h3]
  frame_out
  rw [(Memref.isWhole_whole _).read_unread]
  refine (tile_out _ _).trans ((carried_C m c t h3 _ rfl (y 0) (y 1)).trans (congrArg _ ?_))
  blk_point [places t]

theorem same : Cert.algebraic_DownDwIdeal_DownDwRefIdeal := by
  pair_intro
  · run_from Cert.DownDwIdeal.Gen.run_main m g
  · run_from Cert.DownDwRefIdeal.Value.run m' g'
    rw [result]
    funext i
    pointwise [grad, dw]
    exact Finset.sum_congr rfl fun _ _ => mul_comm _ _

end Cert.DownDwIdeal.DownDw
end
-- ==== Proof.GlaHost.lean ====
/- What the host hands the kernel: the padded arguments side by side, the mask of the heads and the triangle of the running sums. -/
module

public import proofs.«01_k».proof.Proof.Gen.GlaIdeal.Frame.Runs
public import Idealize.ShloMosaic.Lib.Pipeline.ValueKit
public import Idealize.ShloMosaic.Lib.Pointwise
public import Idealize.ShloMosaic.Lib.StableHlo.ReadAt
public import proofs.«01_k».proof.Proof.Lits

@[expose] public section

set_option maxRecDepth 16384

noncomputable section

namespace Cert.GlaIdeal.Host

open Cert.GlaIdeal Cert.GlaIdeal.Gen
open Idealize.ShloMosaic Idealize.ShloMosaic.TcCoe Idealize.SL.Sem

variable (m : (ℓ : Loc nD τ sig) → Buf (Elt Ideal) ℓ)

theorem bit (b : Bool) : (FloatOps.uitofp (F := Ideal) FTy.f32 (BitVec.ofBool b) : EReal) = if b = true then 1 else 0 := by
  cases b <;> simp [FloatOps.uitofp]

theorem nil : (FloatOps.sitofp (F := Ideal) FTy.f32 0#32 : EReal) = 0 := by
  simp [FloatOps.sitofp]

theorem low_bit (i j : Fin 64) : IntOp.cmpi CmpIPredicate.sge (BitVec.ofNat 32 i.val) (BitVec.ofNat 32 j.val) = BitVec.ofBool (decide (j.val ≤ i.val)) := by
  revert i j
  decide +kernel

set_option maxHeartbeats 4000000 in
theorem low_at (c : Dev nD) (i j : Fin 64) : (V m c main_v76 (ix2 i j) : EReal) = if j.val ≤ i.val then (1 : EReal) else (0 : EReal) := by
  unfold V
  simp only [List.flatten_cons, List.flatten_nil, List.append_nil]
  repeat after_reads_at
  refine (congrArg (FloatOps.uitofp (F := Ideal) FTy.f32) (low_bit i j)).trans ((bit _).trans ?_)
  simp only [decide_eq_true_eq]

/-- The head of a row of the state, and of a column, as the host counts them. -/
def hr (a : ℕ) : BitVec 32 := IntOp.addi (IntOp.addi (IntOp.addi (0#32) (BitVec.setWidth 32 (IntOp.cmpi CmpIPredicate.sge (BitVec.ofNat 32 a) 48#32)))
  (BitVec.setWidth 32 (IntOp.cmpi CmpIPredicate.sge (BitVec.ofNat 32 a) 96#32))) (BitVec.setWidth 32 (IntOp.cmpi CmpIPredicate.sge (BitVec.ofNat 32 a) 144#32))
def hc (b : ℕ) : BitVec 32 := IntOp.addi (IntOp.addi (IntOp.addi (0#32) (BitVec.setWidth 32 (IntOp.cmpi CmpIPredicate.sge (BitVec.ofNat 32 b) 96#32)))
  (BitVec.setWidth 32 (IntOp.cmpi CmpIPredicate.sge (BitVec.ofNat 32 b) 192#32))) (BitVec.setWidth 32 (IntOp.cmpi CmpIPredicate.sge (BitVec.ofNat 32 b) 288#32))

theorem hr_eq : ∀ a : Fin 256, hr a.val = BitVec.ofNat 32 (min (a.val / 48) 3) := by decide +kernel
theorem hc_eq : ∀ b : Fin 384, hc b.val = BitVec.ofNat 32 (b.val / 96) := by decide +kernel
theorem in_eq : ∀ a : Fin 256, IntOp.cmpi CmpIPredicate.slt (BitVec.ofNat 32 a.val) 192#32 = BitVec.ofBool (decide (a.val < 192)) := by decide +kernel
theorem eq_bit : ∀ p q : Fin 4, IntOp.cmpi CmpIPredicate.eq (BitVec.ofNat 32 p.val) (BitVec.ofNat 32 q.val) = BitVec.ofBool (decide (p.val = q.val)) := by decide +kernel

theorem mask_bit (a : Fin 256) (b : Fin 384) : IntOp.andi (IntOp.cmpi CmpIPredicate.eq (hr a.val) (hc b.val)) (IntOp.cmpi CmpIPredicate.slt (BitVec.ofNat 32 a.val) 192#32)
    = BitVec.ofBool (decide (a.val < 192 ∧ a.val / 48 = b.val / 96)) := by
  rw [hr_eq, hc_eq, in_eq, eq_bit ⟨min (a.val / 48) 3, by omega⟩ ⟨b.val / 96, by omega⟩]
  by_cases h : a.val < 192
  · by_cases h' : a.val / 48 = b.val / 96
    · rw [decide_eq_true (show min (a.val / 48) 3 = b.val / 96 by omega), decide_eq_true h, decide_eq_true ⟨h, h'⟩]
      rfl
    · rw [decide_eq_false (show ¬min (a.val / 48) 3 = b.val / 96 by omega), decide_eq_true h, decide_eq_false (show ¬(a.val < 192 ∧ a.val / 48 = b.val / 96) from fun q => h' q.2)]
      rfl
  · rw [decide_eq_false h, decide_eq_false (show ¬(a.val < 192 ∧ a.val / 48 = b.val / 96) from fun q => h q.1)]
    cases decide (min (a.val / 48) 3 = b.val / 96) <;> rfl

set_option maxHeartbeats 4000000 in
theorem mask_at (c : Dev nD) (a : Fin 256) (b : Fin 384) : (V m c main_v44 (ix2 a b) : EReal) = if a.val < 192 ∧ a.val / 48 = b.val / 96 then (1 : EReal) else (0 : EReal) := by
  unfold V
  simp only [List.flatten_cons, List.flatten_nil, List.append_nil]
  repeat after_reads_at
  refine (congrArg (FloatOps.uitofp (F := Ideal) FTy.f32) (mask_bit a b)).trans ((bit _).trans ?_)
  simp only [decide_eq_true_eq]

set_option maxHeartbeats 4000000 in
theorem bias_at (c : Dev nD) (a : Fin 192) : (V m c main_v6 (ix2 0 ⟨a.val, by omega⟩) : EReal) = (m ((c : Thread nD τ).loc main_arg6) : FVec Ideal S192 .f32) (ix1 a) := by
  unfold V
  simp only [List.flatten_cons, List.flatten_nil, List.append_nil]
  repeat after_reads_at

set_option maxHeartbeats 4000000 in
theorem w_at (c : Dev nD) (e : Fin 128) (a : Fin 192) : (V m c main_v4 (ix2 e ⟨a.val, by omega⟩) : EReal)
    = if h : e.val < 16 then ((m ((c : Thread nD τ).loc main_arg5) : FVec Ideal S16x192 .f32) (ix2 ⟨e.val, h⟩ a) : EReal) else (0 : EReal) := by
  unfold V
  simp only [List.flatten_cons, List.flatten_nil, List.append_nil]
  repeat after_reads_at
  exact dite_congr rfl (fun _ => rfl) fun _ => nil

set_option maxHeartbeats 4000000 in
theorem k_at (c : Dev nD) (n : Fin 4096) (a : Fin 192) : (V m c main_v3 (ix2 n ⟨256 + a.val, by omega⟩) : EReal)
    = (m ((c : Thread nD τ).loc main_arg1) : FVec Ideal S4096x192 .f32) (ix2 n a) := by
  unfold V
  simp only [List.flatten_cons, List.flatten_nil, List.append_nil]
  repeat after_reads_at
  exact dif_pos (by omega)

set_option maxHeartbeats 4000000 in
theorem v_at (c : Dev nD) (n : Fin 4096) (b : Fin 384) : (V m c main_v3 (ix2 n ⟨512 + b.val, by omega⟩) : EReal)
    = (m ((c : Thread nD τ).loc main_arg2) : FVec Ideal S4096x384 .f32) (ix2 n b) := by
  unfold V
  simp only [List.flatten_cons, List.flatten_nil, List.append_nil]
  repeat after_reads_at
  refine (dif_neg (by omega)).trans ((dif_neg (by omega)).trans ((dif_pos (by omega)).trans
    (congrArg (fun x => (m ((c : Thread nD τ).loc main_arg2) : FVec Ideal S4096x384 .f32) (ix2 n x)) (Fin.ext (by show 512 + b.val - 256 - 256 = b.val; omega)))))

set_option maxHeartbeats 4000000 in
theorem lr_at (c : Dev nD) (n : Fin 4096) (e : Fin 128) : (V m c main_v3 (ix2 n ⟨1280 + e.val, by omega⟩) : EReal)
    = if h : e.val < 16 then ((m ((c : Thread nD τ).loc main_arg4) : FVec Ideal S4096x16 .f32) (ix2 n ⟨e.val, h⟩) : EReal) else (0 : EReal) := by
  unfold V
  simp only [List.flatten_cons, List.flatten_nil, List.append_nil]
  repeat after_reads_at
  refine (dif_neg (by omega)).trans ((dif_neg (by omega)).trans ((dif_neg (by omega)).trans ((dif_neg (by omega)).trans ?_)))
  exact dite_congr (propext ⟨fun h => by omega, fun h => by omega⟩)
    (fun h => congrArg (fun x => (m ((c : Thread nD τ).loc main_arg4) : FVec Ideal S4096x16 .f32) (ix2 n x)) (Fin.ext (by show 1280 + e.val - 256 - 256 - 384 - 384 = e.val; omega))) fun _ => nil

end Cert.GlaIdeal.Host
end
-- ==== Proof.GlaStep.lean ====
/- The states one point of the kernel's grid stores: eight steps of the recurrence, each from the one before. -/
module

public import proofs.«01_k».proof.Proof.Gen.GlaIdeal.Frame.RunB
public import Idealize.ShloMosaic.Lib.Pipeline.ValueKit
public import Idealize.ShloMosaic.Lib.Pointwise

@[expose] public section

set_option maxRecDepth 65536

noncomputable section

namespace Cert.GlaIdeal.Step

open Cert.GlaIdeal Cert.GlaIdeal.Gen
open Idealize.ShloMosaic Idealize.ShloMosaic.TcCoe

variable {F : FTy → Type} [FloatOps F]

/-- One step of the recurrence, from the rows of one chunk of the decay's logarithm in its two parts. -/
def nxt (v9 : FVec F S64x384 .bf16) (H L : FVec F S64x256 .bf16) (prev : FVec F S256x384 .f32) (low : Vec F S64x64 .bf16) (kk : Vec F S64x256 .f32)
    (vv : Vec F S64x384 .f32) (mk : Vec F S256x384 .f32) : FVec F S256x384 .f32 :=
  have low' : FVec F S64x64 .bf16 := shapeCast S64x64 low shapeCasts_S64x64_S64x64
  have k' : FVec F S64x256 .f32 := shapeCast S64x256 kk shapeCasts_S64x256_S64x256
  have v' : FVec F S64x384 .f32 := shapeCast S64x384 vv shapeCasts_S64x384_S64x384
  have z : FVec F S64x256 .f32 := constant S64x256 .f32 0x00000000#32
  have ch : FVec F S64x256 .f32 := matmul dot_S64x64_S64x256_S64x256_1_0_0_1_n_n none low' H z
  have cl : FVec F S64x256 .f32 := matmul dot_S64x64_S64x256_S64x256_1_0_0_1_n_n none low' L z
  have cum : FVec F S64x256 .f32 := addf ch cl
  have last : FVec F S1x256 .f32 := extractStridedSlice S1x256 ![63, 0] cum slices_S64x256_o63_0_S1x256
  have full : FVec F S64x256 .f32 := broadcastTo S64x256 last broadcasts_S1x256_S64x256
  have w : FVec F S64x256 .f32 := exp (subf full cum)
  have zz : FVec F S256x384 .f32 := constant S256x384 .f32 0x00000000#32
  have ah : FVec F S256x384 .f32 := matmul dot_S64x256_S64x384_S256x384_0_0_1_1_n_n none H v9 zz
  have al : FVec F S256x384 .f32 := matmul dot_S64x256_S64x384_S256x384_0_0_1_1_n_n none L v9 zz
  have a : FVec F S256x384 .f32 := exp (addf ah al)
  have kd : FVec F S64x256 .bf16 := truncf .bf16 (mulf k' w) bitsLt_bf16_f32
  have vb : FVec F S64x384 .bf16 := truncf .bf16 v' bitsLt_bf16_f32
  have kv : FVec F S256x384 .f32 := matmul dot_S64x256_S64x384_S256x384_0_0_1_1_n_n none kd vb zz
  have mk' : FVec F S256x384 .f32 := shapeCast S256x384 mk shapeCasts_S256x384_S256x384
  addf (mulf a prev) (mulf kv mk')

theorem cut_in (r : Fin 8) : S512x256.Slices ![r.val * 64, 0] S64x256 := by
  match r with
  | ⟨0, _⟩ => exact slices_S512x256_o0_0_S64x256
  | ⟨1, _⟩ => exact slices_S512x256_o64_0_S64x256
  | ⟨2, _⟩ => exact slices_S512x256_o128_0_S64x256
  | ⟨3, _⟩ => exact slices_S512x256_o192_0_S64x256
  | ⟨4, _⟩ => exact slices_S512x256_o256_0_S64x256
  | ⟨5, _⟩ => exact slices_S512x256_o320_0_S64x256
  | ⟨6, _⟩ => exact slices_S512x256_o384_0_S64x256
  | ⟨7, _⟩ => exact slices_S512x256_o448_0_S64x256

theorem rows_in (r : Fin 8) (o n : ℕ) (h : o + n ≤ 1408) : ∀ a, (![r.val * 64, o] : Fin 2 → ℕ) a + (![64, n] : Fin 2 → ℕ) a ≤ S512x1408.size a := by
  have hr := r.isLt
  intro a
  match a with
  | ⟨0, _⟩ => show r.val * 64 + 64 ≤ 512; omega
  | ⟨1, _⟩ => show o + n ≤ 1408; omega

theorem st_in (r : Fin 8) : ∀ a, (![r.val, 0, 0] : Fin 3 → ℕ) a + S1x256x384.size a ≤ S8x256x384.size a := by
  have hr := r.isLt
  intro a
  match a with
  | ⟨0, _⟩ => show r.val + 1 ≤ 8; omega
  | ⟨1, _⟩ => show 0 + 256 ≤ 256; omega
  | ⟨2, _⟩ => show 0 + 384 ≤ 384; omega

variable (arg1 : Memref sig .tc .vmem S512x1408 .f32) (harg1 : arg1.IsWhole) (arg2 : Memref sig .tc .vmem S128x256 .f32) (harg2 : arg2.IsWhole)
  (arg3 : Memref sig .tc .vmem S1x256 .f32) (harg3 : arg3.IsWhole) (arg5 : Memref sig .tc .vmem S256x384 .f32) (harg5 : arg5.IsWhole)
  (arg7 : Memref sig .tc .vmem S64x64 .bf16) (harg7 : arg7.IsWhole)
  (x0 : Vec F S512x1408 .f32) (x1 : Vec F S128x256 .f32) (x2 : Vec F S1x256 .f32) (x4 : Vec F S256x384 .f32) (x6 : Vec F S64x64 .bf16)

abbrev lw : Vec F S128x256 .f32 := View.readAt (Elt F) arg2.view (Rect.unit (s := S128x256) ![0, 0] S128x256.size inb_S128x256_S128x256_0_0).toLoadRect (harg2.unread x1)
abbrev lbi : Vec F S1x256 .f32 := View.readAt (Elt F) arg3.view (Rect.unit (s := S1x256) ![0, 0] S1x256.size inb_S1x256_S1x256_0_0).toLoadRect (harg3.unread x2)
abbrev llr : Vec F S512x128 .f32 := View.readAt (Elt F) arg1.view (Rect.unit (s := S512x1408) ![0, 1280] S512x128.size inb_S512x1408_S512x128_0_1280).toLoadRect (harg1.unread x0)
abbrev lmk : Vec F S256x384 .f32 := View.readAt (Elt F) arg5.view (Rect.unit (s := S256x384) ![0, 0] S256x384.size inb_S256x384_S256x384_0_0).toLoadRect (harg5.unread x4)
abbrev llow : Vec F S64x64 .bf16 := View.readAt (Elt F) arg7.view (Rect.unit (s := S64x64) ![0, 0] S64x64.size inb_S64x64_S64x64_0_0).toLoadRect (harg7.unread x6)
abbrev lk (r : Fin 8) : Vec F S64x256 .f32 := View.readAt (Elt F) arg1.view (Rect.unit (s := S512x1408) ![r.val * 64, 256] S64x256.size (rows_in r 256 256 (by decide))).toLoadRect (harg1.unread x0)
abbrev lvv (r : Fin 8) : Vec F S64x384 .f32 := View.readAt (Elt F) arg1.view (Rect.unit (s := S512x1408) ![r.val * 64, 512] S64x384.size (rows_in r 512 384 (by decide))).toLoadRect (harg1.unread x0)

/-- The logarithm of the decay, before its sixteenth, of the point's 512 rows; its two parts. -/
abbrev lg : FVec F S512x256 .f32 := k0_pay4 (F := F) (lw arg2 harg2 x1) (lbi arg3 harg3 x2) (llr arg1 harg1 x0)
abbrev hi : FVec F S512x256 .bf16 := k0_pay6 (lg arg1 harg1 arg2 harg2 arg3 harg3 x0 x1 x2) (Scalar.ofBits .f32 0x3D800000#32)
abbrev lo : FVec F S512x256 .bf16 := k0_pay7 (lg arg1 harg1 arg2 harg2 arg3 harg3 x0 x1 x2) (Scalar.ofBits .f32 0x3D800000#32)

/-- The state after the point's first `n` chunks, from the state `s` before them. -/
def sts (s : FVec F S256x384 .f32) : (n : ℕ) → n ≤ 8 → FVec F S256x384 .f32
  | 0, _ => s
  | n + 1, hn => nxt (k0_pay3 (F := F))
      (extractStridedSlice S64x256 ![(⟨n, hn⟩ : Fin 8).val * 64, 0] (hi arg1 harg1 arg2 harg2 arg3 harg3 x0 x1 x2) (cut_in ⟨n, hn⟩))
      (extractStridedSlice S64x256 ![(⟨n, hn⟩ : Fin 8).val * 64, 0] (lo arg1 harg1 arg2 harg2 arg3 harg3 x0 x1 x2) (cut_in ⟨n, hn⟩))
      (sts s n (Nat.le_of_succ_le hn)) (llow arg7 harg7 x6) (lk arg1 harg1 x0 ⟨n, hn⟩) (lvv arg1 harg1 x0 ⟨n, hn⟩) (lmk arg5 harg5 x4)

/-- The stores of the states, the last first. -/
def stores (s : ℕ → FVec F S256x384 .f32) : (n : ℕ) → n ≤ 8 → List (View.Piece (Elt F) S8x256x384 EltTy.f32)
  | 0, _ => []
  | n + 1, hn => ⟨Rect.unit (s := S8x256x384) ![(⟨n, hn⟩ : Fin 8).val, 0, 0] S1x256x384.size (st_in ⟨n, hn⟩),
      shapeCast S1x256x384 (s (n + 1)) shapeCasts_S256x384_S1x256x384⟩ :: stores s n (Nat.le_of_succ_le hn)

abbrev all : Rect S256x384 := Rect.unit (s := S256x384) ![0, 0] S256x384.size inb_S256x384_S256x384_0_0

/-- `sts` at every `n`, beyond eight the eighth. -/
abbrev stsN (s : FVec F S256x384 .f32) (n : ℕ) : FVec F S256x384 .f32 :=
  if h : n ≤ 8 then sts arg1 harg1 arg2 harg2 arg3 harg3 arg5 harg5 arg7 harg7 x0 x1 x2 x4 x6 s n h else s

variable (c : Dev nD) (i : grid0.Coords) (arg4 : Memref sig .tc .vmem S1x384 .f32) (harg4 : arg4.IsWhole) (arg6 : Memref sig .tc .vmem S384x384 .bf16) (harg6 : arg6.IsWhole)
  (arg8 : Memref sig .tc .vmem S512x384 .bf16) (harg8 : arg8.IsWhole) (arg9 : Memref sig .tc .vmem S8x256x384 .f32) (harg9 : arg9.IsWhole)
  (arg10 : Memref sig .tc .vmem S256x384 .f32) (harg10 : arg10.IsWhole) (x3 : Vec F S1x384 .f32) (x5 : Vec F S384x384 .bf16) (xs0 : Vec F S256x384 .f32)

abbrev s0B : FVec F S256x384 .f32 := View.readAt (Elt F) arg10.view all.toLoadRect (harg10.unread xs0)
abbrev zs : List (View.Piece (Elt F) S256x384 EltTy.f32) := [⟨all, k0_pay1 (F := F)⟩]
abbrev s0A : FVec F S256x384 .f32 := arg10.view.readCov (zs (F := F)) all.toLoadRect

theorem scr_B (hc0 : ¬cond0_0 i) : (kernelRun0_B (F := F) c i arg1 harg1 arg2 harg2 arg3 harg3 arg4 harg4 arg5 harg5 arg6 harg6 arg7 harg7 arg8 harg8 arg9 harg9 arg10 harg10 hc0 x0 x1 x2 x3 x4 x5 x6 xs0).2.2.1
    = [⟨all, k0_pay40 (sts arg1 harg1 arg2 harg2 arg3 harg3 arg5 harg5 arg7 harg7 x0 x1 x2 x4 x6 (s0B arg10 harg10 xs0) 8 le_rfl)⟩] := rfl

theorem out_B (hc0 : ¬cond0_0 i) : (kernelRun0_B (F := F) c i arg1 harg1 arg2 harg2 arg3 harg3 arg4 harg4 arg5 harg5 arg6 harg6 arg7 harg7 arg8 harg8 arg9 harg9 arg10 harg10 hc0 x0 x1 x2 x3 x4 x5 x6 xs0).2.1
    = stores (stsN arg1 harg1 arg2 harg2 arg3 harg3 arg5 harg5 arg7 harg7 x0 x1 x2 x4 x6 (s0B arg10 harg10 xs0)) 8 le_rfl := rfl

theorem scr_A (hc0 : cond0_0 i) : (kernelRun0_A (F := F) c i arg1 harg1 arg2 harg2 arg3 harg3 arg4 harg4 arg5 harg5 arg6 harg6 arg7 harg7 arg8 harg8 arg9 harg9 arg10 harg10 hc0 x0 x1 x2 x3 x4 x5 x6).2.2.1
    = ⟨all, k0_pay40 (sts arg1 harg1 arg2 harg2 arg3 harg3 arg5 harg5 arg7 harg7 x0 x1 x2 x4 x6 (s0A arg10) 8 le_rfl)⟩ :: zs := rfl

theorem out_A (hc0 : cond0_0 i) : (kernelRun0_A (F := F) c i arg1 harg1 arg2 harg2 arg3 harg3 arg4 harg4 arg5 harg5 arg6 harg6 arg7 harg7 arg8 harg8 arg9 harg9 arg10 harg10 hc0 x0 x1 x2 x3 x4 x5 x6).2.1
    = stores (stsN arg1 harg1 arg2 harg2 arg3 harg3 arg5 harg5 arg7 harg7 x0 x1 x2 x4 x6 (s0A arg10)) 8 le_rfl := rfl

end Cert.GlaIdeal.Step
end
-- ==== Proof.GlaReal.lean ====
/- The gate and the sums of the recurrence over the extended reals: the kernel's forms are the reference's. -/
module

public import proofs.«01_k».proof.Proof.Lits
public import Idealize.ShloMosaic.Lib.IdealHost

@[expose] public section

noncomputable section

namespace Cert.GlaReal

open Idealize.ShloMosaic

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- The kernel's logarithm of the sigmoid. -/
def lsk (y : EReal) : EReal := min y 0 - Ideal.log (1 + Ideal.exp (0 - max y (-y)))

/-- The reference's. -/
def lsr (y : EReal) : EReal := -(if -y ≠ -y then -y else max (-y) 0 + Ideal.log1p (Ideal.exp (-(max (-y) (- -y)))))

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem log_real (r : ℝ) (h : 0 < r) : Ideal.log (r : EReal) = ((Real.log r : ℝ) : EReal) := by
  show (if r ≤ 0 then (⊥ : EReal) else ((Real.log r : ℝ) : EReal)) = _
  rw [if_neg (not_le.2 h)]

theorem ls_real (r : ℝ) : lsk (r : EReal) = ((min r 0 - Real.log (1 + Real.exp (-max r (-r))) : ℝ) : EReal)
    ∧ lsr (r : EReal) = ((min r 0 - Real.log (1 + Real.exp (-max r (-r))) : ℝ) : EReal) := by
  have hp : (0 : ℝ) < 1 + Real.exp (-max r (-r)) := by positivity
  have e1 : max (r : EReal) (-(r : EReal)) = ((max r (-r) : ℝ) : EReal) := by
    rw [← EReal.coe_neg, ← coe_max]
  have e2 : Ideal.exp (((-max r (-r) : ℝ)) : EReal) = ((Real.exp (-max r (-r)) : ℝ) : EReal) := rfl
  constructor
  · unfold lsk
    rw [e1, zero_sub, ← EReal.coe_neg, e2, ← EReal.coe_one, ← EReal.coe_add, log_real _ hp, ← EReal.coe_zero, ← coe_min, ← EReal.coe_sub]
  · unfold lsr
    rw [if_neg (by simp), neg_neg, max_comm (-(r : EReal)) (r : EReal), e1, ← EReal.coe_neg (max r (-r)), e2]
    unfold Ideal.log1p
    rw [← EReal.coe_one, ← EReal.coe_add, log_real _ hp, ← EReal.coe_zero, ← EReal.coe_neg, ← coe_max, ← EReal.coe_add, ← EReal.coe_neg]
    congr 1
    rcases le_total r 0 with h | h
    · rw [min_eq_left h, max_eq_left (by linarith : (0 : ℝ) ≤ -r)]; ring
    · rw [min_eq_right h, max_eq_right (by linarith : -r ≤ (0 : ℝ))]; ring

theorem log_one : Ideal.log (1 : EReal) = 0 := by
  have := log_real 1 one_pos
  simpa using this

theorem exp_bot : Ideal.exp (⊥ : EReal) = 0 := rfl

/-- The two forms agree, and are never the positive infinity. -/
theorem ls_eq (y : EReal) : lsk y = lsr y ∧ lsk y ≠ ⊤ := by
  induction y using EReal.rec with
  | bot =>
    have h1 : lsk ⊥ = ⊥ := by
      unfold lsk
      simp [exp_bot, log_one]
    have h2 : lsr ⊥ = ⊥ := by
      unfold lsr Ideal.log1p
      simp [exp_bot, log_one]
    rw [h1, h2]
    exact ⟨rfl, by simp⟩
  | coe r =>
    rw [(ls_real r).1, (ls_real r).2]
    exact ⟨rfl, EReal.coe_ne_top _⟩
  | top =>
    have h1 : lsk ⊤ = 0 := by
      unfold lsk
      simp [exp_bot, log_one]
    have h2 : lsr ⊤ = 0 := by
      unfold lsr Ideal.log1p
      simp [exp_bot, log_one]
    rw [h1, h2]
    exact ⟨rfl, by simp⟩

/-- A sixteenth, multiplied or divided. -/
theorem sixteenth_eq (y : EReal) : y * Ideal.ofBits .f32 0x3D800000#32 = Ideal.div y (Ideal.ofBits .f32 0x41800000#32) := by
  rw [sixteen, sixteenth]
  unfold Ideal.div
  rw [if_neg (by simp)]
  congr 1
  rw [← EReal.coe_inv]
  norm_num

theorem sixteenth_ne (y : EReal) (h : y ≠ ⊤) : y * Ideal.ofBits .f32 0x3D800000#32 ≠ ⊤ := by
  rw [sixteenth]
  induction y using EReal.rec with
  | bot => rw [EReal.bot_mul_coe_of_pos (by norm_num)]; simp
  | coe r => rw [← EReal.coe_mul]; exact EReal.coe_ne_top _
  | top => exact absurd rfl h

/-- What is left of a number after its own value adds nothing to it. -/
theorem rest_eq (x : EReal) (h : x ≠ ⊤) : x + (x - x) = x := by
  induction x using EReal.rec with
  | bot => simp
  | coe r => rw [← EReal.coe_sub, sub_self, EReal.coe_zero, add_zero]
  | top => exact absurd rfl h

theorem sum_rest {n : ℕ} (x : Fin n → EReal) (h : ∀ e, x e ≠ ⊤) : (∑ e, x e * 1 + ∑ e, (x e - x e) * 1) = ∑ e, x e := by
  rw [← Finset.sum_add_distrib]
  exact Finset.sum_congr rfl fun e _ => by rw [mul_one, mul_one, rest_eq _ (h e)]

theorem sum_low (x : Fin 64 → EReal) (low : Fin 64 → EReal) (c : ℕ) (hl : ∀ e, low e = if e.val ≤ c then 1 else 0) (h : ∀ e, x e ≠ ⊤) :
    (∑ e, low e * x e + ∑ e, low e * (x e - x e)) = ∑ e : Fin 64, if e.val ≤ c then x e else 0 := by
  rw [← Finset.sum_add_distrib]
  refine Finset.sum_congr rfl fun e _ => ?_
  rw [hl e]
  by_cases he : e.val ≤ c
  · rw [if_pos he, if_pos he, one_mul, one_mul, rest_eq _ (h e)]
  · rw [if_neg he, if_neg he, zero_mul, zero_mul, add_zero]

/-- The product in three parts, on real numbers and padded with zeros. -/
theorem parts (l w : Fin 128 → EReal) (hl : ∀ e, ∃ r : ℝ, l e = r) (hw : ∀ e, ∃ r : ℝ, w e = r) :
    (∑ e, l e * w e + ∑ e, (l e - l e) * w e + ∑ e, l e * (w e - w e)) = ∑ e, l e * w e := by
  have z1 : ∀ e, (l e - l e) * w e = 0 := fun e => by
    obtain ⟨r, hr⟩ := hl e
    rw [hr, ← EReal.coe_sub, sub_self, EReal.coe_zero, zero_mul]
  have z2 : ∀ e, l e * (w e - w e) = 0 := fun e => by
    obtain ⟨r, hr⟩ := hw e
    rw [hr, ← EReal.coe_sub, sub_self, EReal.coe_zero, mul_zero]
  rw [Finset.sum_congr rfl fun e _ => z1 e, Finset.sum_congr rfl fun e _ => z2 e, Finset.sum_const_zero, add_zero, add_zero]

theorem pad_sum (f : Fin 128 → EReal) (h : ∀ e : Fin 128, 16 ≤ e.val → f e = 0) : ∑ e, f e = ∑ e : Fin 16, f ⟨e.val, by omega⟩ := by
  rw [show (∑ e, f e) = ∑ e : Fin (16 + 112), f e from rfl, Fin.sum_univ_add, Finset.sum_eq_zero (s := Finset.univ) (f := fun i : Fin 112 => f (Fin.natAdd 16 i)) (fun e _ => h _ (by show 16 ≤ 16 + e.val; omega)), add_zero]
  rfl

end Cert.GlaReal
end
-- ==== Proof.GlaSum.lean ====
/- The step of the recurrence entry by entry, and the sums it is made of. -/
module

public import proofs.«01_k».proof.Proof.GlaStep
public import proofs.«01_k».proof.Proof.GlaReal

@[expose] public section

set_option maxRecDepth 16384

noncomputable section

namespace Cert.GlaIdeal.Step

open Cert.GlaIdeal Cert.GlaIdeal.Gen Cert.GlaReal
open Idealize.ShloMosaic Idealize.ShloMosaic.TcCoe

theorem nxt_at (v9 : FVec Ideal S64x384 .bf16) (H L : FVec Ideal S64x256 .bf16) (prev : FVec Ideal S256x384 .f32) (low : Vec Ideal S64x64 .bf16) (kk : Vec Ideal S64x256 .f32)
    (vv : Vec Ideal S64x384 .f32) (mk : Vec Ideal S256x384 .f32) (a : Fin 256) (b : Fin 384) :
    (nxt v9 H L prev low kk vv mk (ix2 a b) : EReal)
      = Ideal.exp (∑ x, (H (ix2 x a) : EReal) * v9 (ix2 x b) + ∑ x, (L (ix2 x a) : EReal) * v9 (ix2 x b)) * prev (ix2 a b)
        + (∑ x, (kk (ix2 x a) : EReal) * Ideal.exp (∑ y, (low (ix2 63 y) : EReal) * H (ix2 y a) + ∑ y, (low (ix2 63 y) : EReal) * L (ix2 y a)
          - (∑ y, (low (ix2 x y) : EReal) * H (ix2 y a) + ∑ y, (low (ix2 x y) : EReal) * L (ix2 y a))) * vv (ix2 x b)) * mk (ix2 a b) := by
  pointwise [nxt]

/-- The kernel's logit: the product in three parts, and the offset. -/
def T3 (w : Vec Ideal S128x256 .f32) (bi : Vec Ideal S1x256 .f32) (lr : Vec Ideal S512x128 .f32) (a : Fin 512) (b : Fin 256) : EReal :=
  ∑ x, (lr (ix2 a x) : EReal) * w (ix2 x b) + ∑ x, ((lr (ix2 a x) : EReal) - lr (ix2 a x)) * w (ix2 x b)
    + ∑ x, (lr (ix2 a x) : EReal) * ((w (ix2 x b) : EReal) - w (ix2 x b)) + bi (ix2 0 b)

theorem lg_at (w : Vec Ideal S128x256 .f32) (bi : Vec Ideal S1x256 .f32) (lr : Vec Ideal S512x128 .f32) (a : Fin 512) (b : Fin 256) :
    (k0_pay4 (F := Ideal) w bi lr (ix2 a b) : EReal) = lsk (T3 w bi lr a b) := by
  pointwise [k0_pay4]
  rfl

theorem hi_at (lg : FVec Ideal S512x256 .f32) (s : Ideal .f32) (a : Fin 512) (b : Fin 256) :
    (k0_pay6 (F := Ideal) lg s (ix2 a b) : EReal) = (lg (ix2 a b) : EReal) * s := by
  pointwise [k0_pay6, k0_pay5]

theorem lo_at (lg : FVec Ideal S512x256 .f32) (s : Ideal .f32) (a : Fin 512) (b : Fin 256) :
    (k0_pay7 (F := Ideal) lg s (ix2 a b) : EReal) = (lg (ix2 a b) : EReal) * s - (lg (ix2 a b) : EReal) * s := by
  pointwise [k0_pay7, k0_pay6, k0_pay5]

theorem ones_at (y : S64x384.Idx) : (k0_pay3 (F := Ideal) y : EReal) = 1 := by
  pointwise [k0_pay3]

theorem zeros_at (y : S256x384.Idx) : (k0_pay1 (F := Ideal) y : EReal) = 0 := by
  pointwise [k0_pay1]

theorem keep_at (x : FVec Ideal S256x384 .f32) : k0_pay40 (F := Ideal) x = x := by
  funext y
  pointwise [k0_pay40]

/-- The sum of the rows of `G` down to row `c`. -/
def run (G : Fin 64 → EReal) (c : ℕ) : EReal := ∑ e : Fin 64, if e.val ≤ c then G e else 0

/-- A step whose two parts add up to `G`. -/
theorem nxt_eq (H L : FVec Ideal S64x256 .bf16) (prev : FVec Ideal S256x384 .f32) (low : Vec Ideal S64x64 .bf16) (kk : Vec Ideal S64x256 .f32)
    (vv : Vec Ideal S64x384 .f32) (mk : Vec Ideal S256x384 .f32) (a : Fin 256) (b : Fin 384) (G : Fin 64 → EReal) (hG : ∀ x, G x ≠ ⊤)
    (hH : ∀ x, (H (ix2 x a) : EReal) = G x) (hL : ∀ x, (L (ix2 x a) : EReal) = G x - G x)
    (hl : ∀ x y : Fin 64, (low (ix2 x y) : EReal) = if y.val ≤ x.val then 1 else 0) :
    (nxt (k0_pay3 (F := Ideal)) H L prev low kk vv mk (ix2 a b) : EReal)
      = Ideal.exp (∑ x, G x) * prev (ix2 a b)
        + (∑ x, (kk (ix2 x a) : EReal) * Ideal.exp (run G 63 - run G x.val) * vv (ix2 x b)) * mk (ix2 a b) := by
  have hr : ∀ x : Fin 64, (∑ y, (low (ix2 x y) : EReal) * H (ix2 y a) + ∑ y, (low (ix2 x y) : EReal) * L (ix2 y a)) = run G x.val := fun x => by
    rw [Finset.sum_congr rfl fun y _ => congrArg (fun z => (low (ix2 x y) : EReal) * z) (hH y), Finset.sum_congr rfl fun y _ => congrArg (fun z => (low (ix2 x y) : EReal) * z) (hL y)]
    exact sum_low G (fun y => low (ix2 x y)) x.val (hl x) hG
  rw [nxt_at]
  refine congrArg₂ (· + ·) (congrArg₂ (· * ·) (congrArg Ideal.exp ?_) rfl) (congrArg₂ (· * ·) (Finset.sum_congr rfl fun x _ => ?_) rfl)
  · rw [Finset.sum_congr rfl fun x _ => congrArg₂ (fun p q : EReal => p * q) (hH x) (ones_at (ix2 x b)), Finset.sum_congr rfl fun x _ => congrArg₂ (fun p q : EReal => p * q) (hL x) (ones_at (ix2 x b))]
    exact sum_rest G hG
  · rw [hr 63, hr x]
    rfl

end Cert.GlaIdeal.Step
end
-- ==== Proof.GlaPoint.lean ====
/- What one point of the kernel's grid stores, in closed form: the states after each of its eight chunks. -/
module

public import proofs.«01_k».proof.Proof.GlaSum
public import Idealize.ShloMosaic.Lib.WritesUnit

@[expose] public section

set_option maxRecDepth 16384

noncomputable section

namespace Cert.GlaIdeal.Step

open Cert.GlaIdeal Cert.GlaIdeal.Gen Cert.GlaReal
open Idealize.ShloMosaic Idealize.ShloMosaic.TcCoe

variable (arg1 : Memref sig .tc .vmem S512x1408 .f32) (harg1 : arg1.IsWhole) (arg2 : Memref sig .tc .vmem S128x256 .f32) (harg2 : arg2.IsWhole)
  (arg3 : Memref sig .tc .vmem S1x256 .f32) (harg3 : arg3.IsWhole) (arg5 : Memref sig .tc .vmem S256x384 .f32) (harg5 : arg5.IsWhole)
  (arg7 : Memref sig .tc .vmem S64x64 .bf16) (harg7 : arg7.IsWhole)
  (x0 : FVec Ideal S512x1408 .f32) (x1 : FVec Ideal S128x256 .f32) (x2 : FVec Ideal S1x256 .f32) (x4 : FVec Ideal S256x384 .f32) (x6 : FVec Ideal S64x64 .bf16)

theorem lw_eq : lw (F := Ideal) arg2 harg2 x1 = x1 := by
  funext y
  show arg2.view.read (Elt Ideal) (harg2.unread x1) _ = _
  rw [harg2.read_unread]
  refine congrArg x1 (funext fun a => Fin.ext ?_)
  match a with
  | ⟨0, _⟩ => show 0 + 1 * (y 0).val = (y 0).val; omega
  | ⟨1, _⟩ => show 0 + 1 * (y 1).val = (y 1).val; omega

theorem lbi_eq : lbi (F := Ideal) arg3 harg3 x2 = x2 := by
  funext y
  show arg3.view.read (Elt Ideal) (harg3.unread x2) _ = _
  rw [harg3.read_unread]
  refine congrArg x2 (funext fun a => Fin.ext ?_)
  match a with
  | ⟨0, _⟩ => show 0 + 1 * (y 0).val = (y 0).val; omega
  | ⟨1, _⟩ => show 0 + 1 * (y 1).val = (y 1).val; omega

theorem lmk_eq : lmk (F := Ideal) arg5 harg5 x4 = x4 := by
  funext y
  show arg5.view.read (Elt Ideal) (harg5.unread x4) _ = _
  rw [harg5.read_unread]
  refine congrArg x4 (funext fun a => Fin.ext ?_)
  match a with
  | ⟨0, _⟩ => show 0 + 1 * (y 0).val = (y 0).val; omega
  | ⟨1, _⟩ => show 0 + 1 * (y 1).val = (y 1).val; omega

theorem llow_eq : llow (F := Ideal) arg7 harg7 x6 = x6 := by
  funext y
  show arg7.view.read (Elt Ideal) (harg7.unread x6) _ = _
  rw [harg7.read_unread]
  refine congrArg x6 (funext fun a => Fin.ext ?_)
  match a with
  | ⟨0, _⟩ => show 0 + 1 * (y 0).val = (y 0).val; omega
  | ⟨1, _⟩ => show 0 + 1 * (y 1).val = (y 1).val; omega

theorem llr_at (q : Fin 512) (e : Fin 128) : llr (F := Ideal) arg1 harg1 x0 (ix2 q e) = x0 (ix2 q ⟨1280 + e.val, by omega⟩) := by
  show arg1.view.read (Elt Ideal) (harg1.unread x0) _ = _
  rw [harg1.read_unread]
  refine congrArg x0 (funext fun a => Fin.ext ?_)
  match a with
  | ⟨0, _⟩ => show 0 + 1 * q.val = q.val; omega
  | ⟨1, _⟩ => show 1280 + 1 * e.val = 1280 + e.val; omega

/-- The row of the block that row `x` of chunk `r` is. -/
abbrev row (r : Fin 8) (x : Fin 64) : Fin 512 := ⟨r.val * 64 + x.val, by omega⟩

theorem lk_at (r : Fin 8) (x : Fin 64) (a : Fin 256) : lk (F := Ideal) arg1 harg1 x0 r (ix2 x a) = x0 (ix2 (row r x) ⟨256 + a.val, by omega⟩) := by
  show arg1.view.read (Elt Ideal) (harg1.unread x0) _ = _
  rw [harg1.read_unread]
  refine congrArg x0 (funext fun q => Fin.ext ?_)
  match q with
  | ⟨0, _⟩ => show r.val * 64 + 1 * x.val = r.val * 64 + x.val; omega
  | ⟨1, _⟩ => show 256 + 1 * a.val = 256 + a.val; omega

theorem lvv_at (r : Fin 8) (x : Fin 64) (b : Fin 384) : lvv (F := Ideal) arg1 harg1 x0 r (ix2 x b) = x0 (ix2 (row r x) ⟨512 + b.val, by omega⟩) := by
  show arg1.view.read (Elt Ideal) (harg1.unread x0) _ = _
  rw [harg1.read_unread]
  refine congrArg x0 (funext fun q => Fin.ext ?_)
  match q with
  | ⟨0, _⟩ => show r.val * 64 + 1 * x.val = r.val * 64 + x.val; omega
  | ⟨1, _⟩ => show 512 + 1 * b.val = 512 + b.val; omega

/-- The logarithm of a row's decay. -/
def Gp (q : Fin 512) (a : Fin 256) : EReal :=
  lsk (T3 x1 x2 (fun y => x0 (ix2 (y 0) ⟨1280 + (y 1).val, by have h : (y 1).val < 128 := (y 1).isLt; omega⟩)) q a) * Ideal.ofBits .f32 0x3D800000#32

theorem Gp_ne (q : Fin 512) (a : Fin 256) : Gp x0 x1 x2 q a ≠ ⊤ := sixteenth_ne _ (ls_eq _).2

theorem lg_eq (q : Fin 512) (a : Fin 256) : (lg (F := Ideal) arg1 harg1 arg2 harg2 arg3 harg3 x0 x1 x2 (ix2 q a) : EReal)
    = lsk (T3 x1 x2 (fun y => x0 (ix2 (y 0) ⟨1280 + (y 1).val, by have h : (y 1).val < 128 := (y 1).isLt; omega⟩)) q a) := by
  have e : llr (F := Ideal) arg1 harg1 x0 = fun y => x0 (ix2 (y 0) ⟨1280 + (y 1).val, by have h : (y 1).val < 128 := (y 1).isLt; omega⟩) := by
    funext y
    have ey : y = ix2 (y 0) (y 1) := funext fun x => match x with | ⟨0, _⟩ => rfl | ⟨1, _⟩ => rfl
    rw [ey]
    exact llr_at arg1 harg1 x0 (y 0) (y 1)
  unfold lg
  rw [lg_at, lw_eq, lbi_eq, e]

theorem hi_eq (r : Fin 8) (x : Fin 64) (a : Fin 256) :
    (extractStridedSlice S64x256 ![r.val * 64, 0] (hi (F := Ideal) arg1 harg1 arg2 harg2 arg3 harg3 x0 x1 x2) (cut_in r) (ix2 x a) : EReal) = Gp x0 x1 x2 (row r x) a := by
  refine Eq.trans (b := (hi (F := Ideal) arg1 harg1 arg2 harg2 arg3 harg3 x0 x1 x2 (ix2 (row r x) a) : EReal)) ?_ ?_
  · refine congrArg (hi (F := Ideal) arg1 harg1 arg2 harg2 arg3 harg3 x0 x1 x2) (funext fun q => Fin.ext ?_)
    match q with
    | ⟨0, _⟩ => rfl
    | ⟨1, _⟩ => exact Nat.zero_add _
  · unfold hi
    rw [hi_at, lg_eq]
    rfl

theorem lo_eq (r : Fin 8) (x : Fin 64) (a : Fin 256) :
    (extractStridedSlice S64x256 ![r.val * 64, 0] (lo (F := Ideal) arg1 harg1 arg2 harg2 arg3 harg3 x0 x1 x2) (cut_in r) (ix2 x a) : EReal)
      = Gp x0 x1 x2 (row r x) a - Gp x0 x1 x2 (row r x) a := by
  refine Eq.trans (b := (lo (F := Ideal) arg1 harg1 arg2 harg2 arg3 harg3 x0 x1 x2 (ix2 (row r x) a) : EReal)) ?_ ?_
  · refine congrArg (lo (F := Ideal) arg1 harg1 arg2 harg2 arg3 harg3 x0 x1 x2) (funext fun q => Fin.ext ?_)
    match q with
    | ⟨0, _⟩ => rfl
    | ⟨1, _⟩ => exact Nat.zero_add _
  · unfold lo
    rw [lo_at, lg_eq]
    rfl

/-- One chunk's step. -/
theorem sts_succ (hl : ∀ x y : Fin 64, (x6 (ix2 x y) : EReal) = if y.val ≤ x.val then 1 else 0) (s : FVec Ideal S256x384 .f32) (n : ℕ) (hn : n + 1 ≤ 8) (a : Fin 256) (b : Fin 384) :
    (sts (F := Ideal) arg1 harg1 arg2 harg2 arg3 harg3 arg5 harg5 arg7 harg7 x0 x1 x2 x4 x6 s (n + 1) hn (ix2 a b) : EReal)
      = Ideal.exp (∑ x, Gp x0 x1 x2 (row ⟨n, hn⟩ x) a) * sts (F := Ideal) arg1 harg1 arg2 harg2 arg3 harg3 arg5 harg5 arg7 harg7 x0 x1 x2 x4 x6 s n (Nat.le_of_succ_le hn) (ix2 a b)
        + (∑ x, (x0 (ix2 (row ⟨n, hn⟩ x) ⟨256 + a.val, by omega⟩) : EReal)
            * Ideal.exp (run (fun x => Gp x0 x1 x2 (row ⟨n, hn⟩ x) a) 63 - run (fun x => Gp x0 x1 x2 (row ⟨n, hn⟩ x) a) x.val)
            * x0 (ix2 (row ⟨n, hn⟩ x) ⟨512 + b.val, by omega⟩)) * x4 (ix2 a b) := by
  refine (nxt_eq _ _ _ (llow (F := Ideal) arg7 harg7 x6) (lk (F := Ideal) arg1 harg1 x0 ⟨n, hn⟩) (lvv (F := Ideal) arg1 harg1 x0 ⟨n, hn⟩) (lmk (F := Ideal) arg5 harg5 x4) a b
    (fun x => Gp x0 x1 x2 (row ⟨n, hn⟩ x) a) (fun x => Gp_ne x0 x1 x2 _ a) (fun x => hi_eq arg1 harg1 arg2 harg2 arg3 harg3 x0 x1 x2 ⟨n, hn⟩ x a)
    (fun x => lo_eq arg1 harg1 arg2 harg2 arg3 harg3 x0 x1 x2 ⟨n, hn⟩ x a) (fun x y => ?_)).trans ?_
  · rw [llow_eq]
    exact hl x y
  · rw [lmk_eq]
    refine congrArg₂ (· + ·) rfl (congrArg₂ (· * ·) (Finset.sum_congr rfl fun x _ => ?_) rfl)
    rw [lk_at, lvv_at]

/-! ## The stores, read back -/

section
variable {sg : RefSig} {κ : Kind} {sp : Space}

theorem stores_at (v : View sg κ sp S8x256x384 .f32) (f : v.ty.Contents (Elt Ideal)) (s : ℕ → FVec Ideal S256x384 .f32) (r : Fin 8) (a : Fin 256) (b : Fin 384) :
    ∀ (n : ℕ) (hn : n ≤ 8) (hr : r.val < n),
    v.read (Elt Ideal) (v.writes (Elt Ideal) f (stores (F := Ideal) s n hn)) (ix3 r a b) = s (r.val + 1) (ix2 a b)
  | 0, _, hr => absurd hr (by omega)
  | n + 1, hn, hr => by
    by_cases h : r.val < n
    · refine (View.read_writes_cons_unit_of_not_mem v f (st_in ⟨n, hn⟩) _ _ (ix3 r a b) rfl (0 : Fin 3) ?_).trans (stores_at v f s r a b n _ h)
      show r.val < n ∨ n + 1 ≤ r.val
      omega
    · have e : r.val = n := by omega
      refine (View.read_writes_cons_unit_of_mem v f (st_in ⟨n, hn⟩) _ _ (ix3 r a b) (ix3 0 a b) rfl fun q => ?_).trans ?_
      · match q with
        | ⟨0, _⟩ => show r.val = n + 0; omega
        | ⟨1, _⟩ => exact (Nat.zero_add _).symm
        | ⟨2, _⟩ => exact (Nat.zero_add _).symm
      · rw [e]
        pointwise []

theorem all_idx (y : S256x384.Idx) : all.toLoadRect.idx y = y := by
  funext a
  apply Fin.ext
  match a with
  | ⟨0, _⟩ => show 0 + 1 * (y 0).val = (y 0).val; omega
  | ⟨1, _⟩ => show 0 + 1 * (y 1).val = (y 1).val; omega

theorem all_hit (v : View sg κ sp S256x384 .f32) (f : v.ty.Contents (Elt Ideal)) (w : FVec Ideal S256x384 .f32) (L : List (View.Piece (Elt Ideal) S256x384 EltTy.f32)) (y : S256x384.Idx) :
    v.read (Elt Ideal) (v.writes (Elt Ideal) f (⟨all, w⟩ :: L)) y = w y := by
  refine View.read_writes_cons_unit_of_mem v f inb_S256x384_S256x384_0_0 w L y y rfl fun a => ?_
  match a with
  | ⟨0, _⟩ => exact (Nat.zero_add _).symm
  | ⟨1, _⟩ => exact (Nat.zero_add _).symm
end

variable (arg10 : Memref sig .tc .vmem S256x384 .f32) (harg10 : arg10.IsWhole) (xs0 : FVec Ideal S256x384 .f32)

theorem s0B_eq : s0B (F := Ideal) arg10 harg10 xs0 = xs0 := by
  funext y
  show arg10.view.read (Elt Ideal) (harg10.unread xs0) (all.toLoadRect.idx y) = _
  rw [harg10.read_unread, all_idx]

theorem s0A_eq : s0A (F := Ideal) arg10 = fun _ => (0 : EReal) := by
  funext y
  show arg10.view.read (Elt Ideal) (arg10.view.writes (Elt Ideal) arg10.view.junk (zs (F := Ideal))) (all.toLoadRect.idx y) = _
  rw [all_idx]
  exact (all_hit arg10.view _ _ _ y).trans (zeros_at y)

end Cert.GlaIdeal.Step
end
-- ==== Proof.GlaRef.lean ====
/- The loop of the recurrence's reference: what it holds after each trip. -/
module

public import proofs.«01_k».proof.Proof.Gen.GlaRefIdeal.Run
public import proofs.«01_k».proof.Proof.Lits
public import Idealize.ShloMosaic.Lib.Pipeline.ValueKit
public import Idealize.ShloMosaic.Lib.Pointwise
public import Idealize.ShloMosaic.Lib.StableHlo.ReadAt

@[expose] public section

set_option maxRecDepth 16384

noncomputable section

namespace Cert.GlaRefIdeal.Loop

open Cert.GlaRefIdeal Cert.GlaRefIdeal.Gen Cert.GlaRefIdeal.Value
open Idealize.ShloMosaic Idealize.ShloMosaic.TcCoe Idealize.ShloMosaic.StableHlo Idealize.SL.Sem

theorem congrArg₃ {α β γ δ : Type} (f : α → β → γ → δ) {a a' : α} {b b' : β} {c c' : γ} (h : a = a') (h' : b = b') (h'' : c = c') :
    f a b c = f a' b' c' := by rw [h, h', h'']

theorem congrArg₄ {α β γ δ ε : Type} (f : α → β → γ → δ → ε) {a a' : α} {b b' : β} {c c' : γ} {d d' : δ} (h : a = a') (h' : b = b')
    (h'' : c = c') (h₃ : d = d') : f a b c d = f a' b' c' d' := by rw [h, h', h'', h₃]

/-- The state after the first `n` chunks. -/
def st (a : FVec Ideal S64x4x48 .f32) (kv : FVec Ideal S64x4x48x96 .f32) : ℕ → Fin 4 → Fin 48 → Fin 96 → EReal
  | 0 => fun _ _ _ => 0
  | n + 1 => fun h i j => a (ix3 ⟨n % 64, Nat.mod_lt _ (by decide)⟩ h i) * st a kv n h i j + kv (ix4 ⟨n % 64, Nat.mod_lt _ (by decide)⟩ h i j)

theorem clamp (n : ℕ) (h : n < 64) : (min (max ((BitVec.ofNat 32 n).toInt) 0) ((64 - 1 : ℕ) : ℤ)).toNat = n := by
  have : (BitVec.ofNat 32 n).toInt = n := by
    rw [BitVec.toInt_eq_toNat_of_lt (by rw [BitVec.toNat_ofNat]; omega), BitVec.toNat_ofNat]
    omega
  rw [this]
  omega

/-- The loop's buffers after `n` trips. -/
structure At (a : FVec Ideal S64x4x48 .f32) (kv : FVec Ideal S64x4x48x96 .f32) (n : ℕ) (V : Valuation τ sig (Elt Ideal)) : Prop where
  a_eq : V (Proc.devRef .tc main_v21_0) = a
  kv_eq : V (Proc.devRef .tc main_v21_1) = kv
  n_eq : V (Proc.devRef .tc main_v21_2) = fun _ => BitVec.ofNat 32 n
  s_eq : V (Proc.devRef .tc main_v21_3) = fun j : S4x48x96.Idx => (st a kv n (j 0) (j 1) (j 2) : EReal)
  o_eq : V (Proc.devRef .tc main_v21_4) = fun j : S64x4x48x96.Idx => (if (j 0).val < n then st a kv ((j 0).val + 1) (j 1) (j 2) (j 3) else 0 : EReal)

theorem next (a : FVec Ideal S64x4x48 .f32) (kv : FVec Ideal S64x4x48x96 .f32) (n : ℕ) (hn : n < 64) (V : Valuation τ sig (Elt Ideal))
    (h : At a kv n V) : res_main_while0b_v35 V = fun j : S4x48x96.Idx => (st a kv (n + 1) (j 0) (j 1) (j 2) : EReal) := by
  unfold res_main_while0b_v35
  rw [h.a_eq, h.kv_eq, h.n_eq, h.s_eq]
  funext j
  pointwise [st]
  have e : n % 64 = n := Nat.mod_eq_of_lt hn
  refine congrArg₂ (· + ·) (congrArg₂ (· * ·) (congrArg a ?_) rfl) (congrArg kv ?_)
  · refine congrArg₃ ix3 (Fin.ext ((clamp n hn).trans e.symm)) (Fin.ext ?_) (Fin.ext ?_)
    · exact Nat.zero_add _
    · exact Nat.zero_add _
  · refine congrArg₄ ix4 (Fin.ext ((clamp n hn).trans e.symm)) (Fin.ext ?_) (Fin.ext ?_) (Fin.ext ?_)
    · exact Nat.zero_add _
    · exact Nat.zero_add _
    · exact Nat.zero_add _

theorem step (a : FVec Ideal S64x4x48 .f32) (kv : FVec Ideal S64x4x48x96 .f32) (n : ℕ) (hn : n < 64) (V : Valuation τ sig (Elt Ideal))
    (h : At a kv n V) : At a kv (n + 1) (STEP V) where
  a_eq := (STEP_main_v21_0 V).trans h.a_eq
  kv_eq := (STEP_main_v21_1 V).trans h.kv_eq
  n_eq := by
    rw [STEP_main_v21_2]
    unfold step_main_v21_2
    rw [h.n_eq]
    funext j
    show BitVec.ofNat 32 n + 1#32 = BitVec.ofNat 32 (n + 1)
    rw [BitVec.ofNat_add]
  s_eq := by
    rw [STEP_main_v21_3]
    exact next a kv n hn V h
  o_eq := by
    rw [STEP_main_v21_4]
    unfold step_main_v21_4
    rw [next a kv n hn V h, h.n_eq, h.o_eq]
    funext j
    refine (Host.dynamicUpdateSlice_apply _ _ _ _ j).trans ?_
    by_cases hj : (j 0).val = n
    · have hin : ∀ a : Fin 4, Host.clampedStart S64x4x48x96 S1x4x48x96 rfl
          (fun k => BitVec.toInt ((![fun _ => BitVec.ofNat 32 n, constantI S_ 32 0#32, constantI S_ 32 0#32, constantI S_ 32 0#32] : Fin 4 → IVec S_ 32) k (Shape.Idx.first h_S_))) a ≤ (j a).val
          ∧ (j a).val < Host.clampedStart S64x4x48x96 S1x4x48x96 rfl
          (fun k => BitVec.toInt ((![fun _ => BitVec.ofNat 32 n, constantI S_ 32 0#32, constantI S_ 32 0#32, constantI S_ 32 0#32] : Fin 4 → IVec S_ 32) k (Shape.Idx.first h_S_))) a + S1x4x48x96.size a := by
        intro a
        match a with
        | ⟨0, _⟩ =>
          have e := clamp n hn
          constructor
          · exact (le_of_eq e).trans (le_of_eq hj.symm)
          · exact Nat.lt_add_one_iff.2 ((le_of_eq hj).trans (le_of_eq e.symm))
        | ⟨1, _⟩ => exact ⟨Nat.zero_le _, lt_of_lt_of_eq (j 1).isLt (Nat.zero_add 4).symm⟩
        | ⟨2, _⟩ => exact ⟨Nat.zero_le _, lt_of_lt_of_eq (j 2).isLt (Nat.zero_add 48).symm⟩
        | ⟨3, _⟩ => exact ⟨Nat.zero_le _, lt_of_lt_of_eq (j 3).isLt (Nat.zero_add 96).symm⟩
      refine (dif_pos hin).trans ?_
      rw [if_pos (by omega : (j 0).val < n + 1), hj]
      rfl
    · refine (dif_neg fun hin => hj ?_).trans ?_
      · have h0 := hin 0
        have e := clamp n hn
        have h1 := (le_of_eq e.symm).trans h0.1
        have h2 : (j 0).val < n + 1 := lt_of_lt_of_eq h0.2 (congrArg (· + 1) e)
        omega
      · by_cases hl : (j 0).val < n
        · rw [if_pos hl, if_pos (by omega)]
        · rw [if_neg hl, if_neg (by omega)]

theorem after (a : FVec Ideal S64x4x48 .f32) (kv : FVec Ideal S64x4x48x96 .f32) (V : Valuation τ sig (Elt Ideal))
    (h : At a kv 0 V) : ∀ n, n ≤ 64 → At a kv n (STEP^[n] V)
  | 0, _ => h
  | n + 1, hn => by
    rw [Function.iterate_succ_apply']
    exact step a kv n hn _ (after a kv V h n (by omega))

/-- The entry contents. -/
theorem out (a : FVec Ideal S64x4x48 .f32) (kv : FVec Ideal S64x4x48x96 .f32) (V : Valuation τ sig (Elt Ideal)) (h : At a kv 64 V)
    (n : Fin 64) (i : Fin 256) (j : Fin 384) : (out_main_v29 V (ix3 n i j) : EReal)
      = if h : i.val < 192 then (if i.val / 48 = j.val / 96 then st a kv (n.val + 1) ⟨i.val / 48, by omega⟩ ⟨i.val % 48, by omega⟩ ⟨j.val % 96, by omega⟩ else 0) else 0 := by
  unfold out_main_v29
  rw [h.o_eq]
  pointwise []
  by_cases hi : i.val < 192
  · rw [dif_pos hi, dif_pos hi]
    by_cases he : i.val / 48 = j.val / 96
    · rw [if_pos he]
      have hb : (BitVec.ofNat 32 (i.val / 48) == BitVec.ofNat 32 (j.val / 96)) = true := by rw [he]; exact beq_self_eq_true _
      simp only [Scalar.select, IntOp.cmpi, hb]
      rfl
    · rw [if_neg he]
      have hb : (BitVec.ofNat 32 (i.val / 48) == BitVec.ofNat 32 (j.val / 96)) = false := by
        rw [beq_eq_false_iff_ne]
        intro hc
        have h2 := congrArg BitVec.toNat hc
        rw [BitVec.toNat_ofNat, BitVec.toNat_ofNat] at h2
        omega
      simp only [Scalar.select, IntOp.cmpi, hb]
      exact (if_neg (by decide)).trans (Ideal.ofBits_zero .f32)
  · rw [dif_neg hi, dif_neg hi]
    simp [FloatOps.sitofp]

/-- A sum over the part of a window that lies inside. -/
theorem shifted (f : ℕ → EReal) (c : ℕ) (hc : c < 64) :
    (∑ e : Fin 64, if 63 ≤ c + e.val then f (c + e.val - 63) else 0) = ∑ e : Fin 64, if e.val ≤ c then f e.val else 0 := by
  rw [Fin.sum_univ_eq_sum_range (fun e => if 63 ≤ c + e then f (c + e - 63) else 0) 64,
    Fin.sum_univ_eq_sum_range (fun e => if e ≤ c then f e else 0) 64, ← Finset.sum_filter, ← Finset.sum_filter]
  refine Finset.sum_bij' (fun e _ => c + e - 63) (fun e _ => e + 63 - c) ?_ ?_ ?_ ?_ ?_
  all_goals
    intro e he
    have h := Finset.mem_filter.1 he
    have h1 := Finset.mem_range.1 h.1
    have h2 := h.2
    first
      | (refine Finset.mem_filter.2 ⟨Finset.mem_range.2 ?_, ?_⟩ <;> omega)
      | rfl
      | omega

end Cert.GlaRefIdeal.Loop
end
-- ==== Proof.GlaRefSum.lean ====
/- The reference's running sums, gate and decays. -/
module

public import proofs.«01_k».proof.Proof.GlaRef
public import Idealize.ShloMosaic.Lib.StableHlo.ReadAt
public import Idealize.ShloMosaic.Lib.Pointwise

@[expose] public section

set_option maxRecDepth 16384

noncomputable section

namespace Cert.GlaRefIdeal.Loop

open Cert.GlaRefIdeal Cert.GlaRefIdeal.Gen Cert.GlaRefIdeal.Value
open Idealize.ShloMosaic Idealize.ShloMosaic.TcCoe Idealize.ShloMosaic.StableHlo Idealize.SL.Sem

/-- The shape of the window. -/
abbrev W : Shape := ⟨4, ![1, 64, 1, 1]⟩

/-- The window's entry at `q`, `v` outside the array. -/
def entry (v : EReal) (x : FVec Ideal S64x64x4x48 .f32) (p : S64x64x4x48.Idx) (q : W.Idx) : EReal :=
  if hin : ∀ a : Fin 4, (![0, 63, 0, 0] : Fin 4 → ℕ) a ≤ (p a).val * (![1, 1, 1, 1] : Fin 4 → ℕ) a + (q a).val
      ∧ (p a).val * (![1, 1, 1, 1] : Fin 4 → ℕ) a + (q a).val - (![0, 63, 0, 0] : Fin 4 → ℕ) a < S64x64x4x48.size a then
    x fun a => ⟨(p a).val * (![1, 1, 1, 1] : Fin 4 → ℕ) a + (q a).val - (![0, 63, 0, 0] : Fin 4 → ℕ) a, (hin a).2⟩ else v

theorem entry_at (x : FVec Ideal S64x64x4x48 .f32) (n c e : Fin 64) (h : Fin 4) (i : Fin 48) :
    entry 0 x (ix4 n c h i) (ix4 0 e 0 0) = if 63 ≤ c.val + e.val then (if he : c.val + e.val - 63 < 64 then x (ix4 n ⟨c.val + e.val - 63, he⟩ h i) else 0) else 0 := by
  unfold entry
  by_cases hc : 63 ≤ c.val + e.val
  · have hq : c.val + e.val - 63 < 64 := by omega
    rw [if_pos hc, dif_pos hq]
    refine (dif_pos ?_).trans ?_
    rotate_left
    · refine congrArg x (funext fun a => Fin.ext ?_)
      match a with
      | ⟨0, _⟩ => show n.val * 1 + 0 - 0 = n.val; omega
      | ⟨1, _⟩ => show c.val * 1 + e.val - 63 = c.val + e.val - 63; omega
      | ⟨2, _⟩ => show h.val * 1 + 0 - 0 = h.val; omega
      | ⟨3, _⟩ => show i.val * 1 + 0 - 0 = i.val; omega
    · intro a
      match a with
      | ⟨0, _⟩ => show 0 ≤ n.val * 1 + 0 ∧ n.val * 1 + 0 - 0 < 64; omega
      | ⟨1, _⟩ => show 63 ≤ c.val * 1 + e.val ∧ c.val * 1 + e.val - 63 < 64; omega
      | ⟨2, _⟩ => show 0 ≤ h.val * 1 + 0 ∧ h.val * 1 + 0 - 0 < 4; omega
      | ⟨3, _⟩ => show 0 ≤ i.val * 1 + 0 ∧ i.val * 1 + 0 - 0 < 48; omega
  · rw [if_neg hc, dif_neg]
    intro hin
    have h1 : 63 ≤ c.val * 1 + e.val := (hin 1).1
    omega

theorem fold_at {n : ℕ} (f g : Fin n → EReal) (v : EReal) (hv : v = 0) (h : ∀ k, f k = g k) :
    List.foldl (fun r k => r + f k) v (List.finRange n) = List.foldl (fun r k => r + g k) 0 (List.finRange n) := by
  rw [hv, funext h]

set_option maxHeartbeats 4000000 in
/-- The running sum along the chunk. -/
theorem cumsum (x : FVec Ideal S64x64x4x48 .f32) (n c : Fin 64) (h : Fin 4) (i : Fin 48) :
    (Host.reduceWindowAdd ![1, 64, 1, 1] ![1, 1, 1, 1] ![0, 63, 0, 0] ![0, 0, 0, 0] x
      (broadcastInDim S_ ![] bcast_S_S_ (constant (F := Ideal) S_ .f32 0x00000000#32))
      reduceWindows_S64x64x4x48_S64x64x4x48_w1s1p0_0_w64s1p63_0_w1s1p0_0_w1s1p0_0 h_S_ (ix4 n c h i) : EReal)
      = ∑ e : Fin 64, if e.val ≤ c.val then x (ix4 n e h i) else 0 := by
  have key := shifted (fun e => if he : e < 64 then x (ix4 n ⟨e, he⟩ h i) else 0) c.val c.isLt
  refine Eq.trans ?_ (key.trans (Finset.sum_congr rfl fun e _ => by rw [dif_pos e.isLt]))
  unfold Host.reduceWindowAdd FloatOps.hostReduceWindowAdd instFloatOpsIdeal
  dsimp only
  unfold Ideal.hostReduceWindowAdd Host.reduceWindow
  dsimp only
  refine (fold_at (n := W.numel) _ (fun k => entry 0 x (ix4 n c h i) (W.rowMajor.symm k)) _ (Ideal.ofBits_zero .f32) fun k => ?_).trans ?_
  · unfold entry
    exact dite_congr rfl (fun _ => rfl) fun _ => Ideal.ofBits_zero .f32
  refine (sum_idx_eq_foldl W fun q => entry 0 x (ix4 n c h i) q).symm.trans ((sum_idx4 _).trans ?_)
  rw [Fin.sum_univ_one]
  refine Finset.sum_congr rfl fun e _ => ?_
  rw [Fin.sum_univ_one, Fin.sum_univ_one]
  exact entry_at x n c e h i

/-- The gate's logit. -/
def z (lr : FVec Ideal S4096x16 .f32) (w : FVec Ideal S16x192 .f32) (b : FVec Ideal S192 .f32) (r : Fin 4096) (k : Fin 192) : EReal :=
  ∑ x : Fin 16, lr (ix2 r x) * w (ix2 x k) + b (ix1 k)

/-- A sixteenth of the logarithm of the sigmoid. -/
def gate (y : EReal) : EReal :=
  Ideal.div (-(if -y ≠ -y then -y else max (-y) 0 + Ideal.log1p (Ideal.exp (-(max (-y) (- -y)))))) (Ideal.ofBits .f32 0x41800000#32)

/-- The logarithm of the decay, by chunk, row, head and column. -/
def la (lr : FVec Ideal S4096x16 .f32) (w : FVec Ideal S16x192 .f32) (b : FVec Ideal S192 .f32) : FVec Ideal S64x64x4x48 .f32 := fun i =>
  gate (z lr w b ⟨(i 0).val * 64 + (i 1).val, by have := (i 0).isLt; have := (i 1).isLt; change (i 0).val < 64 at *; change (i 1).val < 64 at *; omega⟩
    ⟨(i 2).val * 48 + (i 3).val, by have h2 : (i 2).val < 4 := (i 2).isLt; have h3 : (i 3).val < 48 := (i 3).isLt; omega⟩)

/-- Its running sum along the chunk. -/
def cs (l : FVec Ideal S64x64x4x48 .f32) (n c : Fin 64) (h : Fin 4) (i : Fin 48) : EReal :=
  ∑ e : Fin 64, if e.val ≤ c.val then l (ix4 n e h i) else 0

end Cert.GlaRefIdeal.Loop
end
-- ==== Proof.GlaRefEntry.lean ====
/- What the reference's loop starts from. -/
module

public import proofs.«01_k».proof.Proof.GlaRefSum
public import Idealize.ShloMosaic.Lib.StableHlo.ReadAt
public import Idealize.ShloMosaic.Lib.Pointwise

@[expose] public section

set_option maxRecDepth 16384

noncomputable section

namespace Cert.GlaRefIdeal.Loop

open Cert.GlaRefIdeal Cert.GlaRefIdeal.Gen Cert.GlaRefIdeal.Value
open Idealize.ShloMosaic Idealize.ShloMosaic.TcCoe Idealize.ShloMosaic.StableHlo Idealize.SL.Sem

/-- The decay of a chunk, and what it adds. -/
def da (l : FVec Ideal S64x64x4x48 .f32) : FVec Ideal S64x4x48 .f32 := fun y => Ideal.exp (cs l (y 0) 63 (y 1) (y 2))
def dkv (l : FVec Ideal S64x64x4x48 .f32) (k : FVec Ideal S4096x192 .f32) (v : FVec Ideal S4096x384 .f32) : FVec Ideal S64x4x48x96 .f32 := fun y =>
  ∑ r : Fin 64, ((k (ix2 ⟨(y 0).val * 64 + r.val, by have h : (y 0).val < 64 := (y 0).isLt; omega⟩ ⟨(y 1).val * 48 + (y 2).val, by have h : (y 1).val < 4 := (y 1).isLt; have h' : (y 2).val < 48 := (y 2).isLt; omega⟩) : EReal)
    * Ideal.exp (cs l (y 0) 63 (y 1) (y 2) - cs l (y 0) r (y 1) (y 2)))
    * (v (ix2 ⟨(y 0).val * 64 + r.val, by have h : (y 0).val < 64 := (y 0).isLt; omega⟩ ⟨(y 1).val * 96 + (y 3).val, by have h : (y 1).val < 4 := (y 1).isLt; have h' : (y 3).val < 96 := (y 3).isLt; omega⟩) : EReal)

/-- The product of a chunk's rows, head by head. -/
theorem bdot (l : FVec Ideal S64x64x4x48 .f32) (r : FVec Ideal S64x64x4x96 .f32) (n : Fin 64) (h : Fin 4) (i : Fin 48) (j : Fin 96) :
    Ideal.matmul dot_S64x64x4x48_S64x64x4x96_S64x4x48x96_1_1_3_3_02_02 l r (fun _ => 0) (ix4 n h i j) = ∑ x : Fin 64, (l (ix4 n x h i) : EReal) * r (ix4 n x h j) := by
  refine (Ideal.matmul_apply₁ _ (a := (1 : Fin 4)) rfl (K := 64) rfl l r _ _).trans ((zero_add _).trans (Finset.sum_congr rfl fun x _ => congrArg₂ (fun p q : EReal => p * q) (congrArg l ?_) (congrArg r ?_)))
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

variable (m : (ℓ : Loc nD τ sig) → Buf (Elt Ideal) ℓ)

set_option maxHeartbeats 4000000 in
theorem entry_a (c : Dev nD) (n : Fin 64) (h : Fin 4) (i : Fin 48) :
    ((entryContents preI m c (Proc.devRef .tc main_v21_0) : FVec Ideal S64x4x48 .f32) (ix3 n h i) : EReal)
      = Ideal.exp (cs (la (m ((c : Thread nD τ).loc main_arg4)) (m ((c : Thread nD τ).loc main_arg5)) (m ((c : Thread nD τ).loc main_arg6))) n 63 h i) := by
  simp only [entryContents, afterL_cons, afterL_nil]
  repeat after_reads_at
  pointwise []
  show Ideal.exp (Host.reduceWindowAdd ![1, 64, 1, 1] ![1, 1, 1, 1] ![0, 63, 0, 0] ![0, 0, 0, 0] (la (m ((c : Thread nD τ).loc main_arg4)) (m ((c : Thread nD τ).loc main_arg5)) (m ((c : Thread nD τ).loc main_arg6)))
      (broadcastInDim S_ ![] bcast_S_S_ (constant (F := Ideal) S_ .f32 0x00000000#32))
      reduceWindows_S64x64x4x48_S64x64x4x48_w1s1p0_0_w64s1p63_0_w1s1p0_0_w1s1p0_0 h_S_ (ix4 n 63 h i)) = _
  rw [cumsum]
  rfl

set_option maxHeartbeats 4000000 in
theorem entry_kv (c : Dev nD) (n : Fin 64) (h : Fin 4) (i : Fin 48) (j : Fin 96) :
    ((entryContents preI m c (Proc.devRef .tc main_v21_1) : FVec Ideal S64x4x48x96 .f32) (ix4 n h i j) : EReal)
      = dkv (la (m ((c : Thread nD τ).loc main_arg4)) (m ((c : Thread nD τ).loc main_arg5)) (m ((c : Thread nD τ).loc main_arg6))) (m ((c : Thread nD τ).loc main_arg1)) (m ((c : Thread nD τ).loc main_arg2)) (ix4 n h i j) := by
  simp only [entryContents, afterL_cons, afterL_nil]
  repeat after_reads_at
  show Ideal.matmul dot_S64x64x4x48_S64x64x4x96_S64x4x48x96_1_1_3_3_02_02 _ _ (fun _ => 0) (ix4 n h i j) = _
  rw [bdot]
  unfold dkv
  refine Finset.sum_congr rfl fun r _ => ?_
  pointwise []
  refine congrArg₂ (· * ·) (congrArg₂ (· * ·) rfl (congrArg Ideal.exp (congrArg₂ (· - ·)
    (cumsum (la (m ((c : Thread nD τ).loc main_arg4)) (m ((c : Thread nD τ).loc main_arg5)) (m ((c : Thread nD τ).loc main_arg6))) n 63 h i)
    (cumsum (la (m ((c : Thread nD τ).loc main_arg4)) (m ((c : Thread nD τ).loc main_arg5)) (m ((c : Thread nD τ).loc main_arg6))) n r h i)))) rfl

theorem entry_n (c : Dev nD) : (entryContents preI m c (Proc.devRef .tc main_v21_2) : IVec S_ 32) = fun _ => BitVec.ofNat 32 0 := by
  funext i
  simp only [entryContents, afterL_cons, afterL_nil]
  repeat after_reads_at
  rfl

theorem entry_s (c : Dev nD) : (entryContents preI m c (Proc.devRef .tc main_v21_3) : FVec Ideal S4x48x96 .f32) = fun _ => (0 : EReal) := by
  funext i
  simp only [entryContents, afterL_cons, afterL_nil]
  repeat after_reads_at
  all_goals first | rfl | exact Ideal.ofBits_zero .f32

theorem entry_o (c : Dev nD) : (entryContents preI m c (Proc.devRef .tc main_v21_4) : FVec Ideal S64x4x48x96 .f32) = fun _ => (0 : EReal) := by
  funext i
  simp only [entryContents, afterL_cons, afterL_nil]
  repeat after_reads_at
  all_goals first | rfl | exact Ideal.ofBits_zero .f32

theorem start (c : Dev nD) : At (da (la (m ((c : Thread nD τ).loc main_arg4)) (m ((c : Thread nD τ).loc main_arg5)) (m ((c : Thread nD τ).loc main_arg6))))
    (dkv (la (m ((c : Thread nD τ).loc main_arg4)) (m ((c : Thread nD τ).loc main_arg5)) (m ((c : Thread nD τ).loc main_arg6))) (m ((c : Thread nD τ).loc main_arg1)) (m ((c : Thread nD τ).loc main_arg2))) 0
    (entryContents preI m c) where
  a_eq := funext fun y => by
    have e : y = ix3 (y 0) (y 1) (y 2) := funext fun x => match x with | ⟨0, _⟩ => rfl | ⟨1, _⟩ => rfl | ⟨2, _⟩ => rfl
    rw [e]
    exact entry_a m c (y 0) (y 1) (y 2)
  kv_eq := funext fun y => by
    have e : y = ix4 (y 0) (y 1) (y 2) (y 3) := funext fun x => match x with | ⟨0, _⟩ => rfl | ⟨1, _⟩ => rfl | ⟨2, _⟩ => rfl | ⟨3, _⟩ => rfl
    rw [e]
    exact entry_kv m c (y 0) (y 1) (y 2) (y 3)
  n_eq := entry_n m c
  s_eq := entry_s m c
  o_eq := (entry_o m c).trans (funext fun y => (if_neg (Nat.not_lt_zero _)).symm)

end Cert.GlaRefIdeal.Loop
end
-- ==== Proof.GlaGrid.lean ====
/- The kernel's states in closed form: the recurrence over the 64 chunks, head by head. -/
module

public import proofs.«01_k».proof.Proof.Gen.GlaIdeal.Value
public import proofs.«01_k».proof.Proof.GlaHost
public import proofs.«01_k».proof.Proof.GlaPoint
public import proofs.«01_k».proof.Proof.GlaRefEntry

@[expose] public section

set_option maxRecDepth 16384

noncomputable section

namespace Cert.GlaIdeal.Grid

open Cert.GlaIdeal Cert.GlaIdeal.Gen Cert.GlaIdeal.Step Cert.GlaReal
open Cert.GlaRefIdeal.Loop (la cs da dkv st gate z)
open Idealize.ShloMosaic Idealize.ShloMosaic.TcCoe Idealize.SL.Sem
open Idealize.ShloMosaic.Pipeline (Dat)

theorem places : ∀ t : Fin cfg0.N, win0_0.index t = ![t.val, 0] ∧ win0_1.index t = ![0, 0] ∧ win0_2.index t = ![0, 0]
    ∧ win0_4.index t = ![0, 0] ∧ win0_6.index t = ![0, 0] ∧ win0_8.index t = ![t.val, 0, 0] ∧ t.val < 8 :=
  (by decide +kernel : ∀ t : Fin grid0.N, _)

theorem lt8 (t : Fin cfg0.N) : t.val < 8 := (places t).2.2.2.2.2.2

variable (m : (ℓ : Loc nD τ sig) → Buf (Elt Ideal) ℓ)

/-- The arguments by their places. -/
abbrev K (c : Dev nD) : FVec Ideal S4096x192 .f32 := m ((c : Thread nD τ).loc main_arg1)
abbrev Vl (c : Dev nD) : FVec Ideal S4096x384 .f32 := m ((c : Thread nD τ).loc main_arg2)
abbrev LR (c : Dev nD) : FVec Ideal S4096x16 .f32 := m ((c : Thread nD τ).loc main_arg4)
abbrev WG (c : Dev nD) : FVec Ideal S16x192 .f32 := m ((c : Thread nD τ).loc main_arg5)
abbrev BG (c : Dev nD) : FVec Ideal S192 .f32 := m ((c : Thread nD τ).loc main_arg6)

/-- The row of the array that row `n` of block `t` is. -/
abbrev at512 (t : Fin cfg0.N) (n : Fin 512) : Fin 4096 := ⟨t.val * 512 + n.val, by have h := lt8 t; omega⟩

theorem blk_k (c : Dev nD) (t : Fin cfg0.N) (q : Fin 512) (a : Fin 192) : (iblk m c 0 t (ix2 q ⟨256 + a.val, by omega⟩) : EReal) = K m c (ix2 (at512 t q) a) := by
  refine Eq.trans (b := V m c main_v3 (ix2 (at512 t q) ⟨256 + a.val, by omega⟩)) ?_ (Host.k_at m c _ a)
  blk_point [iblk, places t]

theorem blk_v (c : Dev nD) (t : Fin cfg0.N) (q : Fin 512) (b : Fin 384) : (iblk m c 0 t (ix2 q ⟨512 + b.val, by omega⟩) : EReal) = Vl m c (ix2 (at512 t q) b) := by
  refine Eq.trans (b := V m c main_v3 (ix2 (at512 t q) ⟨512 + b.val, by omega⟩)) ?_ (Host.v_at m c _ b)
  blk_point [iblk, places t]

theorem blk_lr (c : Dev nD) (t : Fin cfg0.N) (q : Fin 512) (e : Fin 128) : (iblk m c 0 t (ix2 q ⟨1280 + e.val, by omega⟩) : EReal)
    = if h : e.val < 16 then (LR m c (ix2 (at512 t q) ⟨e.val, h⟩) : EReal) else (0 : EReal) := by
  refine Eq.trans (b := V m c main_v3 (ix2 (at512 t q) ⟨1280 + e.val, by omega⟩)) ?_ (Host.lr_at m c _ e)
  blk_point [iblk, places t]

theorem blk_w (c : Dev nD) (t : Fin cfg0.N) (e : Fin 128) (a : Fin 192) : (iblk m c 1 t (ix2 e ⟨a.val, by omega⟩) : EReal)
    = if h : e.val < 16 then (WG m c (ix2 ⟨e.val, h⟩ a) : EReal) else (0 : EReal) := by
  refine Eq.trans (b := V m c main_v4 (ix2 e ⟨a.val, by omega⟩)) ?_ (Host.w_at m c e a)
  blk_point [iblk, places t]

theorem blk_b (c : Dev nD) (t : Fin cfg0.N) (a : Fin 192) : (iblk m c 2 t (ix2 0 ⟨a.val, by omega⟩) : EReal) = BG m c (ix1 a) := by
  refine Eq.trans (b := V m c main_v6 (ix2 0 ⟨a.val, by omega⟩)) ?_ (Host.bias_at m c a)
  blk_point [iblk, places t]

theorem blk_mask (c : Dev nD) (t : Fin cfg0.N) (a : Fin 256) (b : Fin 384) : (iblk m c 4 t (ix2 a b) : EReal)
    = if a.val < 192 ∧ a.val / 48 = b.val / 96 then (1 : EReal) else (0 : EReal) := by
  refine Eq.trans (b := V m c main_v44 (ix2 a b)) ?_ (Host.mask_at m c a b)
  blk_point [iblk, places t]

theorem blk_low (c : Dev nD) (t : Fin cfg0.N) (i j : Fin 64) : (iblk m c 6 t (ix2 i j) : EReal) = if j.val ≤ i.val then (1 : EReal) else (0 : EReal) := by
  refine Eq.trans (b := V m c main_v76 (ix2 i j)) ?_ (Host.low_at m c i j)
  blk_point [iblk, places t]

section
variable (c : Dev nD) (hLR : ∀ i, ∃ r : ℝ, LR m c i = (r : EReal)) (hWG : ∀ i, ∃ r : ℝ, WG m c i = (r : EReal))
include hLR hWG

theorem logit (t : Fin cfg0.N) (q : Fin 512) (a : Fin 192) :
    T3 (iblk m c 1 t) (iblk m c 2 t) (fun y => iblk m c 0 t (ix2 (y 0) ⟨1280 + (y 1).val, by have h : (y 1).val < 128 := (y 1).isLt; omega⟩)) q ⟨a.val, by omega⟩
      = z (LR m c) (WG m c) (BG m c) (at512 t q) a := by
  have hl : ∀ e : Fin 128, ∃ r : ℝ, (iblk m c 0 t (ix2 q ⟨1280 + e.val, by omega⟩) : EReal) = (r : EReal) := fun e => by
    rw [blk_lr]
    by_cases h : e.val < 16
    · rw [dif_pos h]; exact hLR _
    · rw [dif_neg h]; exact ⟨0, rfl⟩
  have hw : ∀ e : Fin 128, ∃ r : ℝ, (iblk m c 1 t (ix2 e ⟨a.val, by omega⟩) : EReal) = (r : EReal) := fun e => by
    rw [blk_w]
    by_cases h : e.val < 16
    · rw [dif_pos h]; exact hWG _
    · rw [dif_neg h]; exact ⟨0, rfl⟩
  unfold T3 z
  refine congrArg₂ (· + ·) ((parts (fun e => iblk m c 0 t (ix2 q ⟨1280 + e.val, by omega⟩)) (fun e => iblk m c 1 t (ix2 e ⟨a.val, by omega⟩)) hl hw).trans
    ((pad_sum _ fun e h => ?_).trans (Finset.sum_congr rfl fun e _ => ?_))) (blk_b m c t a)
  · refine (congrArg (fun p : EReal => p * (iblk m c 1 t (ix2 e ⟨a.val, by omega⟩) : EReal)) ((blk_lr m c t q e).trans (dif_neg (by omega)))).trans ?_
    exact zero_mul (M₀ := EReal) _
  · refine congrArg₂ (fun p q : EReal => p * q) ((blk_lr m c t q ⟨e.val, by omega⟩).trans (dif_pos e.isLt)) ((blk_w m c t ⟨e.val, by omega⟩ a).trans (dif_pos e.isLt))

/-- The logarithm of the decay. -/
abbrev A (m : (ℓ : Loc nD τ sig) → Buf (Elt Ideal) ℓ) (c : Dev nD) := la (LR m c) (WG m c) (BG m c)

theorem gp_eq (t : Fin cfg0.N) (r : Fin 8) (x : Fin 64) (a : Fin 256) (ha : a.val < 192) :
    Gp (iblk m c 0 t) (iblk m c 1 t) (iblk m c 2 t) (row r x) a
      = A m c (ix4 ⟨(t.val * 8 + r.val) % 64, Nat.mod_lt _ (by decide)⟩ x ⟨a.val / 48, by omega⟩ ⟨a.val % 48, Nat.mod_lt _ (by decide)⟩) := by
  have h8 := lt8 t
  refine (sixteenth_eq _).trans ?_
  refine (congrArg (fun y => Ideal.div y (Ideal.ofBits .f32 0x41800000#32)) ((ls_eq _).1.trans (congrArg lsr ((logit m c hLR hWG t (row r x) ⟨a.val, ha⟩).trans ?_)))).trans rfl
  refine congrArg₂ (z (LR m c) (WG m c) (BG m c)) (Fin.ext ?_) (Fin.ext ?_)
  · show t.val * 512 + (r.val * 64 + x.val) = (t.val * 8 + r.val) % 64 * 64 + x.val
    omega
  · show a.val = a.val / 48 * 48 + a.val % 48
    omega

theorem run_eq (t : Fin cfg0.N) (r : Fin 8) (x : Fin 64) (a : Fin 256) (ha : a.val < 192) :
    run (fun x => Gp (iblk m c 0 t) (iblk m c 1 t) (iblk m c 2 t) (row r x) a) x.val
      = cs (A m c) ⟨(t.val * 8 + r.val) % 64, Nat.mod_lt _ (by decide)⟩ x ⟨a.val / 48, by omega⟩ ⟨a.val % 48, Nat.mod_lt _ (by decide)⟩ := by
  unfold run cs
  exact Finset.sum_congr rfl fun e _ => if_congr Iff.rfl (gp_eq m c hLR hWG t r e a ha) rfl

theorem full_eq (t : Fin cfg0.N) (r : Fin 8) (a : Fin 256) (ha : a.val < 192) :
    (∑ x, Gp (iblk m c 0 t) (iblk m c 1 t) (iblk m c 2 t) (row r x) a)
      = cs (A m c) ⟨(t.val * 8 + r.val) % 64, Nat.mod_lt _ (by decide)⟩ 63 ⟨a.val / 48, by omega⟩ ⟨a.val % 48, Nat.mod_lt _ (by decide)⟩ := by
  unfold cs
  refine Finset.sum_congr rfl fun e _ => ?_
  rw [gp_eq m c hLR hWG t r e a ha, if_pos (show e.val ≤ (63 : Fin 64).val from Nat.le_of_lt_succ e.isLt)]

/-- The state after `n` chunks: its blocks on the diagonal are the heads' states, everything else is zero. -/
def S (m : (ℓ : Loc nD τ sig) → Buf (Elt Ideal) ℓ) (c : Dev nD) (n : ℕ) (a : Fin 256) (b : Fin 384) : EReal :=
  if h : a.val < 192 then (if a.val / 48 = b.val / 96 then
    st (da (A m c)) (dkv (A m c) (K m c) (Vl m c)) n ⟨a.val / 48, by omega⟩ ⟨a.val % 48, by omega⟩ ⟨b.val % 96, by omega⟩ else 0) else 0

theorem S_in (n : ℕ) (a : Fin 256) (b : Fin 384) (h : a.val < 192) (h' : a.val / 48 = b.val / 96) :
    S m c n a b = st (da (A m c)) (dkv (A m c) (K m c) (Vl m c)) n ⟨a.val / 48, by omega⟩ ⟨a.val % 48, by omega⟩ ⟨b.val % 96, by omega⟩ := by
  unfold S
  rw [dif_pos h, if_pos h']

theorem S_out (n : ℕ) (a : Fin 256) (b : Fin 384) (h : ¬(a.val < 192 ∧ a.val / 48 = b.val / 96)) : S m c n a b = 0 := by
  unfold S
  by_cases h1 : a.val < 192
  · rw [dif_pos h1, if_neg fun h2 => h ⟨h1, h2⟩]
  · rw [dif_neg h1]

variable (arg1 : Memref sig .tc .vmem S512x1408 .f32) (harg1 : arg1.IsWhole) (arg2 : Memref sig .tc .vmem S128x256 .f32) (harg2 : arg2.IsWhole)
  (arg3 : Memref sig .tc .vmem S1x256 .f32) (harg3 : arg3.IsWhole) (arg5 : Memref sig .tc .vmem S256x384 .f32) (harg5 : arg5.IsWhole)
  (arg7 : Memref sig .tc .vmem S64x64 .bf16) (harg7 : arg7.IsWhole)

theorem chunks (t : Fin cfg0.N) (s : FVec Ideal S256x384 .f32) (a : Fin 256) (b : Fin 384) (hs : (s (ix2 a b) : EReal) = S m c (t.val * 8) a b) : ∀ (n : ℕ) (hn : n ≤ 8),
    (sts (F := Ideal) arg1 harg1 arg2 harg2 arg3 harg3 arg5 harg5 arg7 harg7 (iblk m c 0 t) (iblk m c 1 t) (iblk m c 2 t) (iblk m c 4 t) (iblk m c 6 t) s n hn (ix2 a b) : EReal)
      = S m c (t.val * 8 + n) a b
  | 0, _ => hs
  | n + 1, hn => by
    have h8 := lt8 t
    refine (sts_succ arg1 harg1 arg2 harg2 arg3 harg3 arg5 harg5 arg7 harg7 (iblk m c 0 t) (iblk m c 1 t) (iblk m c 2 t) (iblk m c 4 t) (iblk m c 6 t) (blk_low m c t) s n hn a b).trans ?_
    rw [chunks t s a b hs n (Nat.le_of_succ_le hn), blk_mask]
    by_cases h : a.val < 192 ∧ a.val / 48 = b.val / 96
    · have ha := h.1
      rw [if_pos h, mul_one, S_in m c hLR hWG _ a b h.1 h.2, S_in m c hLR hWG _ a b h.1 h.2, full_eq m c hLR hWG t ⟨n, hn⟩ a h.1]
      refine congrArg₂ (· + ·) rfl (Finset.sum_congr rfl fun x _ => ?_)
      refine congrArg₂ (fun p q : EReal => p * q) (congrArg₂ (fun p q : EReal => p * q) ((blk_k m c t (row ⟨n, hn⟩ x) ⟨a.val, h.1⟩).trans (congrArg (K m c) ?_))
        (congrArg Ideal.exp (congrArg₂ (fun p q : EReal => p - q) (run_eq m c hLR hWG t ⟨n, hn⟩ 63 a h.1) (run_eq m c hLR hWG t ⟨n, hn⟩ x a h.1)))) ((blk_v m c t (row ⟨n, hn⟩ x) b).trans (congrArg (Vl m c) ?_))
      · refine congrArg₂ ix2 (Fin.ext ?_) (Fin.ext ?_)
        · show t.val * 512 + (n * 64 + x.val) = (t.val * 8 + n) % 64 * 64 + x.val
          omega
        · show a.val = a.val / 48 * 48 + a.val % 48
          omega
      · refine congrArg₂ ix2 (Fin.ext ?_) (Fin.ext ?_)
        · show t.val * 512 + (n * 64 + x.val) = (t.val * 8 + n) % 64 * 64 + x.val
          omega
        · show b.val = a.val / 48 * 96 + b.val % 96
          omega
    · rw [if_neg h, mul_zero, S_out m c hLR hWG _ a b h, S_out m c hLR hWG _ a b h, mul_zero, add_zero]

end

section
variable (i : grid0.Coords)
  (arg1 : Memref sig .tc .vmem S512x1408 .f32) (harg1 : arg1.IsWhole) (arg2 : Memref sig .tc .vmem S128x256 .f32) (harg2 : arg2.IsWhole)
  (arg3 : Memref sig .tc .vmem S1x256 .f32) (harg3 : arg3.IsWhole) (arg4 : Memref sig .tc .vmem S1x384 .f32) (harg4 : arg4.IsWhole)
  (arg5 : Memref sig .tc .vmem S256x384 .f32) (harg5 : arg5.IsWhole) (arg6 : Memref sig .tc .vmem S384x384 .bf16) (harg6 : arg6.IsWhole)
  (arg7 : Memref sig .tc .vmem S64x64 .bf16) (harg7 : arg7.IsWhole) (arg8 : Memref sig .tc .vmem S512x384 .bf16) (harg8 : arg8.IsWhole)
  (arg9 : Memref sig .tc .vmem S8x256x384 .f32) (harg9 : arg9.IsWhole) (arg10 : Memref sig .tc .vmem S256x384 .f32) (harg10 : arg10.IsWhole)
  (x0 : Vec Ideal S512x1408 .f32) (x1 : Vec Ideal S128x256 .f32) (x2 : Vec Ideal S1x256 .f32) (x3 : Vec Ideal S1x384 .f32) (x4 : Vec Ideal S256x384 .f32)
  (x5 : Vec Ideal S384x384 .bf16) (x6 : Vec Ideal S64x64 .bf16) (xs0 : Vec Ideal S256x384 .f32) (c : Dev nD)

theorem carried_A (hc0 : cond0_0 i) : sout0_A_0 (F := Ideal) c i arg1 harg1 arg2 harg2 arg3 harg3 arg4 harg4 arg5 harg5 arg6 harg6 arg7 harg7 arg8 harg8 arg9 harg9 arg10 harg10 hc0 x0 x1 x2 x3 x4 x5 x6
    = sts (F := Ideal) arg1 harg1 arg2 harg2 arg3 harg3 arg5 harg5 arg7 harg7 x0 x1 x2 x4 x6 (fun _ => (0 : EReal)) 8 le_rfl := by
  funext y
  unfold sout0_A_0
  rw [scr_A, s0A_eq, keep_at]
  exact all_hit _ _ _ _ y

theorem carried_B (hc0 : ¬cond0_0 i) : sout0_B_0 (F := Ideal) c i arg1 harg1 arg2 harg2 arg3 harg3 arg4 harg4 arg5 harg5 arg6 harg6 arg7 harg7 arg8 harg8 arg9 harg9 arg10 harg10 hc0 x0 x1 x2 x3 x4 x5 x6 xs0
    = sts (F := Ideal) arg1 harg1 arg2 harg2 arg3 harg3 arg5 harg5 arg7 harg7 x0 x1 x2 x4 x6 xs0 8 le_rfl := by
  funext y
  unfold sout0_B_0
  rw [scr_B, s0B_eq, keep_at]
  exact all_hit _ _ _ _ y

theorem stored_A (hc0 : cond0_0 i) (r : Fin 8) (a : Fin 256) (b : Fin 384) : out0_A_8 (F := Ideal) c i arg1 harg1 arg2 harg2 arg3 harg3 arg4 harg4 arg5 harg5 arg6 harg6 arg7 harg7 arg8 harg8 arg9 harg9 arg10 harg10 hc0 x0 x1 x2 x3 x4 x5 x6 (ix3 r a b)
    = sts (F := Ideal) arg1 harg1 arg2 harg2 arg3 harg3 arg5 harg5 arg7 harg7 x0 x1 x2 x4 x6 (fun _ => (0 : EReal)) (r.val + 1) r.isLt (ix2 a b) := by
  unfold out0_A_8
  rw [out_A, s0A_eq]
  refine (stores_at _ _ _ r a b 8 le_rfl r.isLt).trans ?_
  unfold stsN
  rw [dif_pos]

theorem stored_B (hc0 : ¬cond0_0 i) (r : Fin 8) (a : Fin 256) (b : Fin 384) : out0_B_8 (F := Ideal) c i arg1 harg1 arg2 harg2 arg3 harg3 arg4 harg4 arg5 harg5 arg6 harg6 arg7 harg7 arg8 harg8 arg9 harg9 arg10 harg10 hc0 x0 x1 x2 x3 x4 x5 x6 xs0 (ix3 r a b)
    = sts (F := Ideal) arg1 harg1 arg2 harg2 arg3 harg3 arg5 harg5 arg7 harg7 x0 x1 x2 x4 x6 xs0 (r.val + 1) r.isLt (ix2 a b) := by
  unfold out0_B_8
  rw [out_B, s0B_eq]
  refine (stores_at _ _ _ r a b 8 le_rfl r.isLt).trans ?_
  unfold stsN
  rw [dif_pos]
end

section
variable (c : Dev nD) (hLR : ∀ i, ∃ r : ℝ, LR m c i = (r : EReal)) (hWG : ∀ i, ∃ r : ℝ, WG m c i = (r : EReal))
include hLR hWG

theorem S_zero (a : Fin 256) (b : Fin 384) : S m c 0 a b = 0 := by
  unfold S
  by_cases h1 : a.val < 192
  · rw [dif_pos h1]
    by_cases h2 : a.val / 48 = b.val / 96
    · rw [if_pos h2]; rfl
    · rw [if_neg h2]
  · rw [dif_neg h1]

/-- The state a point leaves to the next. -/
theorem carried : ∀ (n : ℕ) (hn : n < cfg0.N) (a : Fin 256) (b : Fin 384), ((outsAt0 m c n hn).2.2 (ix2 a b) : EReal) = S m c (n * 8 + 8) a b
  | 0, hn, a, b => by
    rw [outsAt0_A m c ⟨0, hn⟩ (Nat.zero_mod _)]
    dsimp only
    rw [carried_A]
    exact chunks m c hLR hWG _ _ _ _ _ _ _ _ _ _ ⟨0, hn⟩ _ a b (S_zero m c hLR hWG a b).symm 8 le_rfl
  | n + 1, hn, a, b => by
    have h8 := lt8 ⟨n + 1, hn⟩
    have h8' : n + 1 < 8 := h8
    rw [outsAt0_B m c ⟨n + 1, hn⟩ (by show ¬(n + 1) % 8 = 0; omega)]
    dsimp only
    rw [carried_B]
    refine chunks m c hLR hWG _ _ _ _ _ _ _ _ _ _ ⟨n + 1, hn⟩ _ a b ?_ 8 le_rfl
    refine (carried n (by omega) a b).trans (congrArg (fun k => S m c k a b) ?_)
    show n * 8 + 8 = (n + 1) * 8
    omega

/-- The states a point stores. -/
theorem stored (t : Fin cfg0.N) (r : Fin 8) (a : Fin 256) (b : Fin 384) : ((outsAt0 m c t.val t.isLt).2.1 (ix3 r a b) : EReal) = S m c (t.val * 8 + r.val + 1) a b := by
  have h8 := lt8 t
  by_cases h0 : t.val % 8 = 0
  · rw [outsAt0_A m c t h0]
    dsimp only
    rw [stored_A]
    refine chunks m c hLR hWG _ _ _ _ _ _ _ _ _ _ t _ a b ?_ (r.val + 1) r.isLt
    rw [show t.val * 8 = 0 by omega]
    exact (S_zero m c hLR hWG a b).symm
  · rw [outsAt0_B m c t h0]
    dsimp only
    rw [stored_B]
    refine chunks m c hLR hWG _ _ _ _ _ _ _ _ _ _ t _ a b ?_ (r.val + 1) r.isLt
    refine (carried m c hLR hWG (t.val - 1) _ a b).trans (congrArg (fun k => S m c k a b) ?_)
    omega

theorem result (i : S64x256x384.Idx) : ((Gen.dats m 0 c).arrAt 8 (cfgs 0).N i : EReal) = S m c ((i 0).val + 1) (i 1) (i 2) := by
  refine congrFun (f := (Gen.dats m 0 c).arrAt 8 (cfgs 0).N) (g := fun i : S64x256x384.Idx => S m c ((i 0).val + 1) (i 1) (i 2)) ?_ i
  refine (Gen.dats m 0 c).arrAt_eq_of_covers 8 _ (by decide +kernel) fun t hf y => ?_
  blk_simp
  rw [after0_8]
  have h := (places t).2.2.2.2.2.1
  have ey : y = ix3 (y 0) (y 1) (y 2) := funext fun x => match x with | ⟨0, _⟩ => rfl | ⟨1, _⟩ => rfl | ⟨2, _⟩ => rfl
  refine Eq.trans ((congrArg (outsAt0 m c t.val t.isLt).2.1 ey).trans (stored m c hLR hWG t (y 0) (y 1) (y 2))) ?_
  have e0 : win0_8.index t 0 = t.val := by rw [h]; rfl
  have e1 : y 1 = (win0_8.blk t).view.emb y 1 := Fin.ext (by
    blk_point [places t])
  have e2 : y 2 = (win0_8.blk t).view.emb y 2 := Fin.ext (by
    blk_point [places t])
  rw [e0]
  exact congrArg₂ (S m c (t.val * 8 + (y 0).val + 1)) e1 e2
end

end Cert.GlaIdeal.Grid
end
-- ==== Proof.Gla.lean ====
/- The states of the gated recurrence, forward. -/
module

public import proofs.«01_k».proof.Proof.GlaGrid
public import proofs.«01_k».proof.Proof.Dc
public import proofs.«01_k».proof.Proof.Gen.GlaIdeal.Value
public import proofs.«01_k».proof.Proof.Gen.GlaRefIdeal.Run
public import proofs.«01_k».proof.Proof.Gen.Gla.Frame
public import proofs.«01_k».proof.Defs
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.GlaIdeal.Gla

open Cert.GlaIdeal Cert.GlaIdeal.Gen Cert.GlaIdeal.Grid
open Cert.GlaRefIdeal.Loop (la da dkv)
open Idealize.ShloMosaic Idealize.ShloMosaic.TcCoe Idealize.SL.Sem

instance finiteFacts : Cert.Pre_finite_gla.Facts where
  bcast_S_S4096x16 := by decide
  bcast_S_S16x192 := by decide

variable (m : (ℓ : Loc nD τ sig) → Buf (Elt Ideal) ℓ)

theorem ix3_eta {a b d : ℕ} (i : (⟨3, ![a, b, d]⟩ : Shape).Idx) : i = ix3 (i 0) (i 1) (i 2) :=
  funext fun x => match x with | ⟨0, _⟩ => rfl | ⟨1, _⟩ => rfl | ⟨2, _⟩ => rfl

set_option maxHeartbeats 1600000 in
theorem same : Cert.algebraic_GlaIdeal_GlaRefIdeal_pre_finite_gla := by
  pair_intro
  · run_from Cert.GlaIdeal.Gen.run_main m g
    · exact V_main_arg0 m c
    · exact V_main_arg1 m c
    · exact V_main_arg2 m c
    · exact V_main_arg3 m c
    · exact V_main_arg4 m c
    · exact V_main_arg5 m c
    · exact V_main_arg6 m c
    · exact V_main_arg7 m c
  · run_from Cert.GlaRefIdeal.Value.run m' g'
    have hp := hpre c
    obtain ⟨p4, p5⟩ := hp
    obtain ⟨h0, h1, h2, h3, h4, h5, h6, h7⟩ := hagree c
    funext i
    refine Eq.trans ?_ (result m c (fun i => Cert.DcIdeal.Dc.finite _ (congrFun p4 i)) (fun i => Cert.DcIdeal.Dc.finite _ (congrFun p5 i)) i).symm
    have e := Cert.GlaRefIdeal.Loop.out _ _ _ (Cert.GlaRefIdeal.Loop.after _ _ _ (Cert.GlaRefIdeal.Loop.start m' c) 64 le_rfl) (i 0) (i 1) (i 2)
    rw [h1, h2, h4, h5, h6] at e
    exact (congrArg _ (ix3_eta i)).trans e

end Cert.GlaIdeal.Gla
end
-- ==== Proof.lean ====
module

public import proofs.«01_k».proof.Defs
public import proofs.«01_k».proof.Proof.Gen.Down.Frame
public import proofs.«01_k».proof.Proof.Gen.Loss.Frame
public import proofs.«01_k».proof.Proof.Down
public import proofs.«01_k».proof.Proof.Loss
public import proofs.«01_k».proof.Proof.Up
public import proofs.«01_k».proof.Proof.Gen.Up.Frame
public import proofs.«01_k».proof.Proof.Proj
public import proofs.«01_k».proof.Proof.Gen.Proj.Frame
public import proofs.«01_k».proof.Proof.Glu
public import proofs.«01_k».proof.Proof.Gen.Glu.Frame
public import proofs.«01_k».proof.Proof.Dc
public import proofs.«01_k».proof.Proof.Fan
public import proofs.«01_k».proof.Proof.MlpDown
public import proofs.«01_k».proof.Proof.MlpUp
public import proofs.«01_k».proof.Proof.Conv
public import proofs.«01_k».proof.Proof.DownDw
public import proofs.«01_k».proof.Proof.Gen.Dc.Frame
public import proofs.«01_k».proof.Proof.Gen.Gla.Frame
public import proofs.«01_k».proof.Proof.Gen.GlaIdeal.Frame
public import proofs.«01_k».proof.Proof.Gen.GlaRefIdeal.Run
public import proofs.«01_k».proof.Proof.Gla
public import proofs.«01_k».proof.Proof.Gen.Att.Frame
public import proofs.«01_k».proof.Proof.Gen.AttIdeal.Frame
public import proofs.«01_k».proof.Proof.Gen.AttRefIdeal.Run
public import Idealize.ShloMosaic.Adequacy
public import Idealize.ShloMosaic.Init

@[expose] public section

noncomputable section

namespace Cert.Proof

open Idealize.ShloMosaic Idealize.SL.Sem

theorem claim : Cert.Claim := ⟨Cert.Down.Gen.facts, Cert.DownIdeal.Gen.facts, Cert.DownRefIdeal.Gen.facts,
  Cert.Loss.Gen.facts, Cert.LossIdeal.Gen.facts, Cert.LossRefIdeal.Gen.facts,
  Cert.Up.Gen.facts, Cert.UpIdeal.Gen.facts, Cert.UpRefIdeal.Gen.facts,
  Cert.Proj.Gen.facts, Cert.ProjIdeal.Gen.facts, Cert.ProjRefIdeal.Gen.facts,
  Cert.Glu.Gen.facts, Cert.GluIdeal.Gen.facts, Cert.GluRefIdeal.Gen.facts,
  Cert.Dc.Gen.facts, Cert.DcIdeal.Gen.facts, Cert.DcRefIdeal.Gen.facts,
  Cert.DownDw.Gen.facts, Cert.DownDwIdeal.Gen.facts, Cert.DownDwRefIdeal.Gen.facts,
  Cert.Conv.Gen.facts, Cert.ConvIdeal.Gen.facts, Cert.ConvRefIdeal.Gen.facts,
  Cert.MlpUp.Gen.facts, Cert.MlpUpIdeal.Gen.facts, Cert.MlpUpRefIdeal.Gen.facts,
  Cert.MlpDown.Gen.facts, Cert.MlpDownIdeal.Gen.facts, Cert.MlpDownRefIdeal.Gen.facts,
  Cert.Fan.Gen.facts, Cert.FanIdeal.Gen.facts, Cert.FanRefIdeal.Gen.facts,
  Cert.Gla.Gen.facts, Cert.GlaIdeal.Gen.facts, Cert.GlaRefIdeal.Gen.facts,
  Cert.Att.Gen.facts, Cert.AttIdeal.Gen.facts, Cert.AttRefIdeal.Gen.facts,
  Cert.DcIdeal.Dc.finiteFacts, Cert.GlaIdeal.Gla.finiteFacts,
  fun m g _ => Cert.Down.Gen.frame m g, fun m g _ => Cert.DownIdeal.Gen.frame m g,
  fun m g _ => (θ_run _ _ _).mono (fun r h => ⟨fun c => (h c).2, sem_eq_zero_of_no_sems rfl _⟩) (Cert.DownRefIdeal.Value.run m g),
  fun m g _ => Cert.Loss.Gen.frame m g, fun m g _ => Cert.LossIdeal.Gen.frame m g,
  fun m g _ => (θ_run _ _ _).mono (fun r h => ⟨fun c => (h c).2.2.2, sem_eq_zero_of_no_sems rfl _⟩) (Cert.LossRefIdeal.Value.run m g),
  fun m g _ => Cert.Up.Gen.frame m g, fun m g _ => Cert.UpIdeal.Gen.frame m g,
  fun m g _ => (θ_run _ _ _).mono (fun r h => ⟨fun c => (h c).2.2, sem_eq_zero_of_no_sems rfl _⟩) (Cert.UpRefIdeal.Value.run m g),
  fun m g _ => Cert.Proj.Gen.frame m g, fun m g _ => Cert.ProjIdeal.Gen.frame m g,
  fun m g _ => (θ_run _ _ _).mono (fun r h => ⟨fun c => (h c).2.2, sem_eq_zero_of_no_sems rfl _⟩) (Cert.ProjRefIdeal.Value.run m g),
  fun m g _ => Cert.Glu.Gen.frame m g, fun m g _ => Cert.GluIdeal.Gen.frame m g,
  fun m g _ => (θ_run _ _ _).mono (fun r h => ⟨fun c => (h c).2, sem_eq_zero_of_no_sems rfl _⟩) (Cert.GluRefIdeal.Value.run m g),
  fun m g _ => Cert.Dc.Gen.frame m g, fun m g _ => Cert.DcIdeal.Gen.frame m g, fun m g _ => Cert.DcIdeal.Gen.frame m g,
  fun m g _ => (θ_run _ _ _).mono (fun r h => ⟨fun c => (h c).2.2.2.2.2, sem_eq_zero_of_no_sems rfl _⟩) (Cert.DcRefIdeal.Value.run m g),
  fun m g _ => (θ_run _ _ _).mono (fun r h => ⟨fun c => (h c).2.2.2.2.2, sem_eq_zero_of_no_sems rfl _⟩) (Cert.DcRefIdeal.Value.run m g),
  fun m g _ => Cert.DownDw.Gen.frame m g, fun m g _ => Cert.DownDwIdeal.Gen.frame m g,
  fun m g _ => (θ_run _ _ _).mono (fun r h => ⟨fun c => (h c).2, sem_eq_zero_of_no_sems rfl _⟩) (Cert.DownDwRefIdeal.Value.run m g),
  fun m g _ => Cert.Conv.Gen.frame m g, fun m g _ => Cert.ConvIdeal.Gen.frame m g,
  fun m g _ => (θ_run _ _ _).mono (fun r h => ⟨fun c => (h c).2.2, sem_eq_zero_of_no_sems rfl _⟩) (Cert.ConvRefIdeal.Value.run m g),
  fun m g _ => Cert.MlpUp.Gen.frame m g, fun m g _ => Cert.MlpUpIdeal.Gen.frame m g,
  fun m g _ => (θ_run _ _ _).mono (fun r h => ⟨fun c => (h c).2.2, sem_eq_zero_of_no_sems rfl _⟩) (Cert.MlpUpRefIdeal.Value.run m g),
  fun m g _ => Cert.MlpDown.Gen.frame m g, fun m g _ => Cert.MlpDownIdeal.Gen.frame m g,
  fun m g _ => (θ_run _ _ _).mono (fun r h => ⟨fun c => (h c).2, sem_eq_zero_of_no_sems rfl _⟩) (Cert.MlpDownRefIdeal.Value.run m g),
  fun m g _ => Cert.Fan.Gen.frame m g, fun m g _ => Cert.FanIdeal.Gen.frame m g,
  fun m g _ => (θ_run _ _ _).mono (fun r h => ⟨fun c => (h c).2.2.2.2, sem_eq_zero_of_no_sems rfl _⟩) (Cert.FanRefIdeal.Value.run m g),
  fun m g _ => Cert.Gla.Gen.frame m g, fun m g _ => Cert.GlaIdeal.Gen.frame m g, fun m g _ => Cert.GlaIdeal.Gen.frame m g,
  fun m g _ => (θ_run _ _ _).mono (fun r h => ⟨fun c => (h c).2, sem_eq_zero_of_no_sems rfl _⟩) (Cert.GlaRefIdeal.Value.run m g),
  fun m g _ => (θ_run _ _ _).mono (fun r h => ⟨fun c => (h c).2, sem_eq_zero_of_no_sems rfl _⟩) (Cert.GlaRefIdeal.Value.run m g),
  fun m g _ => Cert.Att.Gen.frame m g, fun m g _ => Cert.AttIdeal.Gen.frame m g,
  fun m g _ => (θ_run _ _ _).mono (fun r h => ⟨fun c => (h c).2, sem_eq_zero_of_no_sems rfl _⟩) (Cert.AttRefIdeal.Value.run m g),
  trivial, Cert.DownIdeal.Down.same, trivial, Cert.LossIdeal.Loss.same, trivial, Cert.UpIdeal.Up.same, trivial, Cert.ProjIdeal.Proj.same, trivial, Cert.GluIdeal.Glu.same, trivial, Cert.DcIdeal.Dc.same,
  trivial, Cert.DownDwIdeal.DownDw.same,
  trivial, Cert.ConvIdeal.Conv.same,
  trivial, Cert.MlpUpIdeal.MlpUp.same,
  trivial, Cert.MlpDownIdeal.MlpDown.same,
  trivial, Cert.FanIdeal.Fan.same,
  trivial, Cert.GlaIdeal.Gla.same,
  trivial⟩

end Cert.Proof
end
